-- ==== Defs.lean ====
def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_RefGmlpIdeal (m : (ℓ : Loc Cert.RefGmlpIdeal.nD Cert.RefGmlpIdeal.τ Cert.RefGmlpIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_FfnNext (m : (ℓ : Loc Cert.FfnNext.nD Cert.FfnNext.τ Cert.FfnNext.sig) → Buf (Elt Bits) ℓ) : Prop :=
  True

def Pre_FfnNextIdeal (m : (ℓ : Loc Cert.FfnNextIdeal.nD Cert.FfnNextIdeal.τ Cert.FfnNextIdeal.sig) → Buf (Elt Ideal) ℓ) : Prop :=
  True

def Pre_RefFfnNextIdeal (m : (ℓ : Loc Cert.RefFfnNextIdeal.nD Cert.RefFfnNextIdeal.τ Cert.RefFfnNextIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2.2.2 = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite_inputs [hPre_finite_inputs : Cert.Pre_finite_inputs.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite_inputs.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6))).1 = (fun _ => 1#1)
    ∧ (Cert.Pre_finite_inputs.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6))).2.1 = (fun _ => 1#1)
    ∧ (Cert.Pre_finite_inputs.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6))).2.2.1 = (fun _ => 1#1)
    ∧ (Cert.Pre_finite_inputs.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6))).2.2.2.1 = (fun _ => 1#1)
    ∧ (Cert.Pre_finite_inputs.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6))).2.2.2.2 = (fun _ => 1#1)

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RefRwkvIdeal (m : (ℓ : Loc Cert.RefRwkvIdeal.nD Cert.RefRwkvIdeal.τ Cert.RefRwkvIdeal.sig) → Buf (Elt Ideal) ℓ) : Prop :=
  True

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_RefGmlpIdeal [hRefGmlpIdeal : Cert.RefGmlpIdeal.Facts] : Prop :=
  ∀ (m : (ℓ : Loc Cert.RefGmlpIdeal.nD Cert.RefGmlpIdeal.τ Cert.RefGmlpIdeal.sig) → Buf (Elt Ideal) ℓ) (g : Dev Cert.RefGmlpIdeal.nD → PrngReg), Pre_RefGmlpIdeal m →
    θ_run (Cert.RefGmlpIdeal.defs (F := Ideal)) (onTc (τ := Cert.RefGmlpIdeal.τ) (Cert.RefGmlpIdeal.main (F := Ideal))) ⟨m, fun _ => 0, g⟩ (fun r => (∀ c : Dev Cert.RefGmlpIdeal.nD,
      r.2.mem ((c.tc : Thread Cert.RefGmlpIdeal.nD Cert.RefGmlpIdeal.τ).loc Cert.RefGmlpIdeal.main_arg0) = m ((c.tc : Thread Cert.RefGmlpIdeal.nD Cert.RefGmlpIdeal.τ).loc Cert.RefGmlpIdeal.main_arg0)
      ∧ r.2.mem ((c.tc : Thread Cert.RefGmlpIdeal.nD Cert.RefGmlpIdeal.τ).loc Cert.RefGmlpIdeal.main_arg1) = m ((c.tc : Thread Cert.RefGmlpIdeal.nD Cert.RefGmlpIdeal.τ).loc Cert.RefGmlpIdeal.main_arg1)
      ∧ r.2.mem ((c.tc : Thread Cert.RefGmlpIdeal.nD Cert.RefGmlpIdeal.τ).loc Cert.RefGmlpIdeal.main_arg2) = m ((c.tc : Thread Cert.RefGmlpIdeal.nD Cert.RefGmlpIdeal.τ).loc Cert.RefGmlpIdeal.main_arg2)
      ∧ r.2.mem ((c.tc : Thread Cert.RefGmlpIdeal.nD Cert.RefGmlpIdeal.τ).loc Cert.RefGmlpIdeal.main_arg3) = m ((c.tc : Thread Cert.RefGmlpIdeal.nD Cert.RefGmlpIdeal.τ).loc Cert.RefGmlpIdeal.main_arg3)
      ∧ r.2.mem ((c.tc : Thread Cert.RefGmlpIdeal.nD Cert.RefGmlpIdeal.τ).loc Cert.RefGmlpIdeal.main_arg4) = m ((c.tc : Thread Cert.RefGmlpIdeal.nD Cert.RefGmlpIdeal.τ).loc Cert.RefGmlpIdeal.main_arg4)
      ∧ r.2.mem ((c.tc : Thread Cert.RefGmlpIdeal.nD Cert.RefGmlpIdeal.τ).loc Cert.RefGmlpIdeal.main_arg5) = m ((c.tc : Thread Cert.RefGmlpIdeal.nD Cert.RefGmlpIdeal.τ).loc Cert.RefGmlpIdeal.main_arg5)
      ∧ r.2.mem ((c.tc : Thread Cert.RefGmlpIdeal.nD Cert.RefGmlpIdeal.τ).loc Cert.RefGmlpIdeal.main_arg6) = m ((c.tc : Thread Cert.RefGmlpIdeal.nD Cert.RefGmlpIdeal.τ).loc Cert.RefGmlpIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5))
      ∧ r.2.sem = fun _ => 0)

def quiescent_FfnNext [hFfnNext : Cert.FfnNext.Facts] : Prop :=
  ∀ (m : (ℓ : Loc Cert.FfnNext.nD Cert.FfnNext.τ Cert.FfnNext.sig) → Buf (Elt Bits) ℓ) (g : Dev Cert.FfnNext.nD → PrngReg), Pre_FfnNext m →
    θ_run (Cert.FfnNext.defs (F := Bits)) (onTc (τ := Cert.FfnNext.τ) (Cert.FfnNext.main (F := Bits))) ⟨m, fun _ => 0, g⟩ (fun r => (∀ c : Dev Cert.FfnNext.nD,
      r.2.mem ((c.tc : Thread Cert.FfnNext.nD Cert.FfnNext.τ).loc Cert.FfnNext.main_arg0) = m ((c.tc : Thread Cert.FfnNext.nD Cert.FfnNext.τ).loc Cert.FfnNext.main_arg0)
      ∧ r.2.mem ((c.tc : Thread Cert.FfnNext.nD Cert.FfnNext.τ).loc Cert.FfnNext.main_arg1) = m ((c.tc : Thread Cert.FfnNext.nD Cert.FfnNext.τ).loc Cert.FfnNext.main_arg1)
      ∧ r.2.mem ((c.tc : Thread Cert.FfnNext.nD Cert.FfnNext.τ).loc Cert.FfnNext.main_arg2) = m ((c.tc : Thread Cert.FfnNext.nD Cert.FfnNext.τ).loc Cert.FfnNext.main_arg2)
      ∧ r.2.mem ((c.tc : Thread Cert.FfnNext.nD Cert.FfnNext.τ).loc Cert.FfnNext.main_arg3) = m ((c.tc : Thread Cert.FfnNext.nD Cert.FfnNext.τ).loc Cert.FfnNext.main_arg3)
      ∧ r.2.mem ((c.tc : Thread Cert.FfnNext.nD Cert.FfnNext.τ).loc Cert.FfnNext.main_arg4) = m ((c.tc : Thread Cert.FfnNext.nD Cert.FfnNext.τ).loc Cert.FfnNext.main_arg4)
      ∧ r.2.mem ((c.tc : Thread Cert.FfnNext.nD Cert.FfnNext.τ).loc Cert.FfnNext.main_arg5) = m ((c.tc : Thread Cert.FfnNext.nD Cert.FfnNext.τ).loc Cert.FfnNext.main_arg5)
      ∧ r.2.mem ((c.tc : Thread Cert.FfnNext.nD Cert.FfnNext.τ).loc Cert.FfnNext.main_arg6) = m ((c.tc : Thread Cert.FfnNext.nD Cert.FfnNext.τ).loc Cert.FfnNext.main_arg6)
      ∧ r.2.mem ((c.tc : Thread Cert.FfnNext.nD Cert.FfnNext.τ).loc Cert.FfnNext.main_arg7) = m ((c.tc : Thread Cert.FfnNext.nD Cert.FfnNext.τ).loc Cert.FfnNext.main_arg7))
      ∧ r.2.sem = fun _ => 0)

def quiescent_FfnNextIdeal [hFfnNextIdeal : Cert.FfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
      ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5)
      ∧ r.2.mem ((c.tc : Thread Cert.FfnNextIdeal.nD Cert.FfnNextIdeal.τ).loc Cert.FfnNextIdeal.main_arg6) = m ((c.tc : Thread Cert.FfnNextIdeal.nD Cert.FfnNextIdeal.τ).loc Cert.FfnNextIdeal.main_arg6)
      ∧ r.2.mem ((c.tc : Thread Cert.FfnNextIdeal.nD Cert.FfnNextIdeal.τ).loc Cert.FfnNextIdeal.main_arg7) = m ((c.tc : Thread Cert.FfnNextIdeal.nD Cert.FfnNextIdeal.τ).loc Cert.FfnNextIdeal.main_arg7))
      ∧ r.2.sem = fun _ => 0)

def quiescent_RefFfnNextIdeal [hRefFfnNextIdeal : Cert.RefFfnNextIdeal.Facts] : Prop :=
  ∀ (m : (ℓ : Loc Cert.RefFfnNextIdeal.nD Cert.RefFfnNextIdeal.τ Cert.RefFfnNextIdeal.sig) → Buf (Elt Ideal) ℓ) (g : Dev Cert.RefFfnNextIdeal.nD → PrngReg), Pre_RefFfnNextIdeal m →
    θ_run (Cert.RefFfnNextIdeal.defs (F := Ideal)) (onTc (τ := Cert.RefFfnNextIdeal.τ) (Cert.RefFfnNextIdeal.main (F := Ideal))) ⟨m, fun _ => 0, g⟩ (fun r => (∀ c : Dev Cert.RefFfnNextIdeal.nD,
      r.2.mem ((c.tc : Thread Cert.RefFfnNextIdeal.nD Cert.RefFfnNextIdeal.τ).loc Cert.RefFfnNextIdeal.main_arg0) = m ((c.tc : Thread Cert.RefFfnNextIdeal.nD Cert.RefFfnNextIdeal.τ).loc Cert.RefFfnNextIdeal.main_arg0)
      ∧ r.2.mem ((c.tc : Thread Cert.RefFfnNextIdeal.nD Cert.RefFfnNextIdeal.τ).loc Cert.RefFfnNextIdeal.main_arg1) = m ((c.tc : Thread Cert.RefFfnNextIdeal.nD Cert.RefFfnNextIdeal.τ).loc Cert.RefFfnNextIdeal.main_arg1)
      ∧ r.2.mem ((c.tc : Thread Cert.RefFfnNextIdeal.nD Cert.RefFfnNextIdeal.τ).loc Cert.RefFfnNextIdeal.main_arg2) = m ((c.tc : Thread Cert.RefFfnNextIdeal.nD Cert.RefFfnNextIdeal.τ).loc Cert.RefFfnNextIdeal.main_arg2)
      ∧ r.2.mem ((c.tc : Thread Cert.RefFfnNextIdeal.nD Cert.RefFfnNextIdeal.τ).loc Cert.RefFfnNextIdeal.main_arg3) = m ((c.tc : Thread Cert.RefFfnNextIdeal.nD Cert.RefFfnNextIdeal.τ).loc Cert.RefFfnNextIdeal.main_arg3)
      ∧ r.2.mem ((c.tc : Thread Cert.RefFfnNextIdeal.nD Cert.RefFfnNextIdeal.τ).loc Cert.RefFfnNextIdeal.main_arg4) = m ((c.tc : Thread Cert.RefFfnNextIdeal.nD Cert.RefFfnNextIdeal.τ).loc Cert.RefFfnNextIdeal.main_arg4)
      ∧ r.2.mem ((c.tc : Thread Cert.RefFfnNextIdeal.nD Cert.RefFfnNextIdeal.τ).loc Cert.RefFfnNextIdeal.main_arg5) = m ((c.tc : Thread Cert.RefFfnNextIdeal.nD Cert.RefFfnNextIdeal.τ).loc Cert.RefFfnNextIdeal.main_arg5)
      ∧ r.2.mem ((c.tc : Thread Cert.RefFfnNextIdeal.nD Cert.RefFfnNextIdeal.τ).loc Cert.RefFfnNextIdeal.main_arg6) = m ((c.tc : Thread Cert.RefFfnNextIdeal.nD Cert.RefFfnNextIdeal.τ).loc Cert.RefFfnNextIdeal.main_arg6)
      ∧ r.2.mem ((c.tc : Thread Cert.RefFfnNextIdeal.nD Cert.RefFfnNextIdeal.τ).loc Cert.RefFfnNextIdeal.main_arg7) = m ((c.tc : Thread Cert.RefFfnNextIdeal.nD Cert.RefFfnNextIdeal.τ).loc Cert.RefFfnNextIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3)
      ∧ r.2.mem ((c.tc : Thread Cert.RefAttnIdeal.nD Cert.RefAttnIdeal.τ).loc Cert.RefAttnIdeal.main_arg4) = m ((c.tc : Thread Cert.RefAttnIdeal.nD Cert.RefAttnIdeal.τ).loc Cert.RefAttnIdeal.main_arg4)
      ∧ r.2.mem ((c.tc : Thread Cert.RefAttnIdeal.nD Cert.RefAttnIdeal.τ).loc Cert.RefAttnIdeal.main_arg5) = m ((c.tc : Thread Cert.RefAttnIdeal.nD Cert.RefAttnIdeal.τ).loc Cert.RefAttnIdeal.main_arg5)
      ∧ r.2.mem ((c.tc : Thread Cert.RefAttnIdeal.nD Cert.RefAttnIdeal.τ).loc Cert.RefAttnIdeal.main_arg6) = m ((c.tc : Thread Cert.RefAttnIdeal.nD Cert.RefAttnIdeal.τ).loc Cert.RefAttnIdeal.main_arg6))
      ∧ r.2.sem = fun _ => 0)

def quiescent_RefAttnIdeal_pre_finite_inputs [hRefAttnIdeal : Cert.RefAttnIdeal.Facts] [hPre_finite_inputs : Cert.Pre_finite_inputs.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite_inputs m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3)
      ∧ r.2.mem ((c.tc : Thread Cert.RefAttnIdeal.nD Cert.RefAttnIdeal.τ).loc Cert.RefAttnIdeal.main_arg4) = m ((c.tc : Thread Cert.RefAttnIdeal.nD Cert.RefAttnIdeal.τ).loc Cert.RefAttnIdeal.main_arg4)
      ∧ r.2.mem ((c.tc : Thread Cert.RefAttnIdeal.nD Cert.RefAttnIdeal.τ).loc Cert.RefAttnIdeal.main_arg5) = m ((c.tc : Thread Cert.RefAttnIdeal.nD Cert.RefAttnIdeal.τ).loc Cert.RefAttnIdeal.main_arg5)
      ∧ r.2.mem ((c.tc : Thread Cert.RefAttnIdeal.nD Cert.RefAttnIdeal.τ).loc Cert.RefAttnIdeal.main_arg6) = m ((c.tc : Thread Cert.RefAttnIdeal.nD Cert.RefAttnIdeal.τ).loc Cert.RefAttnIdeal.main_arg6))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11)
      ∧ r.2.mem ((c.tc : Thread Cert.Rwkv.nD Cert.Rwkv.τ).loc Cert.Rwkv.main_arg12) = m ((c.tc : Thread Cert.Rwkv.nD Cert.Rwkv.τ).loc Cert.Rwkv.main_arg12)
      ∧ r.2.mem ((c.tc : Thread Cert.Rwkv.nD Cert.Rwkv.τ).loc Cert.Rwkv.main_arg13) = m ((c.tc : Thread Cert.Rwkv.nD Cert.Rwkv.τ).loc Cert.Rwkv.main_arg13))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ r.2.sem = fun _ => 0)

def quiescent_RefRwkvIdeal [hRefRwkvIdeal : Cert.RefRwkvIdeal.Facts] : Prop :=
  ∀ (m : (ℓ : Loc Cert.RefRwkvIdeal.nD Cert.RefRwkvIdeal.τ Cert.RefRwkvIdeal.sig) → Buf (Elt Ideal) ℓ) (g : Dev Cert.RefRwkvIdeal.nD → PrngReg), Pre_RefRwkvIdeal m →
    θ_run (Cert.RefRwkvIdeal.defs (F := Ideal)) (onTc (τ := Cert.RefRwkvIdeal.τ) (Cert.RefRwkvIdeal.main (F := Ideal))) ⟨m, fun _ => 0, g⟩ (fun r => (∀ c : Dev Cert.RefRwkvIdeal.nD,
      r.2.mem ((c.tc : Thread Cert.RefRwkvIdeal.nD Cert.RefRwkvIdeal.τ).loc Cert.RefRwkvIdeal.main_arg0) = m ((c.tc : Thread Cert.RefRwkvIdeal.nD Cert.RefRwkvIdeal.τ).loc Cert.RefRwkvIdeal.main_arg0)
      ∧ r.2.mem ((c.tc : Thread Cert.RefRwkvIdeal.nD Cert.RefRwkvIdeal.τ).loc Cert.RefRwkvIdeal.main_arg1) = m ((c.tc : Thread Cert.RefRwkvIdeal.nD Cert.RefRwkvIdeal.τ).loc Cert.RefRwkvIdeal.main_arg1)
      ∧ r.2.mem ((c.tc : Thread Cert.RefRwkvIdeal.nD Cert.RefRwkvIdeal.τ).loc Cert.RefRwkvIdeal.main_arg2) = m ((c.tc : Thread Cert.RefRwkvIdeal.nD Cert.RefRwkvIdeal.τ).loc Cert.RefRwkvIdeal.main_arg2)
      ∧ r.2.mem ((c.tc : Thread Cert.RefRwkvIdeal.nD Cert.RefRwkvIdeal.τ).loc Cert.RefRwkvIdeal.main_arg3) = m ((c.tc : Thread Cert.RefRwkvIdeal.nD Cert.RefRwkvIdeal.τ).loc Cert.RefRwkvIdeal.main_arg3)
      ∧ r.2.mem ((c.tc : Thread Cert.RefRwkvIdeal.nD Cert.RefRwkvIdeal.τ).loc Cert.RefRwkvIdeal.main_arg4) = m ((c.tc : Thread Cert.RefRwkvIdeal.nD Cert.RefRwkvIdeal.τ).loc Cert.RefRwkvIdeal.main_arg4)
      ∧ r.2.mem ((c.tc : Thread Cert.RefRwkvIdeal.nD Cert.RefRwkvIdeal.τ).loc Cert.RefRwkvIdeal.main_arg5) = m ((c.tc : Thread Cert.RefRwkvIdeal.nD Cert.RefRwkvIdeal.τ).loc Cert.RefRwkvIdeal.main_arg5)
      ∧ r.2.mem ((c.tc : Thread Cert.RefRwkvIdeal.nD Cert.RefRwkvIdeal.τ).loc Cert.RefRwkvIdeal.main_arg6) = m ((c.tc : Thread Cert.RefRwkvIdeal.nD Cert.RefRwkvIdeal.τ).loc Cert.RefRwkvIdeal.main_arg6)
      ∧ r.2.mem ((c.tc : Thread Cert.RefRwkvIdeal.nD Cert.RefRwkvIdeal.τ).loc Cert.RefRwkvIdeal.main_arg7) = m ((c.tc : Thread Cert.RefRwkvIdeal.nD Cert.RefRwkvIdeal.τ).loc Cert.RefRwkvIdeal.main_arg7)
      ∧ r.2.mem ((c.tc : Thread Cert.RefRwkvIdeal.nD Cert.RefRwkvIdeal.τ).loc Cert.RefRwkvIdeal.main_arg8) = m ((c.tc : Thread Cert.RefRwkvIdeal.nD Cert.RefRwkvIdeal.τ).loc Cert.RefRwkvIdeal.main_arg8)
      ∧ r.2.mem ((c.tc : Thread Cert.RefRwkvIdeal.nD Cert.RefRwkvIdeal.τ).loc Cert.RefRwkvIdeal.main_arg9) = m ((c.tc : Thread Cert.RefRwkvIdeal.nD Cert.RefRwkvIdeal.τ).loc Cert.RefRwkvIdeal.main_arg9)
      ∧ r.2.mem ((c.tc : Thread Cert.RefRwkvIdeal.nD Cert.RefRwkvIdeal.τ).loc Cert.RefRwkvIdeal.main_arg10) = m ((c.tc : Thread Cert.RefRwkvIdeal.nD Cert.RefRwkvIdeal.τ).loc Cert.RefRwkvIdeal.main_arg10)
      ∧ r.2.mem ((c.tc : Thread Cert.RefRwkvIdeal.nD Cert.RefRwkvIdeal.τ).loc Cert.RefRwkvIdeal.main_arg11) = m ((c.tc : Thread Cert.RefRwkvIdeal.nD Cert.RefRwkvIdeal.τ).loc Cert.RefRwkvIdeal.main_arg11)
      ∧ r.2.mem ((c.tc : Thread Cert.RefRwkvIdeal.nD Cert.RefRwkvIdeal.τ).loc Cert.RefRwkvIdeal.main_arg12) = m ((c.tc : Thread Cert.RefRwkvIdeal.nD Cert.RefRwkvIdeal.τ).loc Cert.RefRwkvIdeal.main_arg12)
      ∧ r.2.mem ((c.tc : Thread Cert.RefRwkvIdeal.nD Cert.RefRwkvIdeal.τ).loc Cert.RefRwkvIdeal.main_arg13) = m ((c.tc : Thread Cert.RefRwkvIdeal.nD Cert.RefRwkvIdeal.τ).loc Cert.RefRwkvIdeal.main_arg13))
      ∧ r.2.sem = fun _ => 0)

def preserves_Gmlp_GmlpIdeal : Prop :=
  True

def algebraic_GmlpIdeal_RefGmlpIdeal [hGmlpIdeal : Cert.GmlpIdeal.Facts] [hRefGmlpIdeal : Cert.RefGmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.RefGmlpIdeal.nD Cert.RefGmlpIdeal.τ Cert.RefGmlpIdeal.sig) → Buf (Elt Ideal) ℓ) (g' : Dev Cert.RefGmlpIdeal.nD → PrngReg), Pre_GmlpIdeal m →
    (∀ c : Dev Cert.GmlpIdeal.nD,
      m' ((c.tc : Thread Cert.RefGmlpIdeal.nD Cert.RefGmlpIdeal.τ).loc Cert.RefGmlpIdeal.main_arg0) = m ((c.tc : Thread Cert.GmlpIdeal.nD Cert.GmlpIdeal.τ).loc Cert.GmlpIdeal.main_arg0)
      ∧ m' ((c.tc : Thread Cert.RefGmlpIdeal.nD Cert.RefGmlpIdeal.τ).loc Cert.RefGmlpIdeal.main_arg1) = m ((c.tc : Thread Cert.GmlpIdeal.nD Cert.GmlpIdeal.τ).loc Cert.GmlpIdeal.main_arg1)
      ∧ m' ((c.tc : Thread Cert.RefGmlpIdeal.nD Cert.RefGmlpIdeal.τ).loc Cert.RefGmlpIdeal.main_arg2) = m ((c.tc : Thread Cert.GmlpIdeal.nD Cert.GmlpIdeal.τ).loc Cert.GmlpIdeal.main_arg2)
      ∧ m' ((c.tc : Thread Cert.RefGmlpIdeal.nD Cert.RefGmlpIdeal.τ).loc Cert.RefGmlpIdeal.main_arg3) = m ((c.tc : Thread Cert.GmlpIdeal.nD Cert.GmlpIdeal.τ).loc Cert.GmlpIdeal.main_arg3)
      ∧ m' ((c.tc : Thread Cert.RefGmlpIdeal.nD Cert.RefGmlpIdeal.τ).loc Cert.RefGmlpIdeal.main_arg4) = m ((c.tc : Thread Cert.GmlpIdeal.nD Cert.GmlpIdeal.τ).loc Cert.GmlpIdeal.main_arg4)
      ∧ m' ((c.tc : Thread Cert.RefGmlpIdeal.nD Cert.RefGmlpIdeal.τ).loc Cert.RefGmlpIdeal.main_arg5) = m ((c.tc : Thread Cert.GmlpIdeal.nD Cert.GmlpIdeal.τ).loc Cert.GmlpIdeal.main_arg5)
      ∧ m' ((c.tc : Thread Cert.RefGmlpIdeal.nD Cert.RefGmlpIdeal.τ).loc Cert.RefGmlpIdeal.main_arg6) = m ((c.tc : Thread Cert.GmlpIdeal.nD Cert.GmlpIdeal.τ).loc Cert.GmlpIdeal.main_arg6)) →
    ∃ (v0 : (c : Dev Cert.GmlpIdeal.nD) → Buf (Elt Ideal) ((c.tc : Thread Cert.GmlpIdeal.nD Cert.GmlpIdeal.τ).loc Cert.GmlpIdeal.main_v8)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v8) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ θ_run (Cert.RefGmlpIdeal.defs (F := Ideal)) (onTc (τ := Cert.RefGmlpIdeal.τ) (Cert.RefGmlpIdeal.main (F := Ideal))) ⟨m', fun _ => 0, g'⟩ (fun r => ∀ c : Dev Cert.RefGmlpIdeal.nD,
          r.2.mem ((c.tc : Thread Cert.RefGmlpIdeal.nD Cert.RefGmlpIdeal.τ).loc Cert.RefGmlpIdeal.main_v49) = v0 c
          ∧ r.2.mem ((c.tc : Thread Cert.RefGmlpIdeal.nD Cert.RefGmlpIdeal.τ).loc Cert.RefGmlpIdeal.main_arg0) = m' ((c.tc : Thread Cert.RefGmlpIdeal.nD Cert.RefGmlpIdeal.τ).loc Cert.RefGmlpIdeal.main_arg0)
          ∧ r.2.mem ((c.tc : Thread Cert.RefGmlpIdeal.nD Cert.RefGmlpIdeal.τ).loc Cert.RefGmlpIdeal.main_arg1) = m' ((c.tc : Thread Cert.RefGmlpIdeal.nD Cert.RefGmlpIdeal.τ).loc Cert.RefGmlpIdeal.main_arg1)
          ∧ r.2.mem ((c.tc : Thread Cert.RefGmlpIdeal.nD Cert.RefGmlpIdeal.τ).loc Cert.RefGmlpIdeal.main_arg2) = m' ((c.tc : Thread Cert.RefGmlpIdeal.nD Cert.RefGmlpIdeal.τ).loc Cert.RefGmlpIdeal.main_arg2)
          ∧ r.2.mem ((c.tc : Thread Cert.RefGmlpIdeal.nD Cert.RefGmlpIdeal.τ).loc Cert.RefGmlpIdeal.main_arg3) = m' ((c.tc : Thread Cert.RefGmlpIdeal.nD Cert.RefGmlpIdeal.τ).loc Cert.RefGmlpIdeal.main_arg3)
          ∧ r.2.mem ((c.tc : Thread Cert.RefGmlpIdeal.nD Cert.RefGmlpIdeal.τ).loc Cert.RefGmlpIdeal.main_arg4) = m' ((c.tc : Thread Cert.RefGmlpIdeal.nD Cert.RefGmlpIdeal.τ).loc Cert.RefGmlpIdeal.main_arg4)
          ∧ r.2.mem ((c.tc : Thread Cert.RefGmlpIdeal.nD Cert.RefGmlpIdeal.τ).loc Cert.RefGmlpIdeal.main_arg5) = m' ((c.tc : Thread Cert.RefGmlpIdeal.nD Cert.RefGmlpIdeal.τ).loc Cert.RefGmlpIdeal.main_arg5)
          ∧ r.2.mem ((c.tc : Thread Cert.RefGmlpIdeal.nD Cert.RefGmlpIdeal.τ).loc Cert.RefGmlpIdeal.main_arg6) = m' ((c.tc : Thread Cert.RefGmlpIdeal.nD Cert.RefGmlpIdeal.τ).loc Cert.RefGmlpIdeal.main_arg6))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v34) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5))

def preserves_FfnNext_FfnNextIdeal : Prop :=
  True

def algebraic_FfnNextIdeal_RefFfnNextIdeal [hFfnNextIdeal : Cert.FfnNextIdeal.Facts] [hRefFfnNextIdeal : Cert.RefFfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg)
    (m' : (ℓ : Loc Cert.RefFfnNextIdeal.nD Cert.RefFfnNextIdeal.τ Cert.RefFfnNextIdeal.sig) → Buf (Elt Ideal) ℓ) (g' : Dev Cert.RefFfnNextIdeal.nD → PrngReg), Pre_FfnNextIdeal m →
    (∀ c : Dev Cert.FfnNextIdeal.nD,
      m' ((c.tc : Thread Cert.RefFfnNextIdeal.nD Cert.RefFfnNextIdeal.τ).loc Cert.RefFfnNextIdeal.main_arg0) = m ((c.tc : Thread Cert.FfnNextIdeal.nD Cert.FfnNextIdeal.τ).loc Cert.FfnNextIdeal.main_arg0)
      ∧ m' ((c.tc : Thread Cert.RefFfnNextIdeal.nD Cert.RefFfnNextIdeal.τ).loc Cert.RefFfnNextIdeal.main_arg1) = m ((c.tc : Thread Cert.FfnNextIdeal.nD Cert.FfnNextIdeal.τ).loc Cert.FfnNextIdeal.main_arg1)
      ∧ m' ((c.tc : Thread Cert.RefFfnNextIdeal.nD Cert.RefFfnNextIdeal.τ).loc Cert.RefFfnNextIdeal.main_arg2) = m ((c.tc : Thread Cert.FfnNextIdeal.nD Cert.FfnNextIdeal.τ).loc Cert.FfnNextIdeal.main_arg2)
      ∧ m' ((c.tc : Thread Cert.RefFfnNextIdeal.nD Cert.RefFfnNextIdeal.τ).loc Cert.RefFfnNextIdeal.main_arg3) = m ((c.tc : Thread Cert.FfnNextIdeal.nD Cert.FfnNextIdeal.τ).loc Cert.FfnNextIdeal.main_arg3)
      ∧ m' ((c.tc : Thread Cert.RefFfnNextIdeal.nD Cert.RefFfnNextIdeal.τ).loc Cert.RefFfnNextIdeal.main_arg4) = m ((c.tc : Thread Cert.FfnNextIdeal.nD Cert.FfnNextIdeal.τ).loc Cert.FfnNextIdeal.main_arg4)
      ∧ m' ((c.tc : Thread Cert.RefFfnNextIdeal.nD Cert.RefFfnNextIdeal.τ).loc Cert.RefFfnNextIdeal.main_arg5) = m ((c.tc : Thread Cert.FfnNextIdeal.nD Cert.FfnNextIdeal.τ).loc Cert.FfnNextIdeal.main_arg5)
      ∧ m' ((c.tc : Thread Cert.RefFfnNextIdeal.nD Cert.RefFfnNextIdeal.τ).loc Cert.RefFfnNextIdeal.main_arg6) = m ((c.tc : Thread Cert.FfnNextIdeal.nD Cert.FfnNextIdeal.τ).loc Cert.FfnNextIdeal.main_arg6)
      ∧ m' ((c.tc : Thread Cert.RefFfnNextIdeal.nD Cert.RefFfnNextIdeal.τ).loc Cert.RefFfnNextIdeal.main_arg7) = m ((c.tc : Thread Cert.FfnNextIdeal.nD Cert.FfnNextIdeal.τ).loc Cert.FfnNextIdeal.main_arg7)) →
    ∃ (v0 : (c : Dev Cert.FfnNextIdeal.nD) → Buf (Elt Ideal) ((c.tc : Thread Cert.FfnNextIdeal.nD Cert.FfnNextIdeal.τ).loc Cert.FfnNextIdeal.main_v5_0)) (v1 : (c : Dev Cert.FfnNextIdeal.nD) → Buf (Elt Ideal) ((c.tc : Thread Cert.FfnNextIdeal.nD Cert.FfnNextIdeal.τ).loc Cert.FfnNextIdeal.main_v5_1)) (v2 : (c : Dev Cert.FfnNextIdeal.nD) → Buf (Elt Ideal) ((c.tc : Thread Cert.FfnNextIdeal.nD Cert.FfnNextIdeal.τ).loc Cert.FfnNextIdeal.main_v5_2)) (v3 : (c : Dev Cert.FfnNextIdeal.nD) → Buf (Elt Ideal) ((c.tc : Thread Cert.FfnNextIdeal.nD Cert.FfnNextIdeal.τ).loc Cert.FfnNextIdeal.main_v5_3)),
      θ_run (Cert.FfnNextIdeal.defs (F := Ideal)) (onTc (τ := Cert.FfnNextIdeal.τ) (Cert.FfnNextIdeal.main (F := Ideal))) ⟨m, fun _ => 0, g⟩ (fun r => ∀ c : Dev Cert.FfnNextIdeal.nD,
          r.2.mem ((c.tc : Thread Cert.FfnNextIdeal.nD Cert.FfnNextIdeal.τ).loc Cert.FfnNextIdeal.main_v5_0) = v0 c
          ∧ r.2.mem ((c.tc : Thread Cert.FfnNextIdeal.nD Cert.FfnNextIdeal.τ).loc Cert.FfnNextIdeal.main_v5_1) = v1 c
          ∧ r.2.mem ((c.tc : Thread Cert.FfnNextIdeal.nD Cert.FfnNextIdeal.τ).loc Cert.FfnNextIdeal.main_v5_2) = v2 c
          ∧ r.2.mem ((c.tc : Thread Cert.FfnNextIdeal.nD Cert.FfnNextIdeal.τ).loc Cert.FfnNextIdeal.main_v5_3) = v3 c
          ∧ r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
          ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
          ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
          ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
          ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
          ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5)
          ∧ r.2.mem ((c.tc : Thread Cert.FfnNextIdeal.nD Cert.FfnNextIdeal.τ).loc Cert.FfnNextIdeal.main_arg6) = m ((c.tc : Thread Cert.FfnNextIdeal.nD Cert.FfnNextIdeal.τ).loc Cert.FfnNextIdeal.main_arg6)
          ∧ r.2.mem ((c.tc : Thread Cert.FfnNextIdeal.nD Cert.FfnNextIdeal.τ).loc Cert.FfnNextIdeal.main_arg7) = m ((c.tc : Thread Cert.FfnNextIdeal.nD Cert.FfnNextIdeal.τ).loc Cert.FfnNextIdeal.main_arg7))
      ∧ θ_run (Cert.RefFfnNextIdeal.defs (F := Ideal)) (onTc (τ := Cert.RefFfnNextIdeal.τ) (Cert.RefFfnNextIdeal.main (F := Ideal))) ⟨m', fun _ => 0, g'⟩ (fun r => ∀ c : Dev Cert.RefFfnNextIdeal.nD,
          r.2.mem ((c.tc : Thread Cert.RefFfnNextIdeal.nD Cert.RefFfnNextIdeal.τ).loc Cert.RefFfnNextIdeal.main_v21) = v0 c
          ∧ r.2.mem ((c.tc : Thread Cert.RefFfnNextIdeal.nD Cert.RefFfnNextIdeal.τ).loc Cert.RefFfnNextIdeal.main_v24) = v1 c
          ∧ r.2.mem ((c.tc : Thread Cert.RefFfnNextIdeal.nD Cert.RefFfnNextIdeal.τ).loc Cert.RefFfnNextIdeal.main_v27) = v2 c
          ∧ r.2.mem ((c.tc : Thread Cert.RefFfnNextIdeal.nD Cert.RefFfnNextIdeal.τ).loc Cert.RefFfnNextIdeal.main_v30) = v3 c
          ∧ r.2.mem ((c.tc : Thread Cert.RefFfnNextIdeal.nD Cert.RefFfnNextIdeal.τ).loc Cert.RefFfnNextIdeal.main_arg0) = m' ((c.tc : Thread Cert.RefFfnNextIdeal.nD Cert.RefFfnNextIdeal.τ).loc Cert.RefFfnNextIdeal.main_arg0)
          ∧ r.2.mem ((c.tc : Thread Cert.RefFfnNextIdeal.nD Cert.RefFfnNextIdeal.τ).loc Cert.RefFfnNextIdeal.main_arg1) = m' ((c.tc : Thread Cert.RefFfnNextIdeal.nD Cert.RefFfnNextIdeal.τ).loc Cert.RefFfnNextIdeal.main_arg1)
          ∧ r.2.mem ((c.tc : Thread Cert.RefFfnNextIdeal.nD Cert.RefFfnNextIdeal.τ).loc Cert.RefFfnNextIdeal.main_arg2) = m' ((c.tc : Thread Cert.RefFfnNextIdeal.nD Cert.RefFfnNextIdeal.τ).loc Cert.RefFfnNextIdeal.main_arg2)
          ∧ r.2.mem ((c.tc : Thread Cert.RefFfnNextIdeal.nD Cert.RefFfnNextIdeal.τ).loc Cert.RefFfnNextIdeal.main_arg3) = m' ((c.tc : Thread Cert.RefFfnNextIdeal.nD Cert.RefFfnNextIdeal.τ).loc Cert.RefFfnNextIdeal.main_arg3)
          ∧ r.2.mem ((c.tc : Thread Cert.RefFfnNextIdeal.nD Cert.RefFfnNextIdeal.τ).loc Cert.RefFfnNextIdeal.main_arg4) = m' ((c.tc : Thread Cert.RefFfnNextIdeal.nD Cert.RefFfnNextIdeal.τ).loc Cert.RefFfnNextIdeal.main_arg4)
          ∧ r.2.mem ((c.tc : Thread Cert.RefFfnNextIdeal.nD Cert.RefFfnNextIdeal.τ).loc Cert.RefFfnNextIdeal.main_arg5) = m' ((c.tc : Thread Cert.RefFfnNextIdeal.nD Cert.RefFfnNextIdeal.τ).loc Cert.RefFfnNextIdeal.main_arg5)
          ∧ r.2.mem ((c.tc : Thread Cert.RefFfnNextIdeal.nD Cert.RefFfnNextIdeal.τ).loc Cert.RefFfnNextIdeal.main_arg6) = m' ((c.tc : Thread Cert.RefFfnNextIdeal.nD Cert.RefFfnNextIdeal.τ).loc Cert.RefFfnNextIdeal.main_arg6)
          ∧ r.2.mem ((c.tc : Thread Cert.RefFfnNextIdeal.nD Cert.RefFfnNextIdeal.τ).loc Cert.RefFfnNextIdeal.main_arg7) = m' ((c.tc : Thread Cert.RefFfnNextIdeal.nD Cert.RefFfnNextIdeal.τ).loc Cert.RefFfnNextIdeal.main_arg7))

def preserves_Attn_AttnIdeal : Prop :=
  IdealRules.named_const.Statement Cert.AttnIdeal.κ "mask" .f32 0xF49DC5AE#32 ⊥
  ∧ IdealRules.named_const.Statement Cert.AttnIdeal.κ "slope1" .f32 0x3F3504F3#32 (((Real.sqrt 2)⁻¹ : ℝ) : EReal)
  ∧ IdealRules.named_const.Statement Cert.AttnIdeal.κ "slope3" .f32 0x3EB504F3#32 (((Real.sqrt 8)⁻¹ : ℝ) : EReal)
  ∧ IdealRules.named_const.Statement Cert.AttnIdeal.κ "slope5" .f32 0x3E3504F3#32 (((Real.sqrt 32)⁻¹ : ℝ) : EReal)
  ∧ IdealRules.named_const.Statement Cert.AttnIdeal.κ "slope7" .f32 0x3DB504F3#32 (((Real.sqrt 128)⁻¹ : ℝ) : EReal)
  ∧ IdealRules.named_const.Statement Cert.AttnIdeal.κ "slope9" .f32 0x3D3504F3#32 (((Real.sqrt 512)⁻¹ : ℝ) : EReal)
  ∧ IdealRules.named_const.Statement Cert.AttnIdeal.κ "slope11" .f32 0x3CB504F3#32 (((Real.sqrt 2048)⁻¹ : ℝ) : EReal)
  ∧ IdealRules.named_const.Statement Cert.AttnIdeal.κ "slope13" .f32 0x3C3504F3#32 (((Real.sqrt 8192)⁻¹ : ℝ) : EReal)
  ∧ IdealRules.named_const.Statement Cert.AttnIdeal.κ "slope15" .f32 0x3BB504F3#32 (((Real.sqrt 32768)⁻¹ : ℝ) : EReal)

def algebraic_AttnIdeal_RefAttnIdeal_pre_finite_inputs [hAttnIdeal : Cert.AttnIdeal.Facts] [hRefAttnIdeal : Cert.RefAttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite_inputs m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)
      ∧ m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3)
      ∧ m' ((c.tc : Thread Cert.RefAttnIdeal.nD Cert.RefAttnIdeal.τ).loc Cert.RefAttnIdeal.main_arg4) = m ((c.tc : Thread Cert.AttnIdeal.nD Cert.AttnIdeal.τ).loc Cert.AttnIdeal.main_arg4)
      ∧ m' ((c.tc : Thread Cert.RefAttnIdeal.nD Cert.RefAttnIdeal.τ).loc Cert.RefAttnIdeal.main_arg5) = m ((c.tc : Thread Cert.AttnIdeal.nD Cert.AttnIdeal.τ).loc Cert.AttnIdeal.main_arg5)
      ∧ m' ((c.tc : Thread Cert.RefAttnIdeal.nD Cert.RefAttnIdeal.τ).loc Cert.RefAttnIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v9)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v9) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v116) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2)
          ∧ r.2.mem ((c.tc : Thread Cert.RefAttnIdeal.nD Cert.RefAttnIdeal.τ).loc Cert.RefAttnIdeal.main_arg3) = m' ((c.tc : Thread Cert.RefAttnIdeal.nD Cert.RefAttnIdeal.τ).loc Cert.RefAttnIdeal.main_arg3)
          ∧ r.2.mem ((c.tc : Thread Cert.RefAttnIdeal.nD Cert.RefAttnIdeal.τ).loc Cert.RefAttnIdeal.main_arg4) = m' ((c.tc : Thread Cert.RefAttnIdeal.nD Cert.RefAttnIdeal.τ).loc Cert.RefAttnIdeal.main_arg4)
          ∧ r.2.mem ((c.tc : Thread Cert.RefAttnIdeal.nD Cert.RefAttnIdeal.τ).loc Cert.RefAttnIdeal.main_arg5) = m' ((c.tc : Thread Cert.RefAttnIdeal.nD Cert.RefAttnIdeal.τ).loc Cert.RefAttnIdeal.main_arg5)
          ∧ r.2.mem ((c.tc : Thread Cert.RefAttnIdeal.nD Cert.RefAttnIdeal.τ).loc Cert.RefAttnIdeal.main_arg6) = m' ((c.tc : Thread Cert.RefAttnIdeal.nD Cert.RefAttnIdeal.τ).loc Cert.RefAttnIdeal.main_arg6))

def preserves_Rwkv_RwkvIdeal : Prop :=
  True

def algebraic_RwkvIdeal_RefRwkvIdeal [hRwkvIdeal : Cert.RwkvIdeal.Facts] [hRefRwkvIdeal : Cert.RefRwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RefRwkvIdeal.nD Cert.RefRwkvIdeal.τ Cert.RefRwkvIdeal.sig) → Buf (Elt Ideal) ℓ) (g' : Dev Cert.RefRwkvIdeal.nD → PrngReg), Pre_RwkvIdeal m →
    (∀ c : Dev Cert.RwkvIdeal.nD,
      m' ((c.tc : Thread Cert.RefRwkvIdeal.nD Cert.RefRwkvIdeal.τ).loc Cert.RefRwkvIdeal.main_arg0) = m ((c.tc : Thread Cert.RwkvIdeal.nD Cert.RwkvIdeal.τ).loc Cert.RwkvIdeal.main_arg0)
      ∧ m' ((c.tc : Thread Cert.RefRwkvIdeal.nD Cert.RefRwkvIdeal.τ).loc Cert.RefRwkvIdeal.main_arg1) = m ((c.tc : Thread Cert.RwkvIdeal.nD Cert.RwkvIdeal.τ).loc Cert.RwkvIdeal.main_arg1)
      ∧ m' ((c.tc : Thread Cert.RefRwkvIdeal.nD Cert.RefRwkvIdeal.τ).loc Cert.RefRwkvIdeal.main_arg2) = m ((c.tc : Thread Cert.RwkvIdeal.nD Cert.RwkvIdeal.τ).loc Cert.RwkvIdeal.main_arg2)
      ∧ m' ((c.tc : Thread Cert.RefRwkvIdeal.nD Cert.RefRwkvIdeal.τ).loc Cert.RefRwkvIdeal.main_arg3) = m ((c.tc : Thread Cert.RwkvIdeal.nD Cert.RwkvIdeal.τ).loc Cert.RwkvIdeal.main_arg3)
      ∧ m' ((c.tc : Thread Cert.RefRwkvIdeal.nD Cert.RefRwkvIdeal.τ).loc Cert.RefRwkvIdeal.main_arg4) = m ((c.tc : Thread Cert.RwkvIdeal.nD Cert.RwkvIdeal.τ).loc Cert.RwkvIdeal.main_arg4)
      ∧ m' ((c.tc : Thread Cert.RefRwkvIdeal.nD Cert.RefRwkvIdeal.τ).loc Cert.RefRwkvIdeal.main_arg5) = m ((c.tc : Thread Cert.RwkvIdeal.nD Cert.RwkvIdeal.τ).loc Cert.RwkvIdeal.main_arg5)
      ∧ m' ((c.tc : Thread Cert.RefRwkvIdeal.nD Cert.RefRwkvIdeal.τ).loc Cert.RefRwkvIdeal.main_arg6) = m ((c.tc : Thread Cert.RwkvIdeal.nD Cert.RwkvIdeal.τ).loc Cert.RwkvIdeal.main_arg6)
      ∧ m' ((c.tc : Thread Cert.RefRwkvIdeal.nD Cert.RefRwkvIdeal.τ).loc Cert.RefRwkvIdeal.main_arg7) = m ((c.tc : Thread Cert.RwkvIdeal.nD Cert.RwkvIdeal.τ).loc Cert.RwkvIdeal.main_arg7)
      ∧ m' ((c.tc : Thread Cert.RefRwkvIdeal.nD Cert.RefRwkvIdeal.τ).loc Cert.RefRwkvIdeal.main_arg8) = m ((c.tc : Thread Cert.RwkvIdeal.nD Cert.RwkvIdeal.τ).loc Cert.RwkvIdeal.main_arg8)
      ∧ m' ((c.tc : Thread Cert.RefRwkvIdeal.nD Cert.RefRwkvIdeal.τ).loc Cert.RefRwkvIdeal.main_arg9) = m ((c.tc : Thread Cert.RwkvIdeal.nD Cert.RwkvIdeal.τ).loc Cert.RwkvIdeal.main_arg9)
      ∧ m' ((c.tc : Thread Cert.RefRwkvIdeal.nD Cert.RefRwkvIdeal.τ).loc Cert.RefRwkvIdeal.main_arg10) = m ((c.tc : Thread Cert.RwkvIdeal.nD Cert.RwkvIdeal.τ).loc Cert.RwkvIdeal.main_arg10)
      ∧ m' ((c.tc : Thread Cert.RefRwkvIdeal.nD Cert.RefRwkvIdeal.τ).loc Cert.RefRwkvIdeal.main_arg11) = m ((c.tc : Thread Cert.RwkvIdeal.nD Cert.RwkvIdeal.τ).loc Cert.RwkvIdeal.main_arg11)
      ∧ m' ((c.tc : Thread Cert.RefRwkvIdeal.nD Cert.RefRwkvIdeal.τ).loc Cert.RefRwkvIdeal.main_arg12) = m ((c.tc : Thread Cert.RwkvIdeal.nD Cert.RwkvIdeal.τ).loc Cert.RwkvIdeal.main_arg12)
      ∧ m' ((c.tc : Thread Cert.RefRwkvIdeal.nD Cert.RefRwkvIdeal.τ).loc Cert.RefRwkvIdeal.main_arg13) = m ((c.tc : Thread Cert.RwkvIdeal.nD Cert.RwkvIdeal.τ).loc Cert.RwkvIdeal.main_arg13)) →
    ∃ (v0 : (c : Dev Cert.RwkvIdeal.nD) → Buf (Elt Ideal) ((c.tc : Thread Cert.RwkvIdeal.nD Cert.RwkvIdeal.τ).loc Cert.RwkvIdeal.main_v28_1)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v28_1) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
          ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
          ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
          ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ θ_run (Cert.RefRwkvIdeal.defs (F := Ideal)) (onTc (τ := Cert.RefRwkvIdeal.τ) (Cert.RefRwkvIdeal.main (F := Ideal))) ⟨m', fun _ => 0, g'⟩ (fun r => ∀ c : Dev Cert.RefRwkvIdeal.nD,
          r.2.mem ((c.tc : Thread Cert.RefRwkvIdeal.nD Cert.RefRwkvIdeal.τ).loc Cert.RefRwkvIdeal.main_v23) = v0 c
          ∧ r.2.mem ((c.tc : Thread Cert.RefRwkvIdeal.nD Cert.RefRwkvIdeal.τ).loc Cert.RefRwkvIdeal.main_arg0) = m' ((c.tc : Thread Cert.RefRwkvIdeal.nD Cert.RefRwkvIdeal.τ).loc Cert.RefRwkvIdeal.main_arg0)
          ∧ r.2.mem ((c.tc : Thread Cert.RefRwkvIdeal.nD Cert.RefRwkvIdeal.τ).loc Cert.RefRwkvIdeal.main_arg1) = m' ((c.tc : Thread Cert.RefRwkvIdeal.nD Cert.RefRwkvIdeal.τ).loc Cert.RefRwkvIdeal.main_arg1)
          ∧ r.2.mem ((c.tc : Thread Cert.RefRwkvIdeal.nD Cert.RefRwkvIdeal.τ).loc Cert.RefRwkvIdeal.main_arg2) = m' ((c.tc : Thread Cert.RefRwkvIdeal.nD Cert.RefRwkvIdeal.τ).loc Cert.RefRwkvIdeal.main_arg2)
          ∧ r.2.mem ((c.tc : Thread Cert.RefRwkvIdeal.nD Cert.RefRwkvIdeal.τ).loc Cert.RefRwkvIdeal.main_arg3) = m' ((c.tc : Thread Cert.RefRwkvIdeal.nD Cert.RefRwkvIdeal.τ).loc Cert.RefRwkvIdeal.main_arg3)
          ∧ r.2.mem ((c.tc : Thread Cert.RefRwkvIdeal.nD Cert.RefRwkvIdeal.τ).loc Cert.RefRwkvIdeal.main_arg4) = m' ((c.tc : Thread Cert.RefRwkvIdeal.nD Cert.RefRwkvIdeal.τ).loc Cert.RefRwkvIdeal.main_arg4)
          ∧ r.2.mem ((c.tc : Thread Cert.RefRwkvIdeal.nD Cert.RefRwkvIdeal.τ).loc Cert.RefRwkvIdeal.main_arg5) = m' ((c.tc : Thread Cert.RefRwkvIdeal.nD Cert.RefRwkvIdeal.τ).loc Cert.RefRwkvIdeal.main_arg5)
          ∧ r.2.mem ((c.tc : Thread Cert.RefRwkvIdeal.nD Cert.RefRwkvIdeal.τ).loc Cert.RefRwkvIdeal.main_arg6) = m' ((c.tc : Thread Cert.RefRwkvIdeal.nD Cert.RefRwkvIdeal.τ).loc Cert.RefRwkvIdeal.main_arg6)
          ∧ r.2.mem ((c.tc : Thread Cert.RefRwkvIdeal.nD Cert.RefRwkvIdeal.τ).loc Cert.RefRwkvIdeal.main_arg7) = m' ((c.tc : Thread Cert.RefRwkvIdeal.nD Cert.RefRwkvIdeal.τ).loc Cert.RefRwkvIdeal.main_arg7)
          ∧ r.2.mem ((c.tc : Thread Cert.RefRwkvIdeal.nD Cert.RefRwkvIdeal.τ).loc Cert.RefRwkvIdeal.main_arg8) = m' ((c.tc : Thread Cert.RefRwkvIdeal.nD Cert.RefRwkvIdeal.τ).loc Cert.RefRwkvIdeal.main_arg8)
          ∧ r.2.mem ((c.tc : Thread Cert.RefRwkvIdeal.nD Cert.RefRwkvIdeal.τ).loc Cert.RefRwkvIdeal.main_arg9) = m' ((c.tc : Thread Cert.RefRwkvIdeal.nD Cert.RefRwkvIdeal.τ).loc Cert.RefRwkvIdeal.main_arg9)
          ∧ r.2.mem ((c.tc : Thread Cert.RefRwkvIdeal.nD Cert.RefRwkvIdeal.τ).loc Cert.RefRwkvIdeal.main_arg10) = m' ((c.tc : Thread Cert.RefRwkvIdeal.nD Cert.RefRwkvIdeal.τ).loc Cert.RefRwkvIdeal.main_arg10)
          ∧ r.2.mem ((c.tc : Thread Cert.RefRwkvIdeal.nD Cert.RefRwkvIdeal.τ).loc Cert.RefRwkvIdeal.main_arg11) = m' ((c.tc : Thread Cert.RefRwkvIdeal.nD Cert.RefRwkvIdeal.τ).loc Cert.RefRwkvIdeal.main_arg11)
          ∧ r.2.mem ((c.tc : Thread Cert.RefRwkvIdeal.nD Cert.RefRwkvIdeal.τ).loc Cert.RefRwkvIdeal.main_arg12) = m' ((c.tc : Thread Cert.RefRwkvIdeal.nD Cert.RefRwkvIdeal.τ).loc Cert.RefRwkvIdeal.main_arg12)
          ∧ r.2.mem ((c.tc : Thread Cert.RefRwkvIdeal.nD Cert.RefRwkvIdeal.τ).loc Cert.RefRwkvIdeal.main_arg13) = m' ((c.tc : Thread Cert.RefRwkvIdeal.nD Cert.RefRwkvIdeal.τ).loc Cert.RefRwkvIdeal.main_arg13))

def Claim : Prop :=
  ∃ (hGmlp : Cert.Gmlp.Facts) (hGmlpIdeal : Cert.GmlpIdeal.Facts) (hRefGmlpIdeal : Cert.RefGmlpIdeal.Facts) (hFfn : Cert.Ffn.Facts) (hFfnIdeal : Cert.FfnIdeal.Facts) (hRefFfnIdeal : Cert.RefFfnIdeal.Facts) (hFfnNext : Cert.FfnNext.Facts) (hFfnNextIdeal : Cert.FfnNextIdeal.Facts) (hRefFfnNextIdeal : Cert.RefFfnNextIdeal.Facts) (hAttn : Cert.Attn.Facts) (hAttnIdeal : Cert.AttnIdeal.Facts) (hRefAttnIdeal : Cert.RefAttnIdeal.Facts) (hRwkv : Cert.Rwkv.Facts) (hRwkvIdeal : Cert.RwkvIdeal.Facts) (hRefRwkvIdeal : Cert.RefRwkvIdeal.Facts) (hPre_finite_inputs : Cert.Pre_finite_inputs.Facts),
    quiescent_Gmlp (hGmlp := hGmlp)
    ∧ quiescent_GmlpIdeal (hGmlpIdeal := hGmlpIdeal)
    ∧ quiescent_RefGmlpIdeal (hRefGmlpIdeal := hRefGmlpIdeal)
    ∧ quiescent_Ffn (hFfn := hFfn)
    ∧ quiescent_FfnIdeal (hFfnIdeal := hFfnIdeal)
    ∧ quiescent_RefFfnIdeal (hRefFfnIdeal := hRefFfnIdeal)
    ∧ quiescent_FfnNext (hFfnNext := hFfnNext)
    ∧ quiescent_FfnNextIdeal (hFfnNextIdeal := hFfnNextIdeal)
    ∧ quiescent_RefFfnNextIdeal (hRefFfnNextIdeal := hRefFfnNextIdeal)
    ∧ quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_RefAttnIdeal (hRefAttnIdeal := hRefAttnIdeal)
    ∧ quiescent_RefAttnIdeal_pre_finite_inputs (hRefAttnIdeal := hRefAttnIdeal) (hPre_finite_inputs := hPre_finite_inputs)
    ∧ quiescent_Rwkv (hRwkv := hRwkv)
    ∧ quiescent_RwkvIdeal (hRwkvIdeal := hRwkvIdeal)
    ∧ quiescent_RefRwkvIdeal (hRefRwkvIdeal := hRefRwkvIdeal)
    ∧ preserves_Gmlp_GmlpIdeal
    ∧ algebraic_GmlpIdeal_RefGmlpIdeal (hGmlpIdeal := hGmlpIdeal) (hRefGmlpIdeal := hRefGmlpIdeal)
    ∧ preserves_Ffn_FfnIdeal
    ∧ algebraic_FfnIdeal_RefFfnIdeal (hFfnIdeal := hFfnIdeal) (hRefFfnIdeal := hRefFfnIdeal)
    ∧ preserves_FfnNext_FfnNextIdeal
    ∧ algebraic_FfnNextIdeal_RefFfnNextIdeal (hFfnNextIdeal := hFfnNextIdeal) (hRefFfnNextIdeal := hRefFfnNextIdeal)
    ∧ preserves_Attn_AttnIdeal
    ∧ algebraic_AttnIdeal_RefAttnIdeal_pre_finite_inputs (hAttnIdeal := hAttnIdeal) (hRefAttnIdeal := hRefAttnIdeal) (hPre_finite_inputs := hPre_finite_inputs)
    ∧ preserves_Rwkv_RwkvIdeal
    ∧ algebraic_RwkvIdeal_RefRwkvIdeal (hRwkvIdeal := hRwkvIdeal) (hRefRwkvIdeal := hRefRwkvIdeal)
-- ==== Pre_finite_inputs.lean ====
abbrev S2x16384x2048 : Shape := ⟨3, ![2, 16384, 2048]⟩
abbrev S2048 : Shape := ⟨1, ![2048]⟩
abbrev S2048x4896 : Shape := ⟨2, ![2048, 4896]⟩
abbrev S1536 : Shape := ⟨1, ![1536]⟩
abbrev S2x16384x1024 : Shape := ⟨3, ![2, 16384, 1024]⟩
abbrev S16 : Shape := ⟨1, ![16]⟩
abbrev S2048x2048 : Shape := ⟨2, ![2048, 2048]⟩
abbrev S_ : Shape := ⟨0, ![]⟩

class Facts : Prop where
  bcast_S_S2x16384x2048 : S_.BroadcastsInDim S2x16384x2048 (![] : Fin 0 → Fin S2x16384x2048.rank)
  bcast_S_S2048 : S_.BroadcastsInDim S2048 (![] : Fin 0 → Fin S2048.rank)
  bcast_S_S2048x4896 : S_.BroadcastsInDim S2048x4896 (![] : Fin 0 → Fin S2048x4896.rank)
  bcast_S_S1536 : S_.BroadcastsInDim S1536 (![] : Fin 0 → Fin S1536.rank)
  bcast_S_S16 : S_.BroadcastsInDim S16 (![] : Fin 0 → Fin S16.rank)

variable [Facts]

def fn {F : FTy → Type} [FloatOps F] (main_arg0 : FVec F S2x16384x2048 .f32) (main_arg1 : FVec F S2048 .f32) (main_arg2 : FVec F S2048x4896 .f32) (main_arg3 : FVec F S1536 .f32) (main_arg4 : FVec F S2x16384x1024 .bf16) (main_arg5 : FVec F S16 .f32) (main_arg6 : FVec F S2048x2048 .f32) : IVec S2x16384x2048 1 × IVec S2048 1 × IVec S2048x4896 1 × IVec S1536 1 × IVec S16 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x4896 .f32 := Host.absf main_arg2
  let main_cst_1 : FVec F S_ .f32 := constant S_ .f32 0x7F800000#32
  let main_v7 : FVec F S2048x4896 .f32 := broadcastInDim S2048x4896 ![] bcast_S_S2048x4896 main_cst_1
  let main_v8 : IVec S2048x4896 1 := cmpf .olt main_v6 main_v7
  let main_v9 : FVec F S1536 .f32 := Host.absf main_arg3
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_v12 : FVec F S16 .f32 := Host.absf main_arg5
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Gmlp.lean ====
abbrev S2x16384x2048 : Shape := ⟨3, ![2, 16384, 2048]⟩
abbrev S2048 : Shape := ⟨1, ![2048]⟩
abbrev S2048x4096 : Shape := ⟨2, ![2048, 4096]⟩
abbrev S16x128x128 : Shape := ⟨3, ![16, 128, 128]⟩
abbrev S16x128 : Shape := ⟨2, ![16, 128]⟩
abbrev S2048x2048 : Shape := ⟨2, ![2048, 2048]⟩
abbrev S32768x2048 : Shape := ⟨2, ![32768, 2048]⟩
abbrev S128x128 : Shape := ⟨2, ![128, 128]⟩
abbrev S_ : Shape := ⟨0, ![]⟩
abbrev S16x128x1 : Shape := ⟨3, ![16, 128, 1]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 25
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4096, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x2048, .f32⟩
  | .hbm, ⟨7, _⟩ => ⟨S32768x2048, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S16x128x128, .i1⟩
  | .hbm, ⟨15, _⟩ => ⟨S_, .f32⟩
  | .hbm, ⟨16, _⟩ => ⟨S16x128x128, .f32⟩
  | .hbm, ⟨17, _⟩ => ⟨S16x128x128, .f32⟩
  | .hbm, ⟨18, _⟩ => ⟨S16x128x128, .bf16⟩
  | .hbm, ⟨19, _⟩ => ⟨S2048x4096, .bf16⟩
  | .hbm, ⟨20, _⟩ => ⟨S16x128x1, .f32⟩
  | .hbm, ⟨21, _⟩ => ⟨S2048x2048, .bf16⟩
  | .hbm, ⟨22, _⟩ => ⟨S1x2048, .f32⟩
  | .hbm, ⟨23, _⟩ => ⟨S1x2048, .f32⟩
  | .hbm, ⟨24, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S1x2048, .f32⟩
  | .local _ .vmem, ⟨5, _⟩ => ⟨S16x128x128, .bf16⟩
  | .local _ .vmem, ⟨6, _⟩ => ⟨S16x128x1, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_cst : Ref sig .tc := ⟨.hbm, 15, rfl⟩
abbrev main_call0_v6 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefGmlpIdeal.lean ====
abbrev S2x16384x2048 : Shape := ⟨3, ![2, 16384, 2048]⟩
abbrev S2048 : Shape := ⟨1, ![2048]⟩
abbrev S2048x4096 : Shape := ⟨2, ![2048, 4096]⟩
abbrev S16x128x128 : Shape := ⟨3, ![16, 128, 128]⟩
abbrev S16x128 : Shape := ⟨2, ![16, 128]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4096 : Shape := ⟨3, ![2, 16384, 4096]⟩
abbrev S2x128x128x16x128 : Shape := ⟨5, ![2, 128, 128, 16, 128]⟩
abbrev S128x128 : Shape := ⟨2, ![128, 128]⟩
abbrev S16x2x128x128x128 : Shape := ⟨5, ![16, 2, 128, 128, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S32768x2048 : Shape := ⟨2, ![32768, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4096, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x2048, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S1x1x2048, .f32⟩
  | .hbm, ⟨21, _⟩ => ⟨S2x16384x2048, .f32⟩
  | .hbm, ⟨22, _⟩ => ⟨S2x16384x2048, .f32⟩
  | .hbm, ⟨23, _⟩ => ⟨S2x16384x4096, .f32⟩
  | .hbm, ⟨24, _⟩ => ⟨S_, .f32⟩
  | .hbm, ⟨25, _⟩ => ⟨S2x16384x4096, .f32⟩
  | .hbm, ⟨26, _⟩ => ⟨S2x16384x4096, .f32⟩
  | .hbm, ⟨27, _⟩ => ⟨S2x16384x4096, .f32⟩
  | .hbm, ⟨28, _⟩ => ⟨S_, .f32⟩
  | .hbm, ⟨29, _⟩ => ⟨S2x16384x4096, .f32⟩
  | .hbm, ⟨30, _⟩ => ⟨S2x16384x4096, .f32⟩
  | .hbm, ⟨31, _⟩ => ⟨S2x16384x4096, .f32⟩
  | .hbm, ⟨32, _⟩ => ⟨S2x16384x4096, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x2048, .f32⟩
  | .hbm, ⟨47, _⟩ => ⟨S2x16384x2048, .f32⟩
  | .hbm, ⟨48, _⟩ => ⟨S1x1x2048, .f32⟩
  | .hbm, ⟨49, _⟩ => ⟨S2x16384x2048, .f32⟩
  | .hbm, ⟨50, _⟩ => ⟨S2x16384x2048, .f32⟩
  | .hbm, ⟨51, _⟩ => ⟨S2x128x128x16x128, .f32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S16x128x128, .i1⟩
  | .hbm, ⟨59, _⟩ => ⟨S_, .f32⟩
  | .hbm, ⟨60, _⟩ => ⟨S16x128x128, .f32⟩
  | .hbm, ⟨61, _⟩ => ⟨S16x128x128, .f32⟩
  | .hbm, ⟨62, _⟩ => ⟨S16x2x128x128x128, .f32⟩
  | .hbm, ⟨63, _⟩ => ⟨S2x128x128x16x128, .f32⟩
  | .hbm, ⟨64, _⟩ => ⟨S128x16, .f32⟩
  | .hbm, ⟨65, _⟩ => ⟨S128x16x1, .f32⟩
  | .hbm, ⟨66, _⟩ => ⟨S1x1x128x16x1, .f32⟩
  | .hbm, ⟨67, _⟩ => ⟨S2x128x128x16x128, .f32⟩
  | .hbm, ⟨68, _⟩ => ⟨S2x128x128x16x128, .f32⟩
  | .hbm, ⟨69, _⟩ => ⟨S2x16384x2048, .f32⟩
  | .hbm, ⟨70, _⟩ => ⟨S2x16384x2048, .f32⟩
  | .hbm, ⟨71, _⟩ => ⟨S2x16384x2048, .f32⟩
  | .hbm, ⟨72, _⟩ => ⟨S2x16384x2048, .f32⟩
  | .hbm, ⟨73, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_cst : Ref sig .tc := ⟨.hbm, 59, rfl⟩
abbrev main_call0_v6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Ffn.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefFfnIdeal.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x5632, .f32⟩
  | .hbm, ⟨23, _⟩ => ⟨S2x16384x5632, .f32⟩
  | .hbm, ⟨24, _⟩ => ⟨S2x16384x5632, .f32⟩
  | .hbm, ⟨25, _⟩ => ⟨S_, .f32⟩
  | .hbm, ⟨26, _⟩ => ⟨S2x16384x5632, .f32⟩
  | .hbm, ⟨27, _⟩ => ⟨S2x16384x5632, .f32⟩
  | .hbm, ⟨28, _⟩ => ⟨S_, .f32⟩
  | .hbm, ⟨29, _⟩ => ⟨S2x16384x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S2x16384x2048, .f32⟩
  | .hbm, ⟨35, _⟩ => ⟨S_, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S2x16384x2048, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x2048, .f32⟩
  | .hbm, ⟨51, _⟩ => ⟨S2x16384x2048, .f32⟩
  | .hbm, ⟨52, _⟩ => ⟨S1x1x2048, .f32⟩
  | .hbm, ⟨53, _⟩ => ⟨S2x16384x2048, .f32⟩
  | .hbm, ⟨54, _⟩ => ⟨S2x16384x2048, .f32⟩
  | .hbm, ⟨55, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== FfnNext.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S4x2x2048x5632 : Shape := ⟨4, ![4, 2, 2048, 5632]⟩
abbrev S4x2x5632x2048 : Shape := ⟨4, ![4, 2, 5632, 2048]⟩
abbrev S32768x2048 : Shape := ⟨2, ![32768, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1x1x64x512 : Shape := ⟨4, ![1, 1, 64, 512]⟩
abbrev S1x1x16x2048 : Shape := ⟨4, ![1, 1, 16, 2048]⟩
abbrev S64x512 : Shape := ⟨2, ![64, 512]⟩
abbrev S16x2048 : Shape := ⟨2, ![16, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩

abbrev nBuf : Space → Nat
  | .hbm => 17
  | .vmem => 24
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4x2x2048x5632, .f32⟩
  | .hbm, ⟨6, _⟩ => ⟨S4x2x2048x5632, .f32⟩
  | .hbm, ⟨7, _⟩ => ⟨S4x2x5632x2048, .f32⟩
  | .hbm, ⟨8, _⟩ => ⟨S32768x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S1x2048, .f32⟩
  | .hbm, ⟨13, _⟩ => ⟨S32768x2048, .f32⟩
  | .hbm, ⟨14, _⟩ => ⟨S2048x5632, .bf16⟩
  | .hbm, ⟨15, _⟩ => ⟨S2048x5632, .bf16⟩
  | .hbm, ⟨16, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x1x64x512, .f32⟩
  | .local _ .vmem, ⟨10, _⟩ => ⟨S1x1x64x512, .f32⟩
  | .local _ .vmem, ⟨11, _⟩ => ⟨S1x1x64x512, .f32⟩
  | .local _ .vmem, ⟨12, _⟩ => ⟨S1x1x64x512, .f32⟩
  | .local _ .vmem, ⟨13, _⟩ => ⟨S1x1x16x2048, .f32⟩
  | .local _ .vmem, ⟨14, _⟩ => ⟨S1x1x16x2048, .f32⟩
  | .local _ .vmem, ⟨15, _⟩ => ⟨S1024x2048, .f32⟩
  | .local _ .vmem, ⟨16, _⟩ => ⟨S1024x2048, .f32⟩
  | .local _ .vmem, ⟨17, _⟩ => ⟨S64x512, .bf16⟩
  | .local _ .vmem, ⟨18, _⟩ => ⟨S64x512, .bf16⟩
  | .local _ .vmem, ⟨19, _⟩ => ⟨S64x512, .bf16⟩
  | .local _ .vmem, ⟨20, _⟩ => ⟨S64x512, .bf16⟩
  | .local _ .vmem, ⟨21, _⟩ => ⟨S16x2048, .bf16⟩
  | .local _ .vmem, ⟨22, _⟩ => ⟨S16x2048, .bf16⟩
  | .local _ .vmem, ⟨23, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat, arg1.toNat]

def cc0_transform_7 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c1_i32 : BitVec 32 := 1#32
  let c0_i32_0 : BitVec 32 := 0#32
  let c0_i32_1 : BitVec 32 := 0#32
  ![c0_i32.toNat, c1_i32.toNat, v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RefFfnNextIdeal.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S4x2x2048x5632 : Shape := ⟨4, ![4, 2, 2048, 5632]⟩
abbrev S4x2x5632x2048 : Shape := ⟨4, ![4, 2, 5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩
abbrev S1x1x2048x5632 : Shape := ⟨4, ![1, 1, 2048, 5632]⟩
abbrev S1x1x5632x2048 : Shape := ⟨4, ![1, 1, 5632, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4x2x2048x5632, .f32⟩
  | .hbm, ⟨6, _⟩ => ⟨S4x2x2048x5632, .f32⟩
  | .hbm, ⟨7, _⟩ => ⟨S4x2x5632x2048, .f32⟩
  | .hbm, ⟨8, _⟩ => ⟨S2x16384x2048, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x2048, .f32⟩
  | .hbm, ⟨20, _⟩ => ⟨S2x16384x2048, .f32⟩
  | .hbm, ⟨21, _⟩ => ⟨S1x1x2048, .f32⟩
  | .hbm, ⟨22, _⟩ => ⟨S2x16384x2048, .f32⟩
  | .hbm, ⟨23, _⟩ => ⟨S2x16384x2048, .f32⟩
  | .hbm, ⟨24, _⟩ => ⟨S2x16384x5632, .f32⟩
  | .hbm, ⟨25, _⟩ => ⟨S2x16384x5632, .f32⟩
  | .hbm, ⟨26, _⟩ => ⟨S2x16384x5632, .f32⟩
  | .hbm, ⟨27, _⟩ => ⟨S_, .f32⟩
  | .hbm, ⟨28, _⟩ => ⟨S2x16384x5632, .f32⟩
  | .hbm, ⟨29, _⟩ => ⟨S2x16384x5632, .f32⟩
  | .hbm, ⟨30, _⟩ => ⟨S_, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S2x16384x5632, .f32⟩
  | .hbm, ⟨35, _⟩ => ⟨S2x16384x5632, .f32⟩
  | .hbm, ⟨36, _⟩ => ⟨S2x16384x2048, .f32⟩
  | .hbm, ⟨37, _⟩ => ⟨S_, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S32768x2048, .f32⟩
  | .hbm, ⟨42, _⟩ => ⟨S1x1x2048x5632, .f32⟩
  | .hbm, ⟨43, _⟩ => ⟨S2048x5632, .f32⟩
  | .hbm, ⟨44, _⟩ => ⟨S2048x5632, .bf16⟩
  | .hbm, ⟨45, _⟩ => ⟨S1x1x2048x5632, .f32⟩
  | .hbm, ⟨46, _⟩ => ⟨S2048x5632, .f32⟩
  | .hbm, ⟨47, _⟩ => ⟨S2048x5632, .bf16⟩
  | .hbm, ⟨48, _⟩ => ⟨S1x1x5632x2048, .f32⟩
  | .hbm, ⟨49, _⟩ => ⟨S5632x2048, .f32⟩
  | .hbm, ⟨50, _⟩ => ⟨S5632x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Attn.lean ====
abbrev S2x16384x2048 : Shape := ⟨3, ![2, 16384, 2048]⟩
abbrev S2048 : Shape := ⟨1, ![2048]⟩
abbrev S2048x4896 : Shape := ⟨2, ![2048, 4896]⟩
abbrev S1536 : Shape := ⟨1, ![1536]⟩
abbrev S2x16384x1024 : Shape := ⟨3, ![2, 16384, 1024]⟩
abbrev S16 : Shape := ⟨1, ![16]⟩
abbrev S2048x2048 : Shape := ⟨2, ![2048, 2048]⟩
abbrev S32768x2048 : Shape := ⟨2, ![32768, 2048]⟩
abbrev S32768x1024 : Shape := ⟨2, ![32768, 1024]⟩
abbrev S1x2048 : Shape := ⟨2, ![1, 2048]⟩
abbrev S2048x1536 : Shape := ⟨2, ![2048, 1536]⟩
abbrev S1x1536 : Shape := ⟨2, ![1, 1536]⟩
abbrev S1024x2048 : Shape := ⟨2, ![1024, 2048]⟩
abbrev S512x2048 : Shape := ⟨2, ![512, 2048]⟩
abbrev S512x1024 : Shape := ⟨2, ![512, 1024]⟩
abbrev S1024x512 : Shape := ⟨2, ![1024, 512]⟩
abbrev S512x1536 : Shape := ⟨2, ![512, 1536]⟩
abbrev S128x512 : Shape := ⟨2, ![128, 512]⟩
abbrev S512 : Shape := ⟨1, ![512]⟩
abbrev S512x1 : Shape := ⟨2, ![512, 1]⟩
abbrev S128x256 : Shape := ⟨2, ![128, 256]⟩
abbrev S128x1024 : Shape := ⟨2, ![128, 1024]⟩
abbrev S128x128 : Shape := ⟨2, ![128, 128]⟩
abbrev S256x256 : Shape := ⟨2, ![256, 256]⟩
abbrev S256x64 : Shape := ⟨2, ![256, 64]⟩
abbrev S128x64 : Shape := ⟨2, ![128, 64]⟩
abbrev S256x128 : Shape := ⟨2, ![256, 128]⟩
abbrev S128 : Shape := ⟨1, ![128]⟩
abbrev S1x128 : Shape := ⟨2, ![1, 128]⟩
abbrev S1 : Shape := ⟨1, ![1]⟩
abbrev S64x128 : Shape := ⟨2, ![64, 128]⟩

abbrev nBuf : Space → Nat
  | .hbm => 17
  | .vmem => 14
  | .smem => 1
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4896, .f32⟩
  | .hbm, ⟨3, _⟩ => ⟨S1536, .f32⟩
  | .hbm, ⟨4, _⟩ => ⟨S2x16384x1024, .bf16⟩
  | .hbm, ⟨5, _⟩ => ⟨S16, .f32⟩
  | .hbm, ⟨6, _⟩ => ⟨S2048x2048, .f32⟩
  | .hbm, ⟨7, _⟩ => ⟨S32768x2048, .f32⟩
  | .hbm, ⟨8, _⟩ => ⟨S32768x1024, .bf16⟩
  | .hbm, ⟨9, _⟩ => ⟨S1x2048, .f32⟩
  | .hbm, ⟨10, _⟩ => ⟨S2048x1536, .f32⟩
  | .hbm, ⟨11, _⟩ => ⟨S2048x1536, .bf16⟩
  | .hbm, ⟨12, _⟩ => ⟨S2048x2048, .bf16⟩
  | .hbm, ⟨13, _⟩ => ⟨S1x1536, .f32⟩
  | .hbm, ⟨14, _⟩ => ⟨S1024x2048, .bf16⟩
  | .hbm, ⟨15, _⟩ => ⟨S1024x2048, .bf16⟩
  | .hbm, ⟨16, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S1x2048, .f32⟩
  | .local _ .vmem, ⟨5, _⟩ => ⟨S2048x1536, .bf16⟩
  | .local _ .vmem, ⟨6, _⟩ => ⟨S1x1536, .f32⟩
  | .local _ .vmem, ⟨7, _⟩ => ⟨S1024x2048, .bf16⟩
  | .local _ .vmem, ⟨8, _⟩ => ⟨S1024x2048, .bf16⟩
  | .local _ .vmem, ⟨9, _⟩ => ⟨S512x2048, .f32⟩
  | .local _ .vmem, ⟨10, _⟩ => ⟨S512x2048, .f32⟩
  | .local _ .vmem, ⟨11, _⟩ => ⟨S1024x512, .bf16⟩
  | .local _ .vmem, ⟨12, _⟩ => ⟨S512x1536, .f32⟩
  | .local _ .vmem, ⟨13, _⟩ => ⟨S128x512, .f32⟩
  | .local _ .smem, ⟨0, _⟩ => ⟨S16, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | "slope1" => some (((Real.sqrt 2)⁻¹ : ℝ) : EReal)
  | "slope11" => some (((Real.sqrt 2048)⁻¹ : ℝ) : EReal)
  | "slope13" => some (((Real.sqrt 8192)⁻¹ : ℝ) : EReal)
  | "slope15" => some (((Real.sqrt 32768)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | "slope9" => some (((Real.sqrt 512)⁻¹ : ℝ) : EReal)
  | _ => none
-- ==== RefAttnIdeal.lean ====
abbrev S2x16384x2048 : Shape := ⟨3, ![2, 16384, 2048]⟩
abbrev S2048 : Shape := ⟨1, ![2048]⟩
abbrev S2048x4896 : Shape := ⟨2, ![2048, 4896]⟩
abbrev S1536 : Shape := ⟨1, ![1536]⟩
abbrev S2x16384x1024 : Shape := ⟨3, ![2, 16384, 1024]⟩
abbrev S16 : Shape := ⟨1, ![16]⟩
abbrev S2048x2048 : Shape := ⟨2, ![2048, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048x1536 : Shape := ⟨2, ![2048, 1536]⟩
abbrev S2x16384x1536 : Shape := ⟨3, ![2, 16384, 1536]⟩
abbrev S1x1x1536 : Shape := ⟨3, ![1, 1, 1536]⟩
abbrev S2x16384x16x64 : Shape := ⟨4, ![2, 16384, 16, 64]⟩
abbrev S2x16384x256 : Shape := ⟨3, ![2, 16384, 256]⟩
abbrev S2x16384x4x64 : Shape := ⟨4, ![2, 16384, 4, 64]⟩
abbrev S2x128x128x4x4x64 : Shape := ⟨6, ![2, 128, 128, 4, 4, 64]⟩
abbrev S2x128x128x4x64 : Shape := ⟨5, ![2, 128, 128, 4, 64]⟩
abbrev S2x129x128x4x64 : Shape := ⟨5, ![2, 129, 128, 4, 64]⟩
abbrev S2x128x256x4x64 : Shape := ⟨5, ![2, 128, 256, 4, 64]⟩
abbrev S2x128x4x256x128x4 : Shape := ⟨6, ![2, 128, 4, 256, 128, 4]⟩
abbrev S2x128x4x4x128x256 : Shape := ⟨6, ![2, 128, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x1x4x4x128x256 : Shape := ⟨6, ![1, 1, 4, 4, 128, 256]⟩
abbrev S1x128x256 : Shape := ⟨3, ![1, 128, 256]⟩
abbrev S128x1x256 : Shape := ⟨3, ![128, 1, 256]⟩
abbrev S128x128x256 : Shape := ⟨3, ![128, 128, 256]⟩
abbrev S1x128x1x1x128x256 : Shape := ⟨6, ![1, 128, 1, 1, 128, 256]⟩
abbrev S2x128x4x4x128 : Shape := ⟨5, ![2, 128, 4, 4, 128]⟩
abbrev S2x128x4x4x128x1 : Shape := ⟨6, ![2, 128, 4, 4, 128, 1]⟩
abbrev S1x1x4x4x1x1 : Shape := ⟨6, ![1, 1, 4, 4, 1, 1]⟩
abbrev S2x128x4x64x4x128 : Shape := ⟨6, ![2, 128, 4, 64, 4, 128]⟩
abbrev S32768x2048 : Shape := ⟨2, ![32768, 2048]⟩

abbrev nBuf : Space → Nat
  | .hbm => 148
  | .vmem => 0
  | .smem => 0
  | _ => 0

abbrev hbmTy0_0 (i : Nat) : BufTy := match i % 128 with
  | 0 => ⟨S2x16384x2048, .f32⟩
  | 1 => ⟨S2048, .f32⟩
  | 2 => ⟨S2048x4896, .f32⟩
  | 3 => ⟨S1536, .f32⟩
  | 4 => ⟨S2x16384x1024, .bf16⟩
  | 5 => ⟨S16, .f32⟩
  | 6 => ⟨S2048x2048, .f32⟩
  | 7 => ⟨S2x16384x2048, .f32⟩
  | 8 => ⟨S_, .f32⟩
  | 9 => ⟨S2x16384, .f32⟩
  | 10 => ⟨S2x16384x1, .f32⟩
  | 11 => ⟨S_, .f32⟩
  | 12 => ⟨S2x16384x1, .f32⟩
  | 13 => ⟨S2x16384x1, .f32⟩
  | 14 => ⟨S_, .f32⟩
  | 15 => ⟨S2x16384x1, .f32⟩
  | 16 => ⟨S2x16384x1, .f32⟩
  | 17 => ⟨S2x16384x1, .f32⟩
  | 18 => ⟨S2x16384x2048, .f32⟩
  | 19 => ⟨S2x16384x2048, .f32⟩
  | 20 => ⟨S1x1x2048, .f32⟩
  | 21 => ⟨S2x16384x2048, .f32⟩
  | 22 => ⟨S2x16384x2048, .f32⟩
  | 23 => ⟨S2048x1536, .f32⟩
  | 24 => ⟨S2x16384x1536, .f32⟩
  | 25 => ⟨S1x1x1536, .f32⟩
  | 26 => ⟨S2x16384x1536, .f32⟩
  | 27 => ⟨S2x16384x1536, .f32⟩
  | 28 => ⟨S2x16384x1024, .f32⟩
  | 29 => ⟨S2x16384x16x64, .f32⟩
  | 30 => ⟨S2x16384x256, .f32⟩
  | 31 => ⟨S2x16384x4x64, .f32⟩
  | 32 => ⟨S2x16384x256, .f32⟩
  | 33 => ⟨S2x16384x4x64, .f32⟩
  | 34 => ⟨S2x128x128x4x4x64, .f32⟩
  | 35 => ⟨S2x128x128x4x64, .f32⟩
  | 36 => ⟨S_, .i32⟩
  | 37 => ⟨S_, .f32⟩
  | 38 => ⟨S2x129x128x4x64, .f32⟩
  | 39 => ⟨S2x128x128x4x64, .f32⟩
  | 40 => ⟨S2x128x256x4x64, .f32⟩
  | 41 => ⟨S2x128x128x4x64, .f32⟩
  | 42 => ⟨S_, .i32⟩
  | 43 => ⟨S_, .f32⟩
  | 44 => ⟨S2x129x128x4x64, .f32⟩
  | 45 => ⟨S2x128x128x4x64, .f32⟩
  | 46 => ⟨S2x128x256x4x64, .f32⟩
  | 47 => ⟨S2x128x4x256x128x4, .f32⟩
  | 48 => ⟨S2x128x4x4x128x256, .f32⟩
  | 49 => ⟨S_, .f32⟩
  | 50 => ⟨S2x128x4x4x128x256, .f32⟩
  | 51 => ⟨S2x128x4x4x128x256, .f32⟩
  | 52 => ⟨S128, .i32⟩
  | 53 => ⟨S128x1, .i32⟩
  | 54 => ⟨S_, .i32⟩
  | 55 => ⟨S128x1, .i32⟩
  | 56 => ⟨S128x1, .i32⟩
  | 57 => ⟨S256, .i32⟩
  | 58 => ⟨S1x256, .i32⟩
  | 59 => ⟨S128x256, .i32⟩
  | 60 => ⟨S128x256, .i32⟩
  | 61 => ⟨S128x256, .i32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S4x4, .f32⟩
  | 76 => ⟨S4x4x1x1, .f32⟩
  | 77 => ⟨S128x256, .f32⟩
  | 78 => ⟨S1x1x128x256, .f32⟩
  | 79 => ⟨S4x4x128x256, .f32⟩
  | 80 => ⟨S4x4x128x256, .f32⟩
  | 81 => ⟨S4x4x128x256, .f32⟩
  | 82 => ⟨S1x1x4x4x128x256, .f32⟩
  | 83 => ⟨S2x128x4x4x128x256, .f32⟩
  | 84 => ⟨S2x128x4x4x128x256, .f32⟩
  | 85 => ⟨S128, .i32⟩
  | 86 => ⟨S128x1, .i32⟩
  | 87 => ⟨S_, .i32⟩
  | 88 => ⟨S128x1, .i32⟩
  | 89 => ⟨S128x1, .i32⟩
  | 90 => ⟨S_, .i32⟩
  | 91 => ⟨S128x1, .i32⟩
  | 92 => ⟨S128x1, .i32⟩
  | 93 => ⟨S256, .i32⟩
  | 94 => ⟨S1x256, .i32⟩
  | 95 => ⟨S128x256, .i32⟩
  | 96 => ⟨S128x256, .i32⟩
  | 97 => ⟨S128x256, .i32⟩
  | 98 => ⟨S_, .i32⟩
  | 99 => ⟨S128x256, .i32⟩
  | 100 => ⟨S128x256, .i1⟩
  | 101 => ⟨S_, .i32⟩
  | 102 => ⟨S128x256, .i32⟩
  | 103 => ⟨S128x256, .i1⟩
  | 104 => ⟨S128x256, .i1⟩
  | 105 => ⟨S1x128x256, .i1⟩
  | 106 => ⟨S_, .i32⟩
  | 107 => ⟨S128x256, .i32⟩
  | 108 => ⟨S128x256, .i1⟩
  | 109 => ⟨S128x1x256, .i1⟩
  | 110 => ⟨S128x128x256, .i1⟩
  | 111 => ⟨S128x128x256, .i1⟩
  | 112 => ⟨S128x128x256, .i1⟩
  | 113 => ⟨S1x128x1x1x128x256, .i1⟩
  | 114 => ⟨S_, .f32⟩
  | 115 => ⟨S_, .f32⟩
  | 116 => ⟨S2x128x4x4x128x256, .i1⟩
  | 117 => ⟨S2x128x4x4x128x256, .f32⟩
  | 118 => ⟨S2x128x4x4x128x256, .f32⟩
  | 119 => ⟨S4x4, .f32⟩
  | 120 => ⟨S4x4x1x1, .f32⟩
  | 121 => ⟨S_, .f32⟩
  | 122 => ⟨S2x128x4x4x128, .f32⟩
  | 123 => ⟨S2x128x4x4x128x1, .f32⟩
  | 124 => ⟨S1x1x4x4x1x1, .f32⟩
  | 125 => ⟨S2x128x4x4x128x1, .f32⟩
  | 126 => ⟨S2x128x4x4x128x1, .f32⟩
  | 127 => ⟨S2x128x4x4x128x256, .f32⟩
  | _ => ⟨S2x16384x2048, .f32⟩

abbrev hbmTy0_1 (i : Nat) : BufTy := match i % 128 with
  | 0 => ⟨S2x128x4x4x128x256, .f32⟩
  | 1 => ⟨S2x128x4x4x128x256, .f32⟩
  | 2 => ⟨S_, .f32⟩
  | 3 => ⟨S2x128x4x4x128, .f32⟩
  | 4 => ⟨S2x128x4x4x128x1, .f32⟩
  | 5 => ⟨S1x1x4x4x1x1, .f32⟩
  | 6 => ⟨S2x128x4x4x128x1, .f32⟩
  | 7 => ⟨S2x128x4x4x128x1, .f32⟩
  | 8 => ⟨S2x128x4x4x128x1, .f32⟩
  | 9 => ⟨S2x128x4x4x128x1, .f32⟩
  | 10 => ⟨S2x128x4x4x128x256, .f32⟩
  | 11 => ⟨S2x128x4x4x128x256, .f32⟩
  | 12 => ⟨S2x128x4x64x4x128, .f32⟩
  | 13 => ⟨S2x128x128x4x4x64, .f32⟩
  | 14 => ⟨S2x16384x1024, .f32⟩
  | 15 => ⟨S2x16384x1024, .f32⟩
  | 16 => ⟨S2x16384x2048, .f32⟩
  | 17 => ⟨S2x16384x2048, .f32⟩
  | 18 => ⟨S2x16384x2048, .f32⟩
  | 19 => ⟨S32768x2048, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_9 : Ref sig .tc := ⟨.hbm, 87, rfl⟩
abbrev main_v67 : Ref sig .tc := ⟨.hbm, 88, rfl⟩
abbrev main_v68 : Ref sig .tc := ⟨.hbm, 89, rfl⟩
abbrev main_c_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_11 : Ref sig .tc := ⟨.hbm, 98, rfl⟩
abbrev main_v76 : Ref sig .tc := ⟨.hbm, 99, rfl⟩
abbrev main_v77 : Ref sig .tc := ⟨.hbm, 100, rfl⟩
abbrev main_c_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_13 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_14 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_15 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_16 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩

abbrev nD : Nat := 1
abbrev τ : Topo := Topo.v7x

variable {F : FTy → Type} [FloatOps F]
-- ==== Rwkv.lean ====
abbrev S2x16384x2048 : Shape := ⟨3, ![2, 16384, 2048]⟩
abbrev S2048 : Shape := ⟨1, ![2048]⟩
abbrev S2048x4896 : Shape := ⟨2, ![2048, 4896]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S32768x2048 : Shape := ⟨2, ![32768, 2048]⟩
abbrev S1x2048 : Shape := ⟨2, ![1, 2048]⟩
abbrev S2048x3360 : Shape := ⟨2, ![2048, 3360]⟩
abbrev S_ : Shape := ⟨0, ![]⟩
abbrev S2048x3456 : Shape := ⟨2, ![2048, 3456]⟩
abbrev S288 : Shape := ⟨1, ![288]⟩
abbrev S384 : Shape := ⟨1, ![384]⟩
abbrev S384x1024 : Shape := ⟨2, ![384, 1024]⟩
abbrev S1x1024 : Shape := ⟨2, ![1, 1024]⟩
abbrev S1x384 : Shape := ⟨2, ![1, 384]⟩
abbrev S32768x1024 : Shape := ⟨2, ![32768, 1024]⟩
abbrev S256x2048 : Shape := ⟨2, ![256, 2048]⟩
abbrev S256x1024 : Shape := ⟨2, ![256, 1024]⟩
abbrev S8x128x128 : Shape := ⟨3, ![8, 128, 128]⟩
abbrev S8x3456 : Shape := ⟨2, ![8, 3456]⟩
abbrev S256x1 : Shape := ⟨2, ![256, 1]⟩
abbrev S256 : Shape := ⟨1, ![256]⟩
abbrev S2048x384 : Shape := ⟨2, ![2048, 384]⟩
abbrev S256x384 : Shape := ⟨2, ![256, 384]⟩
abbrev S8x384 : Shape := ⟨2, ![8, 384]⟩
abbrev S1x256 : Shape := ⟨2, ![1, 256]⟩
abbrev S2048x256 : Shape := ⟨2, ![2048, 256]⟩
abbrev S256x256 : Shape := ⟨2, ![256, 256]⟩
abbrev S8x256 : Shape := ⟨2, ![8, 256]⟩
abbrev S384x256 : Shape := ⟨2, ![384, 256]⟩
abbrev S64x64 : Shape := ⟨2, ![64, 64]⟩
abbrev S64x128 : Shape := ⟨2, ![64, 128]⟩
abbrev S128x128 : Shape := ⟨2, ![128, 128]⟩
abbrev S64x256 : Shape := ⟨2, ![64, 256]⟩
abbrev S1x128 : Shape := ⟨2, ![1, 128]⟩
abbrev S256x128 : Shape := ⟨2, ![256, 128]⟩
abbrev S1x128x128 : Shape := ⟨3, ![1, 128, 128]⟩

abbrev nBuf : Space → Nat
  | .hbm => 54
  | .vmem => 33
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4896, .f32⟩
  | .hbm, ⟨3, _⟩ => ⟨S3360, .f32⟩
  | .hbm, ⟨4, _⟩ => ⟨S1024, .f32⟩
  | .hbm, ⟨5, _⟩ => ⟨S64x1024, .f32⟩
  | .hbm, ⟨6, _⟩ => ⟨S1024, .f32⟩
  | .hbm, ⟨7, _⟩ => ⟨S64x1024, .f32⟩
  | .hbm, ⟨8, _⟩ => ⟨S160x1024, .f32⟩
  | .hbm, ⟨9, _⟩ => ⟨S1024, .f32⟩
  | .hbm, ⟨10, _⟩ => ⟨S1024, .f32⟩
  | .hbm, ⟨11, _⟩ => ⟨S16x64, .f32⟩
  | .hbm, ⟨12, _⟩ => ⟨S1024, .f32⟩
  | .hbm, ⟨13, _⟩ => ⟨S1024, .f32⟩
  | .hbm, ⟨14, _⟩ => ⟨S32768x2048, .f32⟩
  | .hbm, ⟨15, _⟩ => ⟨S1x2048, .f32⟩
  | .hbm, ⟨16, _⟩ => ⟨S2048x3360, .f32⟩
  | .hbm, ⟨17, _⟩ => ⟨S_, .i32⟩
  | .hbm, ⟨18, _⟩ => ⟨S_, .f32⟩
  | .hbm, ⟨19, _⟩ => ⟨S2048x3456, .f32⟩
  | .hbm, ⟨20, _⟩ => ⟨S2048x3456, .bf16⟩
  | .hbm, ⟨21, _⟩ => ⟨S288, .f32⟩
  | .hbm, ⟨22, _⟩ => ⟨S_, .i32⟩
  | .hbm, ⟨23, _⟩ => ⟨S_, .f32⟩
  | .hbm, ⟨24, _⟩ => ⟨S384, .f32⟩
  | .hbm, ⟨25, _⟩ => ⟨S_, .i32⟩
  | .hbm, ⟨26, _⟩ => ⟨S_, .f32⟩
  | .hbm, ⟨27, _⟩ => ⟨S384x1024, .f32⟩
  | .hbm, ⟨28, _⟩ => ⟨S384x1024, .bf16⟩
  | .hbm, ⟨29, _⟩ => ⟨S_, .i32⟩
  | .hbm, ⟨30, _⟩ => ⟨S_, .f32⟩
  | .hbm, ⟨31, _⟩ => ⟨S384x1024, .f32⟩
  | .hbm, ⟨32, _⟩ => ⟨S384x1024, .bf16⟩
  | .hbm, ⟨33, _⟩ => ⟨S_, .i32⟩
  | .hbm, ⟨34, _⟩ => ⟨S_, .f32⟩
  | .hbm, ⟨35, _⟩ => ⟨S384x1024, .f32⟩
  | .hbm, ⟨36, _⟩ => ⟨S384x1024, .bf16⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S1x384, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S32768x1024, .bf16⟩
  | .hbm, ⟨53, _⟩ => ⟨S32768x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3456, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x384, .f32⟩
  | .local _ .vmem, ⟨8, _⟩ => ⟨S1x1024, .f32⟩
  | .local _ .vmem, ⟨9, _⟩ => ⟨S384x1024, .bf16⟩
  | .local _ .vmem, ⟨10, _⟩ => ⟨S1x1024, .f32⟩
  | .local _ .vmem, ⟨11, _⟩ => ⟨S384x1024, .bf16⟩
  | .local _ .vmem, ⟨12, _⟩ => ⟨S384x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S8x128x128, .f32⟩
  | .local _ .vmem, ⟨23, _⟩ => ⟨S8x3456, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_call1_v0 : Ref sig .tc := ⟨.hbm, 23, rfl⟩
abbrev main_v6 : Ref sig .tc := ⟨.hbm, 24, rfl⟩
abbrev main_c_1 : Ref sig .tc := ⟨.hbm, 25, rfl⟩
abbrev main_call2_v0 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_call3_v0 : Ref sig .tc := ⟨.hbm, 30, rfl⟩
abbrev main_v9 : Ref sig .tc := ⟨.hbm, 31, rfl⟩
abbrev main_v10 : Ref sig .tc := ⟨.hbm, 32, rfl⟩
abbrev main_c_3 : Ref sig .tc := ⟨.hbm, 33, rfl⟩
abbrev main_call4_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== RefRwkvIdeal.lean ====
abbrev S2x16384x2048 : Shape := ⟨3, ![2, 16384, 2048]⟩
abbrev S2048 : Shape := ⟨1, ![2048]⟩
abbrev S2048x4896 : Shape := ⟨2, ![2048, 4896]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4896 : Shape := ⟨3, ![2, 16384, 4896]⟩
abbrev S2x16384x3360 : Shape := ⟨3, ![2, 16384, 3360]⟩
abbrev S2x16385x3360 : Shape := ⟨3, ![2, 16385, 3360]⟩
abbrev S1x1x3360 : Shape := ⟨3, ![1, 1, 3360]⟩
abbrev S2x16384x1024 : Shape := ⟨3, ![2, 16384, 1024]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4896, .f32⟩
  | .hbm, ⟨3, _⟩ => ⟨S3360, .f32⟩
  | .hbm, ⟨4, _⟩ => ⟨S1024, .f32⟩
  | .hbm, ⟨5, _⟩ => ⟨S64x1024, .f32⟩
  | .hbm, ⟨6, _⟩ => ⟨S1024, .f32⟩
  | .hbm, ⟨7, _⟩ => ⟨S64x1024, .f32⟩
  | .hbm, ⟨8, _⟩ => ⟨S160x1024, .f32⟩
  | .hbm, ⟨9, _⟩ => ⟨S1024, .f32⟩
  | .hbm, ⟨10, _⟩ => ⟨S1024, .f32⟩
  | .hbm, ⟨11, _⟩ => ⟨S16x64, .f32⟩
  | .hbm, ⟨12, _⟩ => ⟨S1024, .f32⟩
  | .hbm, ⟨13, _⟩ => ⟨S1024, .f32⟩
  | .hbm, ⟨14, _⟩ => ⟨S2x16384x2048, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x2048, .f32⟩
  | .hbm, ⟨26, _⟩ => ⟨S2x16384x2048, .f32⟩
  | .hbm, ⟨27, _⟩ => ⟨S1x1x2048, .f32⟩
  | .hbm, ⟨28, _⟩ => ⟨S2x16384x2048, .f32⟩
  | .hbm, ⟨29, _⟩ => ⟨S2x16384x2048, .f32⟩
  | .hbm, ⟨30, _⟩ => ⟨S2x16384x4896, .f32⟩
  | .hbm, ⟨31, _⟩ => ⟨S2x16384x3360, .f32⟩
  | .hbm, ⟨32, _⟩ => ⟨S_, .i32⟩
  | .hbm, ⟨33, _⟩ => ⟨S_, .f32⟩
  | .hbm, ⟨34, _⟩ => ⟨S2x16385x3360, .f32⟩
  | .hbm, ⟨35, _⟩ => ⟨S2x16384x3360, .f32⟩
  | .hbm, ⟨36, _⟩ => ⟨S2x16384x3360, .f32⟩
  | .hbm, ⟨37, _⟩ => ⟨S1x1x3360, .f32⟩
  | .hbm, ⟨38, _⟩ => ⟨S2x16384x3360, .f32⟩
  | .hbm, ⟨39, _⟩ => ⟨S2x16384x3360, .f32⟩
  | .hbm, ⟨40, _⟩ => ⟨S2x16384x3360, .f32⟩
  | .hbm, ⟨41, _⟩ => ⟨S2x16384x1024, .f32⟩
  | .hbm, ⟨42, _⟩ => ⟨S32768x1024, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call0_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Proof.Math.lean ====
module

public import Idealize.ShloMosaic.Lib.Pointwise

@[expose] public section

noncomputable section

/-! The mathematics of the layers over the extended reals, as functions of plain rows and tables: what both programs
    of each pair are shown to compute. -/

namespace Cert.Math

open Idealize.ShloMosaic

/-- RMS normalisation of a row `x` with gains `g`: each entry times the reciprocal root of the mean square plus the
    small constant, times its gain. `cN` is the row's length as a number. -/
def rms {n : ℕ} (cN : EReal) (x g : Fin n → EReal) (k : Fin n) : EReal :=
  x k * Ideal.rsqrt (Ideal.div (∑ l, x l * x l) cN + Ideal.ofBits .f32 0x358637BD#32) * g k

/-- A row times a matrix, at column `j`. -/
def rowMul {n k : ℕ} (x : Fin n → EReal) (w : Fin n → Fin k → EReal) (j : Fin k) : EReal := ∑ l, x l * w l j

/-- The hidden unit `j` of a SwiGLU: silu of the gate product times the up product. -/
def swi {n k : ℕ} (x : Fin n → EReal) (wg wu : Fin n → Fin k → EReal) (j : Fin k) : EReal :=
  rowMul x wg j * Ideal.logistic (rowMul x wg j) * rowMul x wu j

/-- One half, as both programs write it. -/
abbrev half : EReal := Ideal.ofBits .f32 0x3F000000#32

theorem half_eq : half = ((1 / 2 : ℝ) : EReal) := by
  unfold half
  simp [Ideal.ofBits, Ideal.ieee, -EReal.coe_mul]; norm_num

/-- Multiplying by one half distributes over every sum of two extended reals. -/
theorem half_mul_add (a b : EReal) : half * (a + b) = half * a + half * b := by
  rw [half_eq]
  exact EReal.left_distrib_of_nonneg_of_ne_top (by norm_num) (EReal.coe_ne_top _) _ _

/-- Multiplying by one half distributes over every finite sum. -/
theorem half_mul_sum {n : ℕ} (f : Fin n → EReal) : half * ∑ k, f k = ∑ k, half * f k := by
  induction n with
  | zero => simp
  | succ n ih => rw [Fin.sum_univ_castSucc, half_mul_add, ih, Fin.sum_univ_castSucc]

/-! ## The hidden units of a feed-forward layer, in eleven blocks of 512 -/

/-- One half of hidden unit `j`, times its down weight to feature `d`. -/
def hterm (s : Fin 2048 → EReal) (wg wu : Fin 2048 → Fin 5632 → EReal) (wd : Fin 5632 → Fin 2048 → EReal) (d : Fin 2048)
    (j : Fin 5632) : EReal := half * swi s wg wu j * wd j d

/-- Block `f` of the hidden units' sum (nothing beyond the eleven blocks). -/
def part (s : Fin 2048 → EReal) (wg wu : Fin 2048 → Fin 5632 → EReal) (wd : Fin 5632 → Fin 2048 → EReal) (d : Fin 2048)
    (f : ℕ) : EReal := if h : f < 11 then ∑ j : Fin 512, hterm s wg wu wd d ⟨f * 512 + j.val, by omega⟩ else 0

/-- The sum over weight blocks that are block `f` of the tables is block `f` of the hidden units' sum. -/
theorem sum_block (s : Fin 2048 → EReal) (wg wu : Fin 2048 → Fin 5632 → EReal) (wd : Fin 5632 → Fin 2048 → EReal) (d : Fin 2048)
    (f : ℕ) (hf : f < 11) (wgb wub : Fin 2048 → Fin 512 → EReal) (wdb : Fin 512 → EReal)
    (hg : ∀ k (j : Fin 512), wgb k j = wg k ⟨f * 512 + j.val, by omega⟩)
    (hu : ∀ k (j : Fin 512), wub k j = wu k ⟨f * 512 + j.val, by omega⟩)
    (hd : ∀ j : Fin 512, wdb j = wd ⟨f * 512 + j.val, by omega⟩ d) :
    (∑ j : Fin 512, half * swi s wgb wub j * wdb j) = part s wg wu wd d f := by
  unfold part
  rw [dif_pos hf]
  refine Finset.sum_congr rfl fun j _ => ?_
  unfold hterm swi rowMul
  simp only [hg, hu, hd]

/-- The eleven blocks of the sum are the whole down projection of half the hidden units. -/
theorem parts (s : Fin 2048 → EReal) (wg wu : Fin 2048 → Fin 5632 → EReal) (wd : Fin 5632 → Fin 2048 → EReal) (d : Fin 2048) :
    (∑ f ∈ Finset.range 11, part s wg wu wd d f) = half * rowMul (swi s wg wu) wd d := by
  rw [Finset.sum_range]
  unfold rowMul
  rw [half_mul_sum, Fin.sum_univ_tiles (N := 5632) 11 512 (by decide) _]
  refine Finset.sum_congr rfl fun f _ => ?_
  unfold part
  rw [dif_pos f.isLt]
  refine Finset.sum_congr rfl fun j _ => ?_
  unfold hterm
  rw [mul_assoc]

end Cert.Math
-- ==== Proof.FfnRef.lean ====
module

public import proofs.«01_k».proof.Proof.Math
public import proofs.«01_k».proof.Proof.Gen.RefFfnIdeal.Run
public import Idealize.ShloMosaic.Lib.Pointwise

@[expose] public section

set_option maxRecDepth 16384

noncomputable section

namespace Cert.RefFfnIdeal.RefValue

open Cert.RefFfnIdeal Cert.RefFfnIdeal.Gen Idealize.ShloMosaic Idealize.ShloMosaic.TcCoe Cert.Math

/-- The host's RMS normalisation of a [2,16384,2048] array. -/
def hrms (x : FVec Ideal S2x16384x2048 .f32) (g : FVec Ideal S2048 .f32) : FVec Ideal S2x16384x2048 .f32 :=
  mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))

theorem hrms_apply (x : FVec Ideal S2x16384x2048 .f32) (g : FVec Ideal S2048 .f32) (b : Fin 2) (s : Fin 16384) (k : Fin 2048) :
    hrms x g (ix3 b s k) = rms (Ideal.ofBits .f32 0x45000000#32) (fun k => x (ix3 b s k)) (fun k => g (ix1 k)) k := by
  unfold rms
  pointwise [hrms]

/-- A host product [2,16384,2048] × [2048,5632]. -/
def hup (x : FVec Ideal S2x16384x2048 .f32) (w : FVec Ideal S2048x5632 .f32) : FVec Ideal S2x16384x5632 .f32 :=
  Host.dotGeneral dot_S2x16384x2048_S2048x5632_S2x16384x5632_2_0_01_1_n_n none x w

theorem hup_apply (x : FVec Ideal S2x16384x2048 .f32) (w : FVec Ideal S2048x5632 .f32) (b : Fin 2) (s : Fin 16384) (j : Fin 5632) :
    hup x w (ix3 b s j) = rowMul (fun k => x (ix3 b s k)) (fun k j => w (ix2 k j)) j := by
  unfold rowMul
  pointwise [hup, dot_S2x16384x2048_S2048x5632_S2x16384x5632_2_0_01_1_n_n]

/-- A host product [2,16384,5632] × [5632,2048]. -/
def hdown (h : FVec Ideal S2x16384x5632 .f32) (w : FVec Ideal S5632x2048 .f32) : FVec Ideal S2x16384x2048 .f32 :=
  Host.dotGeneral dot_S2x16384x5632_S5632x2048_S2x16384x2048_2_0_01_1_n_n none h w

theorem hdown_apply (h : FVec Ideal S2x16384x5632 .f32) (w : FVec Ideal S5632x2048 .f32) (b : Fin 2) (s : Fin 16384) (j : Fin 2048) :
    hdown h w (ix3 b s j) = rowMul (fun k => h (ix3 b s k)) (fun k j => w (ix2 k j)) j := by
  unfold rowMul
  pointwise [hdown, dot_S2x16384x5632_S5632x2048_S2x16384x2048_2_0_01_1_n_n]

/-- The host's hidden units of the SwiGLU. -/
def hswi (x : FVec Ideal S2x16384x2048 .f32) (wg wu : FVec Ideal S2048x5632 .f32) : FVec Ideal S2x16384x5632 .f32 :=
  mulf (mulf (hup x wg) (Host.divf (broadcastInDim S2x16384x5632 ![] bcast_S_S2x16384x5632 (constant S_ .f32 0x3F800000#32)) (addf (broadcastInDim S2x16384x5632 ![] bcast_S_S2x16384x5632 (constant S_ .f32 0x3F800000#32)) (Host.exp (Host.negf (hup x wg)))))) (hup x wu)

theorem hswi_apply (x : FVec Ideal S2x16384x2048 .f32) (wg wu : FVec Ideal S2048x5632 .f32) (b : Fin 2) (s : Fin 16384) (j : Fin 5632) :
    hswi x wg wu (ix3 b s j) = swi (fun k => x (ix3 b s k)) (fun k j => wg (ix2 k j)) (fun k j => wu (ix2 k j)) j := by
  unfold swi Ideal.logistic
  rw [← hup_apply, ← hup_apply]
  pointwise [hswi]

/-- The host's residual sum: `x` plus one half of the SwiGLU layer of its normalised rows. -/
def hmid (x : FVec Ideal S2x16384x2048 .f32) (g : FVec Ideal S2048 .f32) (wg wu : FVec Ideal S2048x5632 .f32)
    (wd : FVec Ideal S5632x2048 .f32) : FVec Ideal S2x16384x2048 .f32 :=
  addf x (mulf (broadcastInDim S2x16384x2048 ![] bcast_S_S2x16384x2048 (constant S_ .f32 0x3F000000#32)) (hdown (hswi (hrms x g) wg wu) wd))

/-- The row of the residual sum, as a function of plain rows and tables. -/
def ffnRow (x g : Fin 2048 → EReal) (wg wu : Fin 2048 → Fin 5632 → EReal) (wd : Fin 5632 → Fin 2048 → EReal) (d : Fin 2048) : EReal :=
  x d + half * rowMul (swi (rms (Ideal.ofBits .f32 0x45000000#32) x g) wg wu) wd d

theorem hmid_apply (x : FVec Ideal S2x16384x2048 .f32) (g : FVec Ideal S2048 .f32) (wg wu : FVec Ideal S2048x5632 .f32)
    (wd : FVec Ideal S5632x2048 .f32) (b : Fin 2) (s : Fin 16384) (d : Fin 2048) :
    hmid x g wg wu wd (ix3 b s d) = ffnRow (fun k => x (ix3 b s k)) (fun k => g (ix1 k)) (fun k j => wg (ix2 k j)) (fun k j => wu (ix2 k j)) (fun k j => wd (ix2 k j)) d := by
  have e : ∀ d, hdown (hswi (hrms x g) wg wu) wd (ix3 b s d) = rowMul (swi (rms (Ideal.ofBits .f32 0x45000000#32) (fun k => x (ix3 b s k)) (fun k => g (ix1 k))) (fun k j => wg (ix2 k j)) (fun k j => wu (ix2 k j))) (fun k j => wd (ix2 k j)) d := fun d => by
    simp only [hdown_apply, hswi_apply, hrms_apply]
  unfold ffnRow
  rw [← e]
  pointwise [hmid]

/-- The reference's composed term, in the pieces above. -/
theorem res_eq (m : (ℓ : Loc nD τ sig) → Buf (Elt Ideal) ℓ) (c : Dev nD) :
    Value.res_out0 m c = shapeCast S32768x2048 (hrms (hmid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5))) shapeCasts_S2x16384x2048_S32768x2048 := by
  unfold Value.res_out0 Value.res_main_v34
  rfl

/-- The reference's result at token `i`, feature `d`: the normalised row of the residual sum of that token. -/
theorem out_apply (m : (ℓ : Loc nD τ sig) → Buf (Elt Ideal) ℓ) (c : Dev nD) (i : Fin 32768) (d : Fin 2048) :
    Value.res_out0 m c (ix2 i d) = rms (Ideal.ofBits .f32 0x45000000#32)
      (ffnRow (fun k => m ((c.tc : Thread nD τ).loc main_arg0) (ix3 ⟨i.val / 16384, by omega⟩ ⟨i.val % 16384, by omega⟩ k)) (fun k => m ((c.tc : Thread nD τ).loc main_arg1) (ix1 k)) (fun k j => m ((c.tc : Thread nD τ).loc main_arg2) (ix2 k j))
       (fun k j => m ((c.tc : Thread nD τ).loc main_arg3) (ix2 k j)) (fun k j => m ((c.tc : Thread nD τ).loc main_arg4) (ix2 k j)))
      (fun k => m ((c.tc : Thread nD τ).loc main_arg5) (ix1 k)) d := by
  rw [res_eq]
  refine (shapeCast_apply _ _ _ (ix3 ⟨i.val / 16384, by omega⟩ ⟨i.val % 16384, by omega⟩ d) ?_).trans ?_
  · rw [Shape.rowMajor_val_three, Shape.rowMajor_val_two]
    show (i.val / 16384 * 16384 + i.val % 16384) * 2048 + d.val = i.val * 2048 + d.val
    omega
  · rw [hrms_apply]
    simp only [hmid_apply]

end Cert.RefFfnIdeal.RefValue
-- ==== Proof.FfnVal.lean ====
module

public import proofs.«01_k».proof.Proof.Math
public import proofs.«01_k».proof.Proof.Gen.FfnIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.FfnIdeal.RefValue

open Cert.FfnIdeal Cert.FfnIdeal.Gen Cert.FfnIdeal.Value Idealize.ShloMosaic Idealize.ShloMosaic.TcCoe Cert.Math

/-! ## The body's stored values at an index -/

/-- The accumulating step: what is stored at (r, d) is what was there plus, over the block's hidden units, one half of
    the unit times its down weight. -/
theorem pay1_apply (o : Vec Ideal S1024x2048 .f32) (s : Vec Ideal S1024x2048 .bf16) (wg wu : Vec Ideal S2048x512 .bf16)
    (wd : Vec Ideal S512x2048 .bf16) (r : Fin 1024) (d : Fin 2048) :
    k0_pay1 o s wg wu wd (ix2 r d)
      = o (ix2 r d) + ∑ j : Fin 512, half * swi (fun k => s (ix2 r k)) (fun k j => wg (ix2 k j)) (fun k j => wu (ix2 k j)) j * wd (ix2 j d) := by
  unfold swi rowMul
  pointwise [k0_pay1, dot_S1024x2048_S2048x512_S1024x512_1_0_0_1_n_n, dot_S1024x512_S512x2048_S1024x2048_1_0_0_1_n_n]
  simp only [mul_assoc]

/-- The first half's normalised rows. -/
theorem pay5_apply (x : Vec Ideal S512x2048 .f32) (g : Vec Ideal S1x2048 .f32) (r : Fin 512) (k : Fin 2048) :
    k0_pay5 x g (ix2 r k) = rms (Ideal.ofBits .f32 0x45000000#32) (fun k => x (ix2 r k)) (fun k => g (ix2 0 k)) k := by
  unfold rms
  pointwise [k0_pay5, k0_pay4, k0_pay3]

/-- The second half's normalised rows: the same function. -/
theorem pay9_eq (x : Vec Ideal S512x2048 .f32) (g : Vec Ideal S1x2048 .f32) : k0_pay9 x g = k0_pay5 x g := rfl

/-- The first half's first sum. -/
theorem pay6_apply (x : Vec Ideal S512x2048 .f32) (g : Vec Ideal S1x2048 .f32) (wg wu : Vec Ideal S2048x512 .bf16)
    (wd : Vec Ideal S512x2048 .bf16) (r : Fin 512) (d : Fin 2048) :
    k0_pay6 x g wg wu wd (ix2 r d)
      = x (ix2 r d) + ∑ j : Fin 512, half * swi (rms (Ideal.ofBits .f32 0x45000000#32) (fun k => x (ix2 r k)) (fun k => g (ix2 0 k)))
          (fun k j => wg (ix2 k j)) (fun k j => wu (ix2 k j)) j * wd (ix2 j d) := by
  have e : ∀ k, k0_pay4 x g (ix2 r k) = rms (Ideal.ofBits .f32 0x45000000#32) (fun k => x (ix2 r k)) (fun k => g (ix2 0 k)) k := fun k => by
    unfold rms
    pointwise [k0_pay4, k0_pay3]
  unfold swi rowMul
  simp only [← e]
  pointwise [k0_pay6, k0_pay3, dot_S512x2048_S2048x512_S512x512_1_0_0_1_n_n, dot_S512x512_S512x2048_S512x2048_1_0_0_1_n_n]
  simp only [mul_assoc]

/-- The second half's first sum: the same function. -/
theorem pay10_eq (x : Vec Ideal S512x2048 .f32) (g : Vec Ideal S1x2048 .f32) (wg wu : Vec Ideal S2048x512 .bf16)
    (wd : Vec Ideal S512x2048 .bf16) : k0_pay10 x g wg wu wd = k0_pay6 x g wg wu wd := rfl

/-- The last step's normalisation of the finished rows. -/
theorem pay2_apply (x : Vec Ideal S1024x2048 .f32) (g : Vec Ideal S1x2048 .f32) (r : Fin 1024) (k : Fin 2048) :
    k0_pay2 x g (ix2 r k) = rms (Ideal.ofBits .f32 0x45000000#32) (fun k => x (ix2 r k)) (fun k => g (ix2 0 k)) k := by
  unfold rms
  pointwise [k0_pay2]

/-! ## The launch's arrays and the windows' blocks at an index -/

variable (m : (ℓ : Loc nD τ sig) → Buf (Elt Ideal) ℓ)

theorem V0 (c : Dev nD) (i : Fin 32768) (k : Fin 2048) : V m c main_v0 (ix2 i k)
    = m ((c.tc : Thread nD τ).loc main_arg0) (ix3 ⟨i.val / 16384, by omega⟩ ⟨i.val % 16384, by omega⟩ k) := by
  unfold V
  after_reads_at
theorem V1 (c : Dev nD) (k : Fin 2048) (j : Fin 5632) : V m c main_v1 (ix2 k j) = m ((c.tc : Thread nD τ).loc main_arg2) (ix2 k j) := by
  unfold V
  after_reads_at
theorem V2 (c : Dev nD) (k : Fin 2048) (j : Fin 5632) : V m c main_v2 (ix2 k j) = m ((c.tc : Thread nD τ).loc main_arg3) (ix2 k j) := by
  unfold V
  after_reads_at
theorem V3 (c : Dev nD) (j : Fin 5632) (d : Fin 2048) : V m c main_v3 (ix2 j d) = m ((c.tc : Thread nD τ).loc main_arg4) (ix2 j d) := by
  unfold V
  after_reads_at
theorem V4 (c : Dev nD) (k : Fin 2048): V m c main_v4 (ix2 0 k) = m ((c.tc : Thread nD τ).loc main_arg1) (ix1 k) := by
  unfold V
  after_reads_at
theorem V5 (c : Dev nD) (k : Fin 2048): V m c main_v5 (ix2 0 k) = m ((c.tc : Thread nD τ).loc main_arg5) (ix1 k) := by
  unfold V
  after_reads_at

/-- The windows' index maps over the grid, decided. -/
theorem idx : ∀ t : Fin cfg0.N, win0_0.index t = ![t.val / 11, 0] ∧ win0_1.index t = ![0, 0] ∧ win0_2.index t = ![0, 0]
    ∧ win0_3.index t = ![0, t.val % 11] ∧ win0_4.index t = ![0, t.val % 11] ∧ win0_5.index t = ![t.val % 11, 0] :=
  (by decide +kernel : ∀ t : Fin grid0.N, _)

theorem ib0 (c : Dev nD) (t : Fin cfg0.N) (r : Fin 1024) (k : Fin 2048) (i : Fin 32768) (hi : i.val = 1024 * (t.val / 11) + r.val) :
    iblk m c 0 t (ix2 r k) = V m c main_v0 (ix2 i k) := by
  blk_ext [iblk, idx t]
theorem ib1 (c : Dev nD) (t : Fin cfg0.N) (k : Fin 2048) : iblk m c 1 t (ix2 0 k) = V m c main_v4 (ix2 0 k) := by
  blk_ext [iblk, idx t]
theorem ib2 (c : Dev nD) (t : Fin cfg0.N) (k : Fin 2048) : iblk m c 2 t (ix2 0 k) = V m c main_v5 (ix2 0 k) := by
  blk_ext [iblk, idx t]
theorem ib3 (c : Dev nD) (t : Fin cfg0.N) (k : Fin 2048) (j : Fin 512) (j' : Fin 5632) (hj : j'.val = (t.val % 11) * 512 + j.val) :
    iblk m c 3 t (ix2 k j) = V m c main_v1 (ix2 k j') := by
  blk_ext [iblk, idx t]
theorem ib4 (c : Dev nD) (t : Fin cfg0.N) (k : Fin 2048) (j : Fin 512) (j' : Fin 5632) (hj : j'.val = (t.val % 11) * 512 + j.val) :
    iblk m c 4 t (ix2 k j) = V m c main_v2 (ix2 k j') := by
  blk_ext [iblk, idx t]
theorem ib5 (c : Dev nD) (t : Fin cfg0.N) (d : Fin 2048) (j : Fin 512) (j' : Fin 5632) (hj : j'.val = (t.val % 11) * 512 + j.val) :
    iblk m c 5 t (ix2 j d) = V m c main_v3 (ix2 j' d) := by
  blk_ext [iblk, idx t]

/-! ## What the staging buffers hold after each point -/

/-- Row `i` of the input. -/
abbrev xin (c : Dev nD) (i : Fin 32768) (k : Fin 2048) : EReal := V m c main_v0 (ix2 i k)

/-- The normalised row of token `i`. -/
def xn (c : Dev nD) (i : Fin 32768) : Fin 2048 → EReal :=
  rms (Ideal.ofBits .f32 0x45000000#32) (xin m c i) (fun k => V m c main_v4 (ix2 0 k))

/-- Block `f` of the hidden units' sum of token `i` for feature `d`. -/
def part (c : Dev nD) (i : Fin 32768) (d : Fin 2048) (f : ℕ) : EReal :=
  Math.part (xn m c i) (fun k j => V m c main_v1 (ix2 k j)) (fun k j => V m c main_v2 (ix2 k j)) (fun j d => V m c main_v3 (ix2 j d)) d f

/-- The sum over a point's weight blocks is that block of the hidden units' sum. -/
theorem block_sum (c : Dev nD) (t : Fin cfg0.N) (i : Fin 32768) (d : Fin 2048) (s : Fin 2048 → EReal) (hs : s = xn m c i) :
    (∑ j : Fin 512, half * swi s (fun k j => iblk m c 3 t (ix2 k j)) (fun k j => iblk m c 4 t (ix2 k j)) j * iblk m c 5 t (ix2 j d))
      = part m c i d (t.val % 11) := by
  subst hs
  exact sum_block _ _ _ _ d _ (Nat.mod_lt _ (by decide)) _ _ (fun j => iblk m c 5 t (ix2 j d)) (fun k j => ib3 m c t k j _ rfl)
    (fun k j => ib4 m c t k j _ rfl) (fun j => ib5 m c t d j _ rfl)

/-- A load of 512 rows of the input block, at an index. -/
theorem ld0 (c : Dev nD) (t : Fin cfg0.N) (o : ℕ) (inb) (r : Fin 512) (k : Fin 2048) (i : Fin 32768)
    (hi : i.val = 1024 * (t.val / 11) + (o + r.val)) :
    View.ld (iblk m c 0 t) (Rect.unit ![o, 0] ![512, 2048] inb) (ix2 r k) = V m c main_v0 (ix2 i k) := by
  have hr : o + r.val < 1024 := by
    have := inb 0
    have h512 : (![512, 2048] : Fin 2 → ℕ) 0 = 512 := rfl
    have : o + 512 ≤ 1024 := this
    omega
  refine (View.ld_unit_apply_of _ _ _ _ _ (ix2 (⟨o + r.val, hr⟩ : Fin 1024) k) ?_).trans (ib0 m c t _ k i hi)
  intro a
  fin_cases a <;> simp

/-- After a run's first point the scratch holds the normalised rows; -/
theorem scrA (c : Dev nD) (t : Fin cfg0.N) (h0 : t.val % 11 = 0) (r : Fin 1024) (k : Fin 2048) (i : Fin 32768)
    (hi : i.val = 1024 * (t.val / 11) + r.val) : (outsAt0 m c t.val t.isLt).2 (ix2 r k) = xn m c i k := by
  have h1 : ¬1 ≤ t.val % 11 := by omega
  have h2 : ¬t.val % 11 = 10 := by omega
  rw [outsAt0_A m c t h0 h1 h2]
  dsimp only
  frame_out
  canon_tiles x h
  · idx_vars x
    obtain rfl : k = x1 := Fin.ext h1
    rw [pay9_eq, pay5_apply]
    unfold xn
    simp only [ld0 m c t 512 _ x0 _ i (by omega), ib1]
  · idx_vars x
    obtain rfl : k = x1 := Fin.ext h1
    rw [pay5_apply]
    unfold xn
    simp only [ld0 m c t 0 _ x0 _ i (by omega), ib1]

/-- and the block holds the input plus the first block of the hidden units' sum. -/
theorem outA (c : Dev nD) (t : Fin cfg0.N) (h0 : t.val % 11 = 0) (r : Fin 1024) (d : Fin 2048) (i : Fin 32768)
    (hi : i.val = 1024 * (t.val / 11) + r.val) :
    (outsAt0 m c t.val t.isLt).1 (ix2 r d) = xin m c i d + part m c i d 0 := by
  have h1 : ¬1 ≤ t.val % 11 := by omega
  have h2 : ¬t.val % 11 = 10 := by omega
  have hb := block_sum m c t i d _ rfl
  rw [h0] at hb
  rw [← hb, outsAt0_A m c t h0 h1 h2]
  dsimp only
  frame_out
  canon_tiles x h
  · idx_vars x
    obtain rfl : d = x1 := Fin.ext h1
    rw [pay10_eq, pay6_apply]
    unfold xn
    simp only [ld0 m c t 512 _ x0 _ i (by omega), ib1]
  · idx_vars x
    obtain rfl : d = x1 := Fin.ext h1
    rw [pay6_apply]
    unfold xn
    simp only [ld0 m c t 0 _ x0 _ i (by omega), ib1]

/-- The later points keep the scratch: it holds the normalised rows at every point. -/
theorem scr (c : Dev nD) (n : ℕ) (hn : n < cfg0.N) (r : Fin 1024) (k : Fin 2048) (i : Fin 32768)
    (hi : i.val = 1024 * (n / 11) + r.val) : (outsAt0 m c n hn).2 (ix2 r k) = xn m c i k := by
  induction n with
  | zero => exact scrA m c ⟨0, hn⟩ rfl r k i hi
  | succ n ih =>
    by_cases h0 : (n + 1) % 11 = 0
    · exact scrA m c ⟨n + 1, hn⟩ h0 r k i hi
    · have e : (outsAt0 m c (n + 1) hn).2 = (outsAt0 m c n (by omega)).2 := by
        by_cases h2 : (n + 1) % 11 = 10
        · rw [outsAt0_C m c ⟨n + 1, hn⟩ h0 (by show 1 ≤ (n + 1) % 11; omega) h2]
          rfl
        · rw [outsAt0_B m c ⟨n + 1, hn⟩ h0 (by show 1 ≤ (n + 1) % 11; omega) h2]
          rfl
      rw [e]
      exact ih (by omega) (by omega)

/-- Before a run's last point the block holds the input plus the blocks of the sum so far. -/
theorem accum (c : Dev nD) (n : ℕ) (hn : n < cfg0.N) (h10 : n % 11 < 10) (r : Fin 1024) (d : Fin 2048) (i : Fin 32768)
    (hi : i.val = 1024 * (n / 11) + r.val) :
    (outsAt0 m c n hn).1 (ix2 r d) = xin m c i d + ∑ f ∈ Finset.range (n % 11 + 1), part m c i d f := by
  induction n with
  | zero => simpa using outA m c ⟨0, hn⟩ rfl r d i hi
  | succ n ih =>
    by_cases h0 : (n + 1) % 11 = 0
    · rw [h0]; simpa using outA m c ⟨n + 1, hn⟩ h0 r d i hi
    · have hm : (n + 1) % 11 = n % 11 + 1 := by omega
      rw [outsAt0_B m c ⟨n + 1, hn⟩ h0 (by show 1 ≤ (n + 1) % 11; omega) (by show ¬(n + 1) % 11 = 10; omega)]
      dsimp only
      frame_out
      simp only [read_unread_whole]
      rw [pay1_apply, block_sum m c ⟨n + 1, hn⟩ i d _ (funext fun k => scr m c (n + 1 - 1) (by omega) r k i (by omega))]
      have e := ih (by omega) (by omega) (by omega)
      change (outsAt0 m c n _).1 (ix2 r d) + part m c i d ((n + 1) % 11) = _
      rw [e, hm, Finset.sum_range_succ _ (n % 11 + 1), add_assoc]

/-- At a run's last point the block holds the normalised rows of the input plus the whole sum. -/
theorem outC (c : Dev nD) (t : Fin cfg0.N) (h2 : t.val % 11 = 10) (r : Fin 1024) (d : Fin 2048) (i : Fin 32768)
    (hi : i.val = 1024 * (t.val / 11) + r.val) :
    (outsAt0 m c t.val t.isLt).1 (ix2 r d)
      = rms (Ideal.ofBits .f32 0x45000000#32) (fun d => xin m c i d + ∑ f ∈ Finset.range 11, part m c i d f)
          (fun d => V m c main_v5 (ix2 0 d)) d := by
  rw [outsAt0_C m c t (by omega) (by omega) h2]
  dsimp only
  frame_out
  simp only [read_unread_whole]
  rw [pay2_apply]
  simp only [ib2]
  congr 1
  funext d
  rw [pay1_apply, block_sum m c t i d _ (funext fun k => scr m c (t.val - 1) (by omega) r k i (by omega)),
    accum m c (t.val - 1) (by omega) (by omega) r d i (by omega), Finset.sum_range_succ _ 10, add_assoc, h2,
    show (t.val - 1) % 11 + 1 = 10 by omega]

/-- The launch's result at an index. -/
theorem G6_apply (c : Dev nD) (i : Fin 32768) (d : Fin 2048) :
    G6 m c (ix2 i d)
      = rms (Ideal.ofBits .f32 0x45000000#32)
          (fun d => xin m c i d
            + half * rowMul (swi (xn m c i) (fun k j => V m c main_v1 (ix2 k j)) (fun k j => V m c main_v2 (ix2 k j)))
                (fun j d => V m c main_v3 (ix2 j d)) d)
          (fun d => V m c main_v5 (ix2 0 d)) d := by
  have hp : pt6Of (ix2 i d) = 11 * (i.val / 1024) + 10 := by
    have h1 : ((ix2 i d : S32768x2048.Idx) 0).val = i.val := rfl
    have h2 : ((ix2 i d : S32768x2048.Idx) 1).val = d.val := rfl
    unfold pt6Of run6Of
    rw [h1, h2]
    omega
  have hlt : 11 * (i.val / 1024) + 10 < cfg0.N := by
    change _ < grid0.N
    rw [N_0]; omega
  have hl : loc6Of (ix2 i d) = ix2 (⟨i.val % 1024, by omega⟩ : Fin 1024) d := by
    funext a
    fin_cases a
    · rfl
    · exact Fin.ext (Nat.mod_eq_of_lt d.isLt)
  unfold G6
  rw [dif_pos (by rw [hp]; exact hlt), hl]
  simp only [hp]
  have e := outC m c ⟨_, hlt⟩ (by dsimp only; omega) ⟨i.val % 1024, by omega⟩ d i (by dsimp only; omega)
  rw [outsAt0_sweep] at e
  rw [e]
  simp only [part, parts]

end Cert.FfnIdeal.RefValue
-- ==== Proof.FfnClaim.lean ====
module

public import proofs.«01_k».proof.Defs
public import proofs.«01_k».proof.Proof.FfnRef
public import proofs.«01_k».proof.Proof.FfnVal

@[expose] public section

noncomputable section

namespace Cert.Proof.FfnClaims

open Idealize.ShloMosaic Idealize.SL.Sem Cert.Math

/-- Kernel and reference end with the same array: at each token and feature both hold the normalised row of the
    input plus one half of the SwiGLU layer of its normalised rows. -/
theorem result_eq (m : (ℓ : Loc Cert.FfnIdeal.nD Cert.FfnIdeal.τ Cert.FfnIdeal.sig) → Buf (Elt Ideal) ℓ)
    (m' : (ℓ : Loc Cert.RefFfnIdeal.nD Cert.RefFfnIdeal.τ Cert.RefFfnIdeal.sig) → Buf (Elt Ideal) ℓ) (c : Dev Cert.FfnIdeal.nD)
    (h0 : m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0))
    (h1 : m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1))
    (h2 : m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2))
    (h3 : m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3))
    (h4 : m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4))
    (h5 : m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)) :
    Cert.RefFfnIdeal.Value.res_out0 m' c = Cert.FfnIdeal.Value.G6 m c := by
  funext y
  obtain ⟨i, d, rfl⟩ : ∃ (i : Fin 32768) (d : Fin 2048), y = ix2 i d := ⟨y 0, y 1, eq_ix2 y⟩
  refine (Cert.RefFfnIdeal.RefValue.out_apply m' c i d).trans ((Cert.FfnIdeal.RefValue.G6_apply m c i d).trans ?_).symm
  rw [h0, h1, h2, h3, h4, h5]
  unfold Cert.RefFfnIdeal.RefValue.ffnRow Cert.FfnIdeal.RefValue.xn
  rw [show Cert.FfnIdeal.RefValue.xin m c i = _ from funext fun k => Cert.FfnIdeal.RefValue.V0 m c i k,
    show (fun k => Cert.FfnIdeal.Gen.V m c Cert.FfnIdeal.main_v4 (ix2 0 k)) = _ from funext fun k => Cert.FfnIdeal.RefValue.V4 m c k,
    show (fun k => Cert.FfnIdeal.Gen.V m c Cert.FfnIdeal.main_v5 (ix2 0 k)) = _ from funext fun k => Cert.FfnIdeal.RefValue.V5 m c k,
    show (fun k j => Cert.FfnIdeal.Gen.V m c Cert.FfnIdeal.main_v1 (ix2 k j)) = _ from funext fun k => funext fun j => Cert.FfnIdeal.RefValue.V1 m c k j,
    show (fun k j => Cert.FfnIdeal.Gen.V m c Cert.FfnIdeal.main_v2 (ix2 k j)) = _ from funext fun k => funext fun j => Cert.FfnIdeal.RefValue.V2 m c k j,
    show (fun k j => Cert.FfnIdeal.Gen.V m c Cert.FfnIdeal.main_v3 (ix2 k j)) = _ from funext fun k => funext fun j => Cert.FfnIdeal.RefValue.V3 m c k j]

theorem frame_ref : Cert.quiescent_RefFfnIdeal := fun m ρ _ =>
  (θ_run Cert.RefFfnIdeal.defs _ _).mono (fun r h => ⟨fun c => (h c).2, Idealize.ShloMosaic.sem_eq_zero_of_no_sems (by decide) r.2⟩)
    (Cert.RefFfnIdeal.Value.run (F := Ideal) m ρ)

/-- The last feed-forward call and its reference end with equal results over the extended reals. -/
theorem algebraic : Cert.algebraic_FfnIdeal_RefFfnIdeal := by
  intro m ρ m' ρ' _ hagree
  refine ⟨fun c => Cert.FfnIdeal.Value.G6 m c, Cert.FfnIdeal.Value.run (F := Ideal) m ρ, ?_⟩
  refine (θ_run Cert.RefFfnIdeal.defs _ _).mono (fun _ h c => ?_) (Cert.RefFfnIdeal.Value.run (F := Ideal) m' ρ')
  obtain ⟨h0, h1, h2, h3, h4, h5⟩ := hagree c
  exact ⟨(h c).1.trans (result_eq m m' c h0 h1 h2 h3 h4 h5), (h c).2⟩

end Cert.Proof.FfnClaims
-- ==== Proof.FfnNextVal.lean ====
module

public import proofs.«01_k».proof.Proof.FfnVal
public import proofs.«01_k».proof.Proof.Gen.FfnNextIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.FfnNextIdeal.RefValue

open Cert.FfnNextIdeal Cert.FfnNextIdeal.Gen Cert.FfnNextIdeal.Value Idealize.ShloMosaic Idealize.ShloMosaic.TcCoe Cert.Math

/-! ## The body's stored values: those of the last feed-forward call, grouped otherwise -/

theorem acc_eq (o : Vec Ideal S1024x2048 .f32) (s : Vec Ideal S1024x2048 .bf16) (wg wu : Vec Ideal S2048x512 .bf16)
    (wd : Vec Ideal S512x2048 .bf16) : k0_pay3 (k0_pay16 o) (k0_pay17 s wg wu) wd = Cert.FfnIdeal.Gen.k0_pay1 o s wg wu wd := rfl
theorem norm_eq (x : Vec Ideal S512x2048 .f32) (g : Vec Ideal S1x2048 .f32) : k0_pay9 (k0_pay8 x g) = Cert.FfnIdeal.Gen.k0_pay5 x g := rfl
theorem norm_eq' (x : Vec Ideal S512x2048 .f32) (g : Vec Ideal S1x2048 .f32) : k0_pay1 (k0_pay12 x g) = Cert.FfnIdeal.Gen.k0_pay5 x g := rfl
theorem first_eq (x : Vec Ideal S512x2048 .f32) (g : Vec Ideal S1x2048 .f32) (wg wu : Vec Ideal S2048x512 .bf16)
    (wd : Vec Ideal S512x2048 .bf16) : k0_pay10 (k0_pay7 x) (k0_pay8 x g) wg wu wd = Cert.FfnIdeal.Gen.k0_pay6 x g wg wu wd := rfl
theorem first_eq' (x : Vec Ideal S512x2048 .f32) (g : Vec Ideal S1x2048 .f32) (wg wu : Vec Ideal S2048x512 .bf16)
    (wd : Vec Ideal S512x2048 .bf16) : k0_pay2 (k0_pay11 x) (k0_pay12 x g) wg wu wd = Cert.FfnIdeal.Gen.k0_pay6 x g wg wu wd := rfl

/-! ## The launch's arrays and the windows' blocks at an index -/

variable (m : (ℓ : Loc nD τ sig) → Buf (Elt Ideal) ℓ)

theorem V0 (c : Dev nD) (i : Fin 32768) (k : Fin 2048) : V m c main_v0 (ix2 i k)
    = m ((c.tc : Thread nD τ).loc main_arg0) (ix3 ⟨i.val / 16384, by omega⟩ ⟨i.val % 16384, by omega⟩ k) := by
  unfold V
  after_reads_at
theorem V1 (c : Dev nD) (k : Fin 2048) (j : Fin 5632) : V m c main_v1 (ix2 k j) = m ((c.tc : Thread nD τ).loc main_arg2) (ix2 k j) := by
  unfold V
  after_reads_at
theorem V2 (c : Dev nD) (k : Fin 2048) (j : Fin 5632) : V m c main_v2 (ix2 k j) = m ((c.tc : Thread nD τ).loc main_arg3) (ix2 k j) := by
  unfold V
  after_reads_at
theorem V3 (c : Dev nD) (j : Fin 5632) (d : Fin 2048) : V m c main_v3 (ix2 j d) = m ((c.tc : Thread nD τ).loc main_arg4) (ix2 j d) := by
  unfold V
  after_reads_at
theorem V4 (c : Dev nD) (k : Fin 2048): V m c main_v4 (ix2 0 k) = m ((c.tc : Thread nD τ).loc main_arg1) (ix1 k) := by
  unfold V
  after_reads_at

/-- The windows' index maps over the grid, decided. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![0, 1, t.val / 11, t.val % 11] ∧ win0_6.index t = ![0, 1, t.val / 11, t.val % 11]
    ∧ win0_7.index t = ![0, 1, t.val, 0] :=
  (by decide +kernel : ∀ t : Fin grid0.N, _)

theorem ib0 (c : Dev nD) (t : Fin cfg0.N) (r : Fin 1024) (k : Fin 2048) (i : Fin 32768) (hi : i.val = 1024 * (t.val / 11) + r.val) :
    iblk m c 0 t (ix2 r k) = V m c main_v0 (ix2 i k) := by
  blk_ext [iblk, idx t]
theorem ib1 (c : Dev nD) (t : Fin cfg0.N) (k : Fin 2048) : iblk m c 1 t (ix2 0 k) = V m c main_v4 (ix2 0 k) := by
  blk_ext [iblk, idx t]
theorem ib2 (c : Dev nD) (t : Fin cfg0.N) (k : Fin 2048) (j : Fin 512) (j' : Fin 5632) (hj : j'.val = (t.val % 11) * 512 + j.val) :
    iblk m c 2 t (ix2 k j) = V m c main_v1 (ix2 k j') := by
  blk_ext [iblk, idx t]
theorem ib3 (c : Dev nD) (t : Fin cfg0.N) (k : Fin 2048) (j : Fin 512) (j' : Fin 5632) (hj : j'.val = (t.val % 11) * 512 + j.val) :
    iblk m c 3 t (ix2 k j) = V m c main_v2 (ix2 k j') := by
  blk_ext [iblk, idx t]
theorem ib4 (c : Dev nD) (t : Fin cfg0.N) (d : Fin 2048) (j : Fin 512) (j' : Fin 5632) (hj : j'.val = (t.val % 11) * 512 + j.val) :
    iblk m c 4 t (ix2 j d) = V m c main_v3 (ix2 j' d) := by
  blk_ext [iblk, idx t]
theorem ib5 (c : Dev nD) (t : Fin cfg0.N) (r : Fin 64) (j : Fin 512) (i : Fin 2048) (j' : Fin 5632) (hi : i.val = 64 * (t.val / 11) + r.val)
    (hj : j'.val = (t.val % 11) * 512 + j.val) :
    iblk m c 5 t (ix4 0 0 r j) = m ((c.tc : Thread nD τ).loc main_arg5) (ix4 0 1 i j') := by
  blk_ext [iblk, idx t]
theorem ib6 (c : Dev nD) (t : Fin cfg0.N) (r : Fin 64) (j : Fin 512) (i : Fin 2048) (j' : Fin 5632) (hi : i.val = 64 * (t.val / 11) + r.val)
    (hj : j'.val = (t.val % 11) * 512 + j.val) :
    iblk m c 6 t (ix4 0 0 r j) = m ((c.tc : Thread nD τ).loc main_arg6) (ix4 0 1 i j') := by
  blk_ext [iblk, idx t]
theorem ib7 (c : Dev nD) (t : Fin cfg0.N) (r : Fin 16) (d : Fin 2048) (i : Fin 5632) (hi : i.val = 16 * t.val + r.val) :
    iblk m c 7 t (ix4 0 0 r d) = m ((c.tc : Thread nD τ).loc main_arg7) (ix4 0 1 i d) := by
  blk_ext [iblk, idx t]

/-! ## What the staging buffers hold after each point -/

/-- Row `i` of the input. -/
abbrev xin (c : Dev nD) (i : Fin 32768) (k : Fin 2048) : EReal := V m c main_v0 (ix2 i k)

/-- The normalised row of token `i`. -/
def xn (c : Dev nD) (i : Fin 32768) : Fin 2048 → EReal :=
  rms (Ideal.ofBits .f32 0x45000000#32) (xin m c i) (fun k => V m c main_v4 (ix2 0 k))

/-- Block `f` of the hidden units' sum of token `i` for feature `d`. -/
def part (c : Dev nD) (i : Fin 32768) (d : Fin 2048) (f : ℕ) : EReal :=
  Math.part (xn m c i) (fun k j => V m c main_v1 (ix2 k j)) (fun k j => V m c main_v2 (ix2 k j)) (fun j d => V m c main_v3 (ix2 j d)) d f

/-- The sum over a point's weight blocks is that block of the hidden units' sum. -/
theorem block_sum (c : Dev nD) (t : Fin cfg0.N) (i : Fin 32768) (d : Fin 2048) (s : Fin 2048 → EReal) (hs : s = xn m c i) :
    (∑ j : Fin 512, half * swi s (fun k j => iblk m c 2 t (ix2 k j)) (fun k j => iblk m c 3 t (ix2 k j)) j * iblk m c 4 t (ix2 j d))
      = part m c i d (t.val % 11) := by
  subst hs
  exact sum_block _ _ _ _ d _ (Nat.mod_lt _ (by decide)) _ _ (fun j => iblk m c 4 t (ix2 j d)) (fun k j => ib2 m c t k j _ rfl)
    (fun k j => ib3 m c t k j _ rfl) (fun j => ib4 m c t d j _ rfl)

/-- A load of 512 rows of the input block, at an index. -/
theorem ld0 (c : Dev nD) (t : Fin cfg0.N) (o : ℕ) (inb) (r : Fin 512) (k : Fin 2048) (i : Fin 32768)
    (hi : i.val = 1024 * (t.val / 11) + (o + r.val)) :
    View.ld (iblk m c 0 t) (Rect.unit ![o, 0] ![512, 2048] inb) (ix2 r k) = V m c main_v0 (ix2 i k) := by
  have hr : o + r.val < 1024 := by
    have := inb 0
    have h512 : (![512, 2048] : Fin 2 → ℕ) 0 = 512 := rfl
    have : o + 512 ≤ 1024 := this
    omega
  refine (View.ld_unit_apply_of _ _ _ _ _ (ix2 (⟨o + r.val, hr⟩ : Fin 1024) k) ?_).trans (ib0 m c t _ k i hi)
  intro a
  fin_cases a <;> simp

/-- After a run's first point the scratch holds the normalised rows; -/
theorem scrA (c : Dev nD) (t : Fin cfg0.N) (h0 : t.val % 11 = 0) (r : Fin 1024) (k : Fin 2048) (i : Fin 32768)
    (hi : i.val = 1024 * (t.val / 11) + r.val) : (outsAt0 m c t.val t.isLt).2.2.2.2 (ix2 r k) = xn m c i k := by
  have h1 : ¬1 ≤ t.val % 11 := by omega
  rw [outsAt0_A m c t h0 h1]
  dsimp only
  frame_out
  canon_tiles x h
  · idx_vars x
    obtain rfl : k = x1 := Fin.ext h1
    rw [norm_eq', Cert.FfnIdeal.RefValue.pay5_apply]
    unfold xn
    simp only [ld0 m c t 512 _ x0 _ i (by omega), ib1]
  · idx_vars x
    obtain rfl : k = x1 := Fin.ext h1
    rw [norm_eq, Cert.FfnIdeal.RefValue.pay5_apply]
    unfold xn
    simp only [ld0 m c t 0 _ x0 _ i (by omega), ib1]

/-- and the block holds the input plus the first block of the hidden units' sum. -/
theorem outA (c : Dev nD) (t : Fin cfg0.N) (h0 : t.val % 11 = 0) (r : Fin 1024) (d : Fin 2048) (i : Fin 32768)
    (hi : i.val = 1024 * (t.val / 11) + r.val) :
    (outsAt0 m c t.val t.isLt).1 (ix2 r d) = xin m c i d + part m c i d 0 := by
  have h1 : ¬1 ≤ t.val % 11 := by omega
  have hb := block_sum m c t i d _ rfl
  rw [h0] at hb
  rw [← hb, outsAt0_A m c t h0 h1]
  dsimp only
  frame_out
  canon_tiles x h
  · idx_vars x
    obtain rfl : d = x1 := Fin.ext h1
    rw [first_eq', Cert.FfnIdeal.RefValue.pay6_apply]
    unfold xn
    simp only [ld0 m c t 512 _ x0 _ i (by omega), ib1]
  · idx_vars x
    obtain rfl : d = x1 := Fin.ext h1
    rw [first_eq, Cert.FfnIdeal.RefValue.pay6_apply]
    unfold xn
    simp only [ld0 m c t 0 _ x0 _ i (by omega), ib1]

/-- The later points keep the scratch: it holds the normalised rows at every point. -/
theorem scr (c : Dev nD) (n : ℕ) (hn : n < cfg0.N) (r : Fin 1024) (k : Fin 2048) (i : Fin 32768)
    (hi : i.val = 1024 * (n / 11) + r.val) : (outsAt0 m c n hn).2.2.2.2 (ix2 r k) = xn m c i k := by
  induction n with
  | zero => exact scrA m c ⟨0, hn⟩ rfl r k i hi
  | succ n ih =>
    by_cases h0 : (n + 1) % 11 = 0
    · exact scrA m c ⟨n + 1, hn⟩ h0 r k i hi
    · have e : (outsAt0 m c (n + 1) hn).2.2.2.2 = (outsAt0 m c n (by omega)).2.2.2.2 := by
        rw [outsAt0_B m c ⟨n + 1, hn⟩ h0 (by show 1 ≤ (n + 1) % 11; omega)]
        rfl
      rw [e]
      exact ih (by omega) (by omega)

/-- At each point the block holds the input plus the blocks of the sum so far. -/
theorem accum (c : Dev nD) (n : ℕ) (hn : n < cfg0.N) (r : Fin 1024) (d : Fin 2048) (i : Fin 32768)
    (hi : i.val = 1024 * (n / 11) + r.val) :
    (outsAt0 m c n hn).1 (ix2 r d) = xin m c i d + ∑ f ∈ Finset.range (n % 11 + 1), part m c i d f := by
  induction n with
  | zero => simpa using outA m c ⟨0, hn⟩ rfl r d i hi
  | succ n ih =>
    by_cases h0 : (n + 1) % 11 = 0
    · rw [h0]; simpa using outA m c ⟨n + 1, hn⟩ h0 r d i hi
    · have hm : (n + 1) % 11 = n % 11 + 1 := by omega
      rw [outsAt0_B m c ⟨n + 1, hn⟩ h0 (by show 1 ≤ (n + 1) % 11; omega)]
      dsimp only
      frame_out
      simp only [read_unread_whole]
      rw [acc_eq, Cert.FfnIdeal.RefValue.pay1_apply,
        block_sum m c ⟨n + 1, hn⟩ i d _ (funext fun k => scr m c (n + 1 - 1) (by omega) r k i (by omega))]
      have e := ih (by omega) (by omega)
      change (outsAt0 m c n _).1 (ix2 r d) + part m c i d ((n + 1) % 11) = _
      rw [e, hm, Finset.sum_range_succ _ (n % 11 + 1), add_assoc]

/-! ## The next layer's weights, cast slice by slice -/

theorem pay4_apply (w : Vec Ideal S1x1x64x512 .f32) (r : Fin 64) (j : Fin 512) : k0_pay4 w (ix2 r j) = w (ix4 0 0 r j) := by
  pointwise [k0_pay4]
theorem pay6_apply (w : Vec Ideal S1x1x16x2048 .f32) (r : Fin 16) (d : Fin 2048) : k0_pay6 w (ix2 r d) = w (ix4 0 0 r d) := by
  pointwise [k0_pay6]

/-- Every point leaves in the three further outputs its block of the next weights. -/
theorem casts (c : Dev nD) (t : Fin cfg0.N) : (outsAt0 m c t.val t.isLt).2.1 = k0_pay4 (iblk m c 5 t)
    ∧ (outsAt0 m c t.val t.isLt).2.2.1 = k0_pay4 (iblk m c 6 t) ∧ (outsAt0 m c t.val t.isLt).2.2.2.1 = k0_pay6 (iblk m c 7 t) := by
  by_cases h0 : t.val % 11 = 0
  · rw [outsAt0_A m c t h0 (by omega)]
    dsimp only
    refine ⟨?_, ?_, ?_⟩ <;> frame_out <;> rfl
  · rw [outsAt0_B m c t h0 (by omega)]
    dsimp only
    refine ⟨?_, ?_, ?_⟩ <;> frame_out <;> rfl

/-- The launch's first result at an index. -/
theorem G8_apply (c : Dev nD) (i : Fin 32768) (d : Fin 2048) :
    G8 m c (ix2 i d)
      = xin m c i d + half * rowMul (swi (xn m c i) (fun k j => V m c main_v1 (ix2 k j)) (fun k j => V m c main_v2 (ix2 k j)))
          (fun j d => V m c main_v3 (ix2 j d)) d := by
  have hp : pt8Of (ix2 i d) = 11 * (i.val / 1024) + 10 := by
    have h1 : ((ix2 i d : S32768x2048.Idx) 0).val = i.val := rfl
    have h2 : ((ix2 i d : S32768x2048.Idx) 1).val = d.val := rfl
    unfold pt8Of run8Of
    rw [h1, h2]
    omega
  have hlt : 11 * (i.val / 1024) + 10 < cfg0.N := by
    change _ < grid0.N
    rw [N_0]; omega
  have hl : loc8Of (ix2 i d) = ix2 (⟨i.val % 1024, by omega⟩ : Fin 1024) d := by
    funext a
    fin_cases a
    · rfl
    · exact Fin.ext (Nat.mod_eq_of_lt d.isLt)
  unfold G8
  rw [dif_pos (by rw [hp]; exact hlt), hl]
  simp only [hp]
  have e := accum m c _ hlt ⟨i.val % 1024, by omega⟩ d i (by dsimp only; omega)
  rw [outsAt0_sweep] at e
  rw [e, show (11 * (i.val / 1024) + 10) % 11 + 1 = 11 by omega]
  simp only [part, parts]

/-- The launch's second result at an index: the next weights' entry. -/
theorem G9_apply (c : Dev nD) (i : Fin 2048) (j : Fin 5632) :
    G9 m c (ix2 i j) = m ((c.tc : Thread nD τ).loc main_arg5) (ix4 0 1 i j) := by
  have h1 : ((ix2 i j : S2048x5632.Idx) 0).val = i.val := rfl
  have h2 : ((ix2 i j : S2048x5632.Idx) 1).val = j.val := rfl
  have hp : pt9Of (ix2 i j) = 11 * (i.val / 64) + j.val / 512 := by
    unfold pt9Of run9Of
    rw [h1, h2]
    omega
  have hlt : 11 * (i.val / 64) + j.val / 512 < cfg0.N := by
    change _ < grid0.N
    rw [N_0]; omega
  have hl : loc9Of (ix2 i j) = ix2 (⟨i.val % 64, by omega⟩ : Fin 64) (⟨j.val % 512, by omega⟩ : Fin 512) := by
    funext a
    fin_cases a <;> rfl
  unfold G9
  rw [dif_pos (by rw [hp]; exact hlt), hl]
  simp only [hp]
  have e := (casts m c ⟨_, hlt⟩).1
  rw [outsAt0_sweep] at e
  rw [e, pay4_apply]
  exact ib5 m c _ _ _ i j (by dsimp only; omega) (by dsimp only; omega)

/-- The launch's third result at an index: the next weights' entry. -/
theorem G10_apply (c : Dev nD) (i : Fin 2048) (j : Fin 5632) :
    G10 m c (ix2 i j) = m ((c.tc : Thread nD τ).loc main_arg6) (ix4 0 1 i j) := by
  have h1 : ((ix2 i j : S2048x5632.Idx) 0).val = i.val := rfl
  have h2 : ((ix2 i j : S2048x5632.Idx) 1).val = j.val := rfl
  have hp : pt10Of (ix2 i j) = 11 * (i.val / 64) + j.val / 512 := by
    unfold pt10Of run10Of
    rw [h1, h2]
    omega
  have hlt : 11 * (i.val / 64) + j.val / 512 < cfg0.N := by
    change _ < grid0.N
    rw [N_0]; omega
  have hl : loc10Of (ix2 i j) = ix2 (⟨i.val % 64, by omega⟩ : Fin 64) (⟨j.val % 512, by omega⟩ : Fin 512) := by
    funext a
    fin_cases a <;> rfl
  unfold G10
  rw [dif_pos (by rw [hp]; exact hlt), hl]
  simp only [hp]
  have e := (casts m c ⟨_, hlt⟩).2.1
  rw [outsAt0_sweep] at e
  rw [e, pay4_apply]
  exact ib6 m c _ _ _ i j (by dsimp only; omega) (by dsimp only; omega)

/-- The launch's fourth result at an index: the next weights' entry. -/
theorem G11_apply (c : Dev nD) (i : Fin 5632) (j : Fin 2048) :
    G11 m c (ix2 i j) = m ((c.tc : Thread nD τ).loc main_arg7) (ix4 0 1 i j) := by
  have h1 : ((ix2 i j : S5632x2048.Idx) 0).val = i.val := rfl
  have h2 : ((ix2 i j : S5632x2048.Idx) 1).val = j.val := rfl
  have hp : pt11Of (ix2 i j) = i.val / 16 := by
    unfold pt11Of run11Of
    rw [h1, h2]
    omega
  have hlt : i.val / 16 < cfg0.N := by
    change _ < grid0.N
    rw [N_0]; omega
  have hl : loc11Of (ix2 i j) = ix2 (⟨i.val % 16, by omega⟩ : Fin 16) (⟨j.val % 2048, by omega⟩ : Fin 2048) := by
    funext a
    fin_cases a <;> rfl
  unfold G11
  rw [dif_pos (by rw [hp]; exact hlt), hl]
  simp only [hp]
  have e := (casts m c ⟨_, hlt⟩).2.2
  rw [outsAt0_sweep] at e
  rw [e, pay6_apply]
  exact (ib7 m c _ _ _ i (by dsimp only; omega)).trans (by rw [show (⟨j.val % 2048, by omega⟩ : Fin 2048) = j from Fin.ext (Nat.mod_eq_of_lt j.isLt)])

end Cert.FfnNextIdeal.RefValue
-- ==== Proof.FfnNextClaim.lean ====
module

public import proofs.«01_k».proof.Defs
public import proofs.«01_k».proof.Proof.FfnRef
public import proofs.«01_k».proof.Proof.FfnNextVal
public import proofs.«01_k».proof.Proof.Gen.RefFfnNextIdeal.Run

@[expose] public section

set_option maxRecDepth 16384

noncomputable section

namespace Cert.RefFfnNextIdeal.RefValue

open Cert.RefFfnNextIdeal Cert.RefFfnNextIdeal.Gen Idealize.ShloMosaic Idealize.ShloMosaic.TcCoe Cert.Math

/-- The reference's first result at token `i`, feature `d`: the residual sum of that token. -/
theorem out_apply (x : FVec Ideal S2x16384x2048 .f32) (g : FVec Ideal S2048 .f32) (wg wu : FVec Ideal S2048x5632 .f32)
    (wd : FVec Ideal S5632x2048 .f32) (i : Fin 32768) (d : Fin 2048) :
    shapeCast S32768x2048 (Cert.RefFfnIdeal.RefValue.hmid x g wg wu wd) shapeCasts_S2x16384x2048_S32768x2048 (ix2 i d)
      = Cert.RefFfnIdeal.RefValue.ffnRow (fun k => x (ix3 ⟨i.val / 16384, by omega⟩ ⟨i.val % 16384, by omega⟩ k)) (fun k => g (ix1 k))
          (fun k j => wg (ix2 k j)) (fun k j => wu (ix2 k j)) (fun k j => wd (ix2 k j)) d := by
  refine (shapeCast_apply _ _ _ (ix3 ⟨i.val / 16384, by omega⟩ ⟨i.val % 16384, by omega⟩ d) ?_).trans ?_
  · rw [Shape.rowMajor_val_three, Shape.rowMajor_val_two]
    show (i.val / 16384 * 16384 + i.val % 16384) * 2048 + d.val = i.val * 2048 + d.val
    omega
  · rw [Cert.RefFfnIdeal.RefValue.hmid_apply]

/-- The reference's slices of the next weights, at an index. -/
theorem up_apply (w : FVec Ideal S4x2x2048x5632 .f32) (i : Fin 2048) (j : Fin 5632) :
    truncf .bf16 (shapeCast S2048x5632 (extractStridedSlice S1x1x2048x5632 ![0, 1, 0, 0] w slices_S4x2x2048x5632_S1x1x2048x5632_0_1_0_0)
      shapeCasts_S1x1x2048x5632_S2048x5632) bitsLt_bf16_f32 (ix2 i j) = w (ix4 0 1 i j) := by
  pointwise
theorem down_apply (w : FVec Ideal S4x2x5632x2048 .f32) (i : Fin 5632) (j : Fin 2048) :
    truncf .bf16 (shapeCast S5632x2048 (extractStridedSlice S1x1x5632x2048 ![0, 1, 0, 0] w slices_S4x2x5632x2048_S1x1x5632x2048_0_1_0_0)
      shapeCasts_S1x1x5632x2048_S5632x2048) bitsLt_bf16_f32 (ix2 i j) = w (ix4 0 1 i j) := by
  pointwise

end Cert.RefFfnNextIdeal.RefValue

namespace Cert.Proof.FfnNextClaims

open Idealize.ShloMosaic Idealize.SL.Sem Cert.Math Cert.FfnNextIdeal.RefValue

/-- The kernel's first result, in terms of its arguments: the residual sum of each token's row. -/
theorem first_eq (m : (ℓ : Loc Cert.FfnNextIdeal.nD Cert.FfnNextIdeal.τ Cert.FfnNextIdeal.sig) → Buf (Elt Ideal) ℓ) (c : Dev Cert.FfnNextIdeal.nD)
    (i : Fin 32768) (d : Fin 2048) :
    Cert.FfnNextIdeal.Value.G8 m c (ix2 i d) = Cert.RefFfnIdeal.RefValue.ffnRow
      (fun k => m ((c.tc : Thread Cert.FfnNextIdeal.nD Cert.FfnNextIdeal.τ).loc Cert.FfnNextIdeal.main_arg0) (ix3 ⟨i.val / 16384, by omega⟩ ⟨i.val % 16384, by omega⟩ k))
      (fun k => m ((c.tc : Thread Cert.FfnNextIdeal.nD Cert.FfnNextIdeal.τ).loc Cert.FfnNextIdeal.main_arg1) (ix1 k))
      (fun k j => m ((c.tc : Thread Cert.FfnNextIdeal.nD Cert.FfnNextIdeal.τ).loc Cert.FfnNextIdeal.main_arg2) (ix2 k j))
      (fun k j => m ((c.tc : Thread Cert.FfnNextIdeal.nD Cert.FfnNextIdeal.τ).loc Cert.FfnNextIdeal.main_arg3) (ix2 k j))
      (fun k j => m ((c.tc : Thread Cert.FfnNextIdeal.nD Cert.FfnNextIdeal.τ).loc Cert.FfnNextIdeal.main_arg4) (ix2 k j)) d := by
  refine (G8_apply m c i d).trans ?_
  unfold Cert.RefFfnIdeal.RefValue.ffnRow xn
  rw [show xin m c i = _ from funext fun k => V0 m c i k,
    show (fun k => Cert.FfnNextIdeal.Gen.V m c Cert.FfnNextIdeal.main_v4 (ix2 0 k)) = _ from funext fun k => V4 m c k,
    show (fun k j => Cert.FfnNextIdeal.Gen.V m c Cert.FfnNextIdeal.main_v1 (ix2 k j)) = _ from funext fun k => funext fun j => V1 m c k j,
    show (fun k j => Cert.FfnNextIdeal.Gen.V m c Cert.FfnNextIdeal.main_v2 (ix2 k j)) = _ from funext fun k => funext fun j => V2 m c k j,
    show (fun k j => Cert.FfnNextIdeal.Gen.V m c Cert.FfnNextIdeal.main_v3 (ix2 k j)) = _ from funext fun k => funext fun j => V3 m c k j]

theorem frame_ref : Cert.quiescent_RefFfnNextIdeal := fun m ρ _ =>
  (θ_run Cert.RefFfnNextIdeal.defs _ _).mono (fun r h => ⟨fun c => (h c).2.2.2.2, Idealize.ShloMosaic.sem_eq_zero_of_no_sems (by decide) r.2⟩)
    (Cert.RefFfnNextIdeal.Value.run (F := Ideal) m ρ)

/-- The feed-forward call that also casts the next call's weights and its reference end with equal results over the
    extended reals, all four of them. -/
theorem algebraic : Cert.algebraic_FfnNextIdeal_RefFfnNextIdeal := by
  intro m ρ m' ρ' _ hagree
  refine ⟨fun c => Cert.FfnNextIdeal.Value.G8 m c, fun c => Cert.FfnNextIdeal.Value.G9 m c, fun c => Cert.FfnNextIdeal.Value.G10 m c,
    fun c => Cert.FfnNextIdeal.Value.G11 m c, Cert.FfnNextIdeal.Value.run (F := Ideal) m ρ, ?_⟩
  refine (θ_run Cert.RefFfnNextIdeal.defs _ _).mono (fun _ h c => ?_) (Cert.RefFfnNextIdeal.Value.run (F := Ideal) m' ρ')
  obtain ⟨h0, h1, h2, h3, h4, h5, h6, h7⟩ := hagree c
  obtain ⟨r0, r1, r2, r3, rest⟩ := h c
  refine ⟨r0.trans ?_, r1.trans ?_, r2.trans ?_, r3.trans ?_, rest⟩
  · refine Eq.trans (b := shapeCast Cert.RefFfnNextIdeal.S32768x2048 (Cert.RefFfnIdeal.RefValue.hmid _ _ _ _ _) Cert.RefFfnNextIdeal.Gen.shapeCasts_S2x16384x2048_S32768x2048) rfl ?_
    funext y
    obtain ⟨i, d, rfl⟩ : ∃ (i : Fin 32768) (d : Fin 2048), y = ix2 i d := ⟨y 0, y 1, eq_ix2 y⟩
    refine (Cert.RefFfnNextIdeal.RefValue.out_apply _ _ _ _ _ i d).trans ?_
    rw [h0, h1, h2, h3, h4]
    exact (first_eq m c i d).symm
  · funext y
    obtain ⟨i, d, rfl⟩ : ∃ (i : Fin 2048) (d : Fin 5632), y = ix2 i d := ⟨y 0, y 1, eq_ix2 y⟩
    refine (Cert.RefFfnNextIdeal.RefValue.up_apply _ i d).trans ?_
    rw [h5]
    exact (G9_apply m c i d).symm
  · funext y
    obtain ⟨i, d, rfl⟩ : ∃ (i : Fin 2048) (d : Fin 5632), y = ix2 i d := ⟨y 0, y 1, eq_ix2 y⟩
    refine (Cert.RefFfnNextIdeal.RefValue.up_apply _ i d).trans ?_
    rw [h6]
    exact (G10_apply m c i d).symm
  · funext y
    obtain ⟨i, d, rfl⟩ : ∃ (i : Fin 5632) (d : Fin 2048), y = ix2 i d := ⟨y 0, y 1, eq_ix2 y⟩
    refine (Cert.RefFfnNextIdeal.RefValue.down_apply _ i d).trans ?_
    rw [h7]
    exact (G11_apply m c i d).symm

end Cert.Proof.FfnNextClaims
-- ==== Proof.MixMath.lean ====
module

public import proofs.«01_k».proof.Proof.Math
public import Idealize.ShloMosaic.PureOps.Ideal.Laws

@[expose] public section

noncomputable section

/-! The mathematics of the gMLP mixer over the extended reals. -/

namespace Cert.Math

open Idealize.ShloMosaic

/-- The exact GELU: one half of `z`, times one plus the error function of `z` over the root of two. -/
def gelu (z : EReal) : EReal := half * z * (1 + Ideal.erf (z * Ideal.ofBits .f32 0x3F3504F3#32))

/-- The complement of the error function at the negated argument gives the same GELU. -/
theorem gelu_erfc (z : EReal) : half * z * Ideal.erfc (-z * Ideal.ofBits .f32 0x3F3504F3#32) = gelu z := by
  rw [EReal.neg_mul, Ideal.erfc_neg]; rfl

/-- The lower triangle of each group's 128 by 128 table. -/
def tril (w : Fin 16 → Fin 128 → Fin 128 → EReal) (g : Fin 16) (q p : Fin 128) : EReal := if p ≤ q then w g q p else 0

/-- The integer comparison of row and column numbers selects the lower triangle. -/
theorem select_tril (q p : Fin 128) (a b : EReal) :
    Scalar.select (IntOp.cmpi CmpIPredicate.sge (IntOp.addi (BitVec.ofNat 32 ↑q) 0#32) (BitVec.ofNat 32 ↑p)) a b = if p ≤ q then a else b := by
  have h : ∀ q p : Fin 128, IntOp.cmpi CmpIPredicate.sge (IntOp.addi (BitVec.ofNat 32 ↑q) 0#32) (BitVec.ofNat 32 ↑p) = if p ≤ q then 1#1 else 0#1 := by
    decide +kernel
  rw [h]
  split_ifs <;> rfl

/-- The gMLP's first half of hidden units, for a row of the layer's input. -/
def gate (g : Fin 2048 → EReal) (w : Fin 2048 → Fin 4096 → EReal) (x : Fin 2048 → EReal) (j : Fin 2048) : EReal :=
  gelu (rowMul (rms (Ideal.ofBits .f32 0x45000000#32) x g) w ⟨j.val, by omega⟩)

/-- The second half, before its normalisation; -/
def val (g : Fin 2048 → EReal) (w : Fin 2048 → Fin 4096 → EReal) (x : Fin 2048 → EReal) (j : Fin 2048) : EReal :=
  gelu (rowMul (rms (Ideal.ofBits .f32 0x45000000#32) x g) w ⟨2048 + j.val, by omega⟩)

/-- and normalised. -/
def valn (g : Fin 2048 → EReal) (w : Fin 2048 → Fin 4096 → EReal) (vg : Fin 2048 → EReal) (x : Fin 2048 → EReal) : Fin 2048 → EReal :=
  rms (Ideal.ofBits .f32 0x45000000#32) (val g w x) vg

/-- Rows of a chunk mixed: entry `j` of row `q` is the table's row `q` of `j`'s group over the rows of the chunk, plus that row's bias. -/
def mix (ws : Fin 16 → Fin 128 → Fin 128 → EReal) (bs : Fin 16 → Fin 128 → EReal) (v : Fin 128 → Fin 2048 → EReal) (q : Fin 128)
    (j : Fin 2048) : EReal :=
  (∑ p, ws ⟨j.val / 128, by omega⟩ q p * v p j) + bs ⟨j.val / 128, by omega⟩ q

/-- Row `q` of a chunk after the gMLP mixer: the row plus the gated, mixed units times the output table. -/
def gmlp (g : Fin 2048 → EReal) (w : Fin 2048 → Fin 4096 → EReal) (vg : Fin 2048 → EReal) (ws : Fin 16 → Fin 128 → Fin 128 → EReal)
    (bs : Fin 16 → Fin 128 → EReal) (wo : Fin 2048 → Fin 2048 → EReal) (X : Fin 128 → Fin 2048 → EReal) (q : Fin 128) (d : Fin 2048) : EReal :=
  X q d + rowMul (fun j => gate g w (X q) j * mix ws bs (fun p => valn g w vg (X p)) q j) wo d

end Cert.Math
-- ==== Proof.GmlpRef.lean ====
module

public import proofs.«01_k».proof.Proof.MixMath
public import proofs.«01_k».proof.Proof.Gen.RefGmlpIdeal.Run
public import Idealize.ShloMosaic.Lib.Pointwise

@[expose] public section

set_option maxRecDepth 16384

noncomputable section

namespace Cert.RefGmlpIdeal.RefValue

open Cert.RefGmlpIdeal Cert.RefGmlpIdeal.Gen Idealize.ShloMosaic Idealize.ShloMosaic.TcCoe Cert.Math

/-- The host's RMS normalisation of a [2,16384,2048] array. -/
def hrms (x : FVec Ideal S2x16384x2048 .f32) (g : FVec Ideal S2048 .f32) : FVec Ideal S2x16384x2048 .f32 :=
  mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))

theorem hrms_apply (x : FVec Ideal S2x16384x2048 .f32) (g : FVec Ideal S2048 .f32) (b : Fin 2) (s : Fin 16384) (k : Fin 2048) :
    hrms x g (ix3 b s k) = rms (Ideal.ofBits .f32 0x45000000#32) (fun k => x (ix3 b s k)) (fun k => g (ix1 k)) k := by
  unfold rms
  pointwise [hrms]

/-- The hidden units before the GELU. -/
def hz (x : FVec Ideal S2x16384x2048 .f32) (g : FVec Ideal S2048 .f32) (w : FVec Ideal S2048x4096 .f32) : FVec Ideal S2x16384x4096 .f32 :=
  Host.dotGeneral dot_S2x16384x2048_S2048x4096_S2x16384x4096_2_0_01_1_n_n none (hrms x g) w

theorem hz_apply (x : FVec Ideal S2x16384x2048 .f32) (g : FVec Ideal S2048 .f32) (w : FVec Ideal S2048x4096 .f32) (b : Fin 2) (s : Fin 16384) (j : Fin 4096) :
    hz x g w (ix3 b s j) = rowMul (rms (Ideal.ofBits .f32 0x45000000#32) (fun k => x (ix3 b s k)) (fun k => g (ix1 k))) (fun k j => w (ix2 k j)) j := by
  unfold rowMul
  simp only [← hrms_apply]
  pointwise [hz, dot_S2x16384x2048_S2048x4096_S2x16384x4096_2_0_01_1_n_n]

/-- The hidden units. -/
def hgelu (z : FVec Ideal S2x16384x4096 .f32) : FVec Ideal S2x16384x4096 .f32 :=
  mulf (mulf (broadcastInDim S2x16384x4096 ![] bcast_S_S2x16384x4096 (constant S_ .f32 0x3F000000#32)) z)
    (Host.erfc (mulf (Host.negf z) (broadcastInDim S2x16384x4096 ![] bcast_S_S2x16384x4096 (constant S_ .f32 0x3F3504F3#32))))

theorem hgelu_apply (z : FVec Ideal S2x16384x4096 .f32) (b : Fin 2) (s : Fin 16384) (j : Fin 4096) :
    hgelu z (ix3 b s j) = gelu (z (ix3 b s j)) := by
  rw [← gelu_erfc]
  pointwise [hgelu]

/-- The gate's half of the hidden units, and the normalised other half. -/
def hu (x : FVec Ideal S2x16384x2048 .f32) (g : FVec Ideal S2048 .f32) (w : FVec Ideal S2048x4096 .f32) : FVec Ideal S2x16384x2048 .f32 :=
  extractStridedSlice S2x16384x2048 ![0, 0, 0] (hgelu (hz x g w)) slices_S2x16384x4096_S2x16384x2048_0_0_0
def hv (x : FVec Ideal S2x16384x2048 .f32) (g : FVec Ideal S2048 .f32) (w : FVec Ideal S2048x4096 .f32) (vg : FVec Ideal S2048 .f32) :
    FVec Ideal S2x16384x2048 .f32 :=
  hrms (extractStridedSlice S2x16384x2048 ![0, 0, 2048] (hgelu (hz x g w)) slices_S2x16384x4096_S2x16384x2048_0_0_2048) vg

theorem hu_apply (x : FVec Ideal S2x16384x2048 .f32) (g : FVec Ideal S2048 .f32) (w : FVec Ideal S2048x4096 .f32) (b : Fin 2) (s : Fin 16384) (j : Fin 2048) :
    hu x g w (ix3 b s j) = gate (fun k => g (ix1 k)) (fun k j => w (ix2 k j)) (fun k => x (ix3 b s k)) j := by
  unfold gate
  rw [← hz_apply, ← hgelu_apply]
  pointwise [hu]

theorem hv_apply (x : FVec Ideal S2x16384x2048 .f32) (g : FVec Ideal S2048 .f32) (w : FVec Ideal S2048x4096 .f32) (vg : FVec Ideal S2048 .f32) (b : Fin 2) (s : Fin 16384) (j : Fin 2048) :
    hv x g w vg (ix3 b s j) = valn (fun k => g (ix1 k)) (fun k j => w (ix2 k j)) (fun k => vg (ix1 k)) (fun k => x (ix3 b s k)) j := by
  unfold hv valn
  rw [hrms_apply]
  congr 1
  funext j
  unfold val
  rw [← hz_apply, ← hgelu_apply]
  pointwise

/-- The lower triangles of the spatial tables. -/
def htril (w : FVec Ideal S16x128x128 .f32) : FVec Ideal S16x128x128 .f32 :=
  select (broadcastInDim S16x128x128 ![1, 2] bcast_S128x128_S16x128x128_1_2 (cmpi .sge (addi (iotaInDim S128x128 32 0) (broadcastInDim S128x128 ![] bcast_S_S128x128 (constantI S_ 32 0#32))) (iotaInDim S128x128 32 1))) w (broadcastInDim S16x128x128 ![] bcast_S_S16x128x128 (constant S_ .f32 0x00000000#32))

theorem htril_apply (w : FVec Ideal S16x128x128 .f32) (g : Fin 16) (q p : Fin 128) : htril w (ix3 g q p) = tril (fun g q p => w (ix3 g q p)) g q p := by
  unfold tril
  rw [← select_tril]
  pointwise [htril]

/-- The rows of each chunk mixed, before the bias: [batch, chunk, row, group, column]. -/
def hmix (v : FVec Ideal S2x16384x2048 .f32) (ws : FVec Ideal S16x128x128 .f32) : FVec Ideal S2x128x128x16x128 .f32 :=
  transpose S2x128x128x16x128 [1, 2, 4, 0, 3] (Host.dotGeneral dot_S2x128x128x16x128_S16x128x128_S16x2x128x128x128_2_2_014_1_3_0 none (shapeCast _ v shapeCasts_S2x16384x2048_S2x128x128x16x128) ws) transposes_S16x2x128x128x128_S2x128x128x16x128_1_2_4_0_3

theorem hmix_apply (v : FVec Ideal S2x16384x2048 .f32) (ws : FVec Ideal S16x128x128 .f32) (b : Fin 2) (n q : Fin 128) (g : Fin 16) (e : Fin 128) :
    hmix v ws (ix5 b n q g e) = ∑ p : Fin 128, ws (ix3 g q p) * v (ix3 b ⟨n.val * 128 + p.val, by omega⟩ ⟨g.val * 128 + e.val, by omega⟩) := by
  pointwise [hmix, dot_S2x128x128x16x128_S16x128x128_S16x2x128x128x128_2_2_014_1_3_0]
  exact Finset.sum_congr rfl fun p _ => mul_comm _ _

/-- The mixed rows with their biases, as a [2,16384,2048] array. -/
def hmixb (v : FVec Ideal S2x16384x2048 .f32) (ws : FVec Ideal S16x128x128 .f32) (bs : FVec Ideal S16x128 .f32) : FVec Ideal S2x16384x2048 .f32 :=
  shapeCast _ (addf (hmix v ws) (broadcastInDim S2x128x128x16x128 ![0, 1, 2, 3, 4] bcast_S1x1x128x16x1_S2x128x128x16x128_0_1_2_3_4 (broadcastInDim S1x1x128x16x1 ![2, 3, 4] bcast_S128x16x1_S1x1x128x16x1_2_3_4 (broadcastInDim S128x16x1 ![0, 1] bcast_S128x16_S128x16x1_0_1 (transpose S128x16 [1, 0] bs transposes_S16x128_S128x16_1_0))))) shapeCasts_S2x128x128x16x128_S2x16384x2048

theorem hmixb_apply (v : FVec Ideal S2x16384x2048 .f32) (ws : FVec Ideal S16x128x128 .f32) (bs : FVec Ideal S16x128 .f32) (b : Fin 2) (s : Fin 16384) (j : Fin 2048) :
    hmixb v ws bs (ix3 b s j) = mix (fun g q p => ws (ix3 g q p)) (fun g q => bs (ix2 g q)) (fun p j => v (ix3 b ⟨s.val / 128 * 128 + p.val, by omega⟩ j)) ⟨s.val % 128, by omega⟩ j := by
  have e := hmix_apply v ws b ⟨s.val / 128, by omega⟩ ⟨s.val % 128, by omega⟩ ⟨j.val / 128, by omega⟩ ⟨j.val % 128, by omega⟩
  have hj : ∀ h, (⟨j.val / 128 * 128 + j.val % 128, h⟩ : Fin 2048) = j := fun _ => Fin.ext (by dsimp only; omega)
  simp only [hj] at e
  unfold mix
  rw [← e]
  pointwise [hmixb]

/-- The reference's sum: the input plus the gated, mixed units times the output table. -/
def hout (x : FVec Ideal S2x16384x2048 .f32) (g : FVec Ideal S2048 .f32) (w : FVec Ideal S2048x4096 .f32) (vg : FVec Ideal S2048 .f32)
    (ws : FVec Ideal S16x128x128 .f32) (bs : FVec Ideal S16x128 .f32) (wo : FVec Ideal S2048x2048 .f32) : FVec Ideal S2x16384x2048 .f32 :=
  addf x (Host.dotGeneral dot_S2x16384x2048_S2048x2048_S2x16384x2048_2_0_01_1_n_n none (mulf (hu x g w) (hmixb (hv x g w vg) (htril ws) bs)) wo)

theorem hout_apply (x : FVec Ideal S2x16384x2048 .f32) (g : FVec Ideal S2048 .f32) (w : FVec Ideal S2048x4096 .f32) (vg : FVec Ideal S2048 .f32)
    (ws : FVec Ideal S16x128x128 .f32) (bs : FVec Ideal S16x128 .f32) (wo : FVec Ideal S2048x2048 .f32) (b : Fin 2) (s : Fin 16384) (d : Fin 2048) :
    hout x g w vg ws bs wo (ix3 b s d) = gmlp (fun k => g (ix1 k)) (fun k j => w (ix2 k j)) (fun k => vg (ix1 k)) (tril fun g q p => ws (ix3 g q p))
      (fun g q => bs (ix2 g q)) (fun j d => wo (ix2 j d)) (fun p k => x (ix3 b ⟨s.val / 128 * 128 + p.val, by omega⟩ k)) ⟨s.val % 128, by omega⟩ d := by
  have hs : ∀ h, (⟨s.val / 128 * 128 + s.val % 128, h⟩ : Fin 16384) = s := fun _ => Fin.ext (by dsimp only; omega)
  have e : ∀ j, hmixb (hv x g w vg) (htril ws) bs (ix3 b s j) = _ := fun j => hmixb_apply _ _ _ b s j
  simp only [hv_apply, htril_apply] at e
  unfold gmlp rowMul
  simp only [hs]
  simp only [← hu_apply]
  rw [show (mix _ _ _ _) = fun j => _ from funext fun j => (e j).symm]
  pointwise [hout, dot_S2x16384x2048_S2048x2048_S2x16384x2048_2_0_01_1_n_n]

/-- The reference's composed term, in the pieces above. -/
theorem res_eq (m : (ℓ : Loc nD τ sig) → Buf (Elt Ideal) ℓ) (c : Dev nD) :
    Value.res_out0 m c = shapeCast S32768x2048 (hout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) shapeCasts_S2x16384x2048_S32768x2048 := by
  unfold Value.res_out0 Value.res_main_v49
  rfl

/-- The reference's result at token `i`, feature `d`: the mixer's row, of the rows of the token's chunk. -/
theorem out_apply (m : (ℓ : Loc nD τ sig) → Buf (Elt Ideal) ℓ) (c : Dev nD) (i : Fin 32768) (d : Fin 2048) :
    Value.res_out0 m c (ix2 i d) = gmlp (fun k => m ((c.tc : Thread nD τ).loc main_arg1) (ix1 k)) (fun k j => m ((c.tc : Thread nD τ).loc main_arg2) (ix2 k j))
      (fun k => m ((c.tc : Thread nD τ).loc main_arg3) (ix1 k)) (tril fun g q p => m ((c.tc : Thread nD τ).loc main_arg4) (ix3 g q p))
      (fun g q => m ((c.tc : Thread nD τ).loc main_arg5) (ix2 g q)) (fun j d => m ((c.tc : Thread nD τ).loc main_arg6) (ix2 j d))
      (fun p k => m ((c.tc : Thread nD τ).loc main_arg0) (ix3 ⟨i.val / 16384, by omega⟩ ⟨i.val % 16384 / 128 * 128 + p.val, by omega⟩ k))
      ⟨i.val % 128, by omega⟩ d := by
  rw [res_eq]
  refine (shapeCast_apply _ _ _ (ix3 ⟨i.val / 16384, by omega⟩ ⟨i.val % 16384, by omega⟩ d) ?_).trans ?_
  · rw [Shape.rowMajor_val_three, Shape.rowMajor_val_two]
    show (i.val / 16384 * 16384 + i.val % 16384) * 2048 + d.val = i.val * 2048 + d.val
    omega
  · rw [hout_apply]
    exact congrArg (fun q => gmlp _ _ _ _ _ _ _ q d) (Fin.ext (show i.val % 16384 % 128 = i.val % 128 by omega))

end Cert.RefGmlpIdeal.RefValue
-- ==== Proof.GmlpVal.lean ====
module

public import proofs.«01_k».proof.Proof.MixMath
public import proofs.«01_k».proof.Proof.Gen.GmlpIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.GmlpIdeal.RefValue

open Cert.GmlpIdeal Cert.GmlpIdeal.Gen Cert.GmlpIdeal.Value Idealize.ShloMosaic Idealize.ShloMosaic.TcCoe Cert.Math

/-! ## The body's stored values at an index -/

/-- The normalised rows. -/
theorem pay3_apply (x : Vec Ideal S512x2048 .f32) (g : Vec Ideal S1x2048 .f32) (r : Fin 512) (k : Fin 2048) :
    k0_pay3 x g (ix2 r k) = rms (Ideal.ofBits .f32 0x45000000#32) (fun k => x (ix2 r k)) (fun k => g (ix2 0 k)) k := by
  unfold rms
  pointwise [k0_pay3]

/-- The other half's normalised rows. -/
theorem pay11_apply (x : Vec Ideal S512x2048 .f32) (g : Vec Ideal S1x2048 .f32) (r : Fin 512) (k : Fin 2048) :
    k0_pay11 x g (ix2 r k) = rms (Ideal.ofBits .f32 0x45000000#32) (fun k => x (ix2 r k)) (fun k => g (ix2 0 k)) k := by
  unfold rms
  pointwise [k0_pay11]

/-- A column block of hidden units, from normalised rows. -/
theorem pay9_apply (h : FVec Ideal S512x2048 .bf16) (w : Vec Ideal S2048x1024 .bf16) (r : Fin 512) (j : Fin 1024) :
    k0_pay9 h w (ix2 r j) = gelu (rowMul (fun k => h (ix2 r k)) (fun k j => w (ix2 k j)) j) := by
  unfold gelu rowMul
  pointwise [k0_pay9, dot_S512x2048_S2048x1024_S512x1024_1_0_0_1_n_n]
  rfl

/-- The other column blocks are the same function. -/
theorem pay10_eq (h : FVec Ideal S512x2048 .bf16) (w : Vec Ideal S2048x1024 .bf16) : k0_pay10 h w = k0_pay9 h w := rfl
theorem pay4_eq (x : Vec Ideal S512x2048 .f32) (g : Vec Ideal S1x2048 .f32) (w : Vec Ideal S2048x1024 .bf16) :
    k0_pay4 x g w = k0_pay9 (k0_pay3 x g) w := rfl
theorem pay8_eq (x : Vec Ideal S512x2048 .f32) (g : Vec Ideal S1x2048 .f32) (w : Vec Ideal S2048x1024 .bf16) :
    k0_pay8 (k0_pay6 x g w) (k0_pay7 x g w) = k0_pay9 (k0_pay3 x g) w := rfl

/-- The output rows. -/
theorem pay2_apply (x : Vec Ideal S512x2048 .f32) (h : Vec Ideal S512x2048 .bf16) (w : Vec Ideal S2048x2048 .bf16) (r : Fin 512) (d : Fin 2048) :
    k0_pay2 x h w (ix2 r d) = x (ix2 r d) + rowMul (fun j => h (ix2 r j)) (fun j d => w (ix2 j d)) d := by
  unfold rowMul
  pointwise [k0_pay2, dot_S512x2048_S2048x2048_S512x2048_1_0_0_1_n_n]

/-- One 128 by 128 tile of the gated units: the gate's tile times the group's table times the tile of normalised rows, with the bias. -/
def tile (v : FVec Ideal S512x2048 .bf16) (off : Fin 2 → ℕ) (hs : S512x2048.Slices off S128x128) (ws : Vec Ideal S1x128x128 .bf16)
    (bs : Vec Ideal S1x128x1 .f32) (u : Vec Ideal S128x128 .f32) : FVec Ideal S128x128 .bf16 :=
  shapeCast S128x128 (truncf .bf16 (mulf u (addf (matmul dot_S128x128_S128x128_S128x128_1_0_0_1_n_n none
    (shapeCast S128x128 ws shapeCasts_S1x128x128_S128x128 : FVec Ideal S128x128 .bf16) (extractStridedSlice S128x128 off v hs) (constant S128x128 .f32 0x00000000#32))
    (broadcastTo S128x128 (shapeCast S128x1 bs shapeCasts_S1x128x1_S128x1) broadcasts_S128x1_S128x128))) bitsLt_bf16_f32) shapeCasts_S128x128_S128x128

/-- The gated units of a block of 512 rows: four chunks of 128. -/
def gated (u v : Fin 512 → Fin 2048 → EReal) (ws : Fin 16 → Fin 128 → Fin 128 → EReal) (bs : Fin 16 → Fin 128 → EReal) (r : Fin 512) (j : Fin 2048) : EReal :=
  u r j * mix ws bs (fun p => v ⟨r.val / 128 * 128 + p.val, by omega⟩) ⟨r.val % 128, by omega⟩ j

/-- A tile at an index, when its operands are loaded at the tile's rows, columns and group. -/
theorem tile_apply (v : FVec Ideal S512x2048 .bf16) (a b g : ℕ) (hs : S512x2048.Slices ![a, b] S128x128) (W : Vec Ideal S16x128x128 .bf16)
    (B : Vec Ideal S16x128x1 .f32) (U : Vec Ideal S512x2048 .f32) (inbW) (inbB) (inbU) (x0 x1 : Fin 128) (r : Fin 512) (j : Fin 2048)
    (h0 : r.val = a + x0.val) (h1 : j.val = b + x1.val) (ha : a % 128 = 0) (hb : b = g * 128) :
    tile v ![a, b] hs (View.ld W (Rect.unit ![g, 0, 0] ![1, 128, 128] inbW)) (View.ld B (Rect.unit ![g, 0, 0] ![1, 128, 1] inbB))
        (View.ld U (Rect.unit ![a, b] ![128, 128] inbU)) (ix2 x0 x1)
      = gated (fun r j => U (ix2 r j)) (fun r j => v (ix2 r j)) (fun g q p => W (ix3 g q p)) (fun g q => B (ix3 g q 0)) r j := by
  have hu : View.ld U (Rect.unit ![a, b] ![128, 128] inbU) (ix2 x0 x1) = U (ix2 r j) :=
    View.ld_unit_apply_of _ _ _ _ _ (ix2 r j) (by intro k; fin_cases k <;> simp [h0, h1])
  have hw : ∀ p : Fin 128, View.ld W (Rect.unit ![g, 0, 0] ![1, 128, 128] inbW) (ix3 (0 : Fin 1) x0 p) = W (ix3 ⟨j.val / 128, by omega⟩ ⟨r.val % 128, by omega⟩ p) := fun p =>
    View.ld_unit_apply_of _ _ _ _ _ (ix3 _ _ _) (by intro k; fin_cases k <;> simp <;> omega)
  have hbb : View.ld B (Rect.unit ![g, 0, 0] ![1, 128, 1] inbB) (ix3 (0 : Fin 1) x0 (0 : Fin 1)) = B (ix3 ⟨j.val / 128, by omega⟩ ⟨r.val % 128, by omega⟩ 0) :=
    View.ld_unit_apply_of _ _ _ _ _ (ix3 _ _ _) (by intro k; fin_cases k <;> simp <;> omega)
  have hv : ∀ p : Fin 128, extractStridedSlice S128x128 ![a, b] v hs (ix2 p x1) = v (ix2 ⟨r.val / 128 * 128 + p.val, by omega⟩ j) := fun p =>
    extractStridedSlice_apply _ _ _ _ _ (by intro k; fin_cases k <;> simp <;> omega)
  unfold gated mix
  dsimp only
  rw [← hu, ← hbb]
  simp only [← hw, ← hv]
  pointwise [tile, dot_S128x128_S128x128_S128x128_1_0_0_1_n_n]

/-! ## The launch's arrays and the windows' blocks at an index -/

variable (m : (ℓ : Loc nD τ sig) → Buf (Elt Ideal) ℓ)

theorem V0 (c : Dev nD) (i : Fin 32768) (k : Fin 2048) : V m c main_v0 (ix2 i k)
    = m ((c.tc : Thread nD τ).loc main_arg0) (ix3 ⟨i.val / 16384, by omega⟩ ⟨i.val % 16384, by omega⟩ k) := by
  unfold V
  after_reads_at
theorem V2 (c : Dev nD) (g : Fin 16) (q p : Fin 128) : V m c main_v2 (ix3 g q p)
    = tril (fun g q p => m ((c.tc : Thread nD τ).loc main_arg4) (ix3 g q p)) g q p := by
  unfold V tril
  after_reads_at
  exact select_tril q p _ _
theorem V3 (c : Dev nD) (k : Fin 2048) (j : Fin 4096) : V m c main_v3 (ix2 k j) = m ((c.tc : Thread nD τ).loc main_arg2) (ix2 k j) := by
  unfold V
  after_reads_at
theorem V4 (c : Dev nD) (g : Fin 16) (q : Fin 128) : V m c main_v4 (ix3 g q 0) = m ((c.tc : Thread nD τ).loc main_arg5) (ix2 g q) := by
  unfold V
  after_reads_at
theorem V5 (c : Dev nD) (k : Fin 2048) (j : Fin 2048) : V m c main_v5 (ix2 k j) = m ((c.tc : Thread nD τ).loc main_arg6) (ix2 k j) := by
  unfold V
  after_reads_at
theorem V6 (c : Dev nD) (k : Fin 2048) : V m c main_v6 (ix2 0 k) = m ((c.tc : Thread nD τ).loc main_arg1) (ix1 k) := by
  unfold V
  after_reads_at
theorem V7 (c : Dev nD) (k : Fin 2048) : V m c main_v7 (ix2 0 k) = m ((c.tc : Thread nD τ).loc main_arg3) (ix1 k) := by
  unfold V
  after_reads_at

/-- The windows' index maps over the grid, decided. -/
theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0, 0] ∧ win0_6.index t = ![0, 0] ∧ win0_7.index t = ![t.val, 0] :=
  (by decide +kernel : ∀ t : Fin grid0.N, _)

theorem ib0 (c : Dev nD) (t : Fin cfg0.N) (r : Fin 512) (k : Fin 2048) (i : Fin 32768) (hi : i.val = 512 * t.val + r.val) :
    iblk m c 0 t (ix2 r k) = V m c main_v0 (ix2 i k) := by
  blk_ext [iblk, idx t]
theorem ib1 (c : Dev nD) (t : Fin cfg0.N) (k : Fin 2048) : iblk m c 1 t (ix2 0 k) = V m c main_v6 (ix2 0 k) := by
  blk_ext [iblk, idx t]
theorem ib2 (c : Dev nD) (t : Fin cfg0.N) (k : Fin 2048) (j : Fin 4096) : iblk m c 2 t (ix2 k j) = V m c main_v3 (ix2 k j) := by
  blk_ext [iblk, idx t]
theorem ib3 (c : Dev nD) (t : Fin cfg0.N) (k : Fin 2048) : iblk m c 3 t (ix2 0 k) = V m c main_v7 (ix2 0 k) := by
  blk_ext [iblk, idx t]
theorem ib4 (c : Dev nD) (t : Fin cfg0.N) (g : Fin 16) (q p : Fin 128) : iblk m c 4 t (ix3 g q p) = V m c main_v2 (ix3 g q p) := by
  blk_ext [iblk, idx t]
theorem ib5 (c : Dev nD) (t : Fin cfg0.N) (g : Fin 16) (q : Fin 128) : iblk m c 5 t (ix3 g q 0) = V m c main_v4 (ix3 g q 0) := by
  blk_ext [iblk, idx t]
theorem ib6 (c : Dev nD) (t : Fin cfg0.N) (j d : Fin 2048) : iblk m c 6 t (ix2 j d) = V m c main_v5 (ix2 j d) := by
  blk_ext [iblk, idx t]

/-! ## The block a point writes -/

/-- Two column blocks of hidden units, stored side by side. -/
def halves (h : FVec Ideal S512x2048 .bf16) (W : Vec Ideal S2048x4096 .bf16) (o o' : ℕ)
    (inbW0 : ∀ a : Fin S2048x4096.rank, ![0, o] a + ![2048, 1024] a ≤ S2048x4096.size a)
    (inbW1 : ∀ a : Fin S2048x4096.rank, ![0, o'] a + ![2048, 1024] a ≤ S2048x4096.size a) : Vec Ideal S512x2048 .f32 :=
  View.canon (Val := Elt Ideal) (e := .f32)
    [⟨Rect.unit (s := S512x2048) ![0, 1024] ![512, 1024] inb_S512x2048_S512x1024_0_1024, k0_pay9 h (View.ld W (Rect.unit ![0, o'] ![2048, 1024] inbW1))⟩,
      ⟨Rect.unit (s := S512x2048) ![0, 0] ![512, 1024] inb_S512x2048_S512x1024_0_0, k0_pay9 h (View.ld W (Rect.unit ![0, o] ![2048, 1024] inbW0))⟩]

/-- They hold the hidden units of 2048 columns. -/
theorem halves_apply (h : FVec Ideal S512x2048 .bf16) (W : Vec Ideal S2048x4096 .bf16) (o o' : ℕ)
    (inbW0 : ∀ a : Fin S2048x4096.rank, ![0, o] a + ![2048, 1024] a ≤ S2048x4096.size a)
    (inbW1 : ∀ a : Fin S2048x4096.rank, ![0, o'] a + ![2048, 1024] a ≤ S2048x4096.size a) (r : Fin 512) (j : Fin 2048) (j' : Fin 4096)
    (ho : o' = o + 1024) (hj : j'.val = o + j.val) :
    halves h W o o' inbW0 inbW1 (ix2 r j) = gelu (rowMul (fun k => h (ix2 r k)) (fun k j => W (ix2 k j)) j') := by
  have ld : ∀ (o : ℕ) inb (k : Fin 2048) (x : Fin 1024), j'.val = o + x.val → View.ld W (Rect.unit ![0, o] ![2048, 1024] inb) (ix2 k x) = W (ix2 k j') :=
    fun o inb k x hx => View.ld_unit_apply_of _ _ _ _ _ (ix2 k j') (by intro a; fin_cases a <;> simp [hx])
  unfold halves
  canon_tiles x h
  · idx_vars x
    obtain rfl : r = x0 := Fin.ext h0
    rw [pay9_apply]
    unfold rowMul
    simp only [ld o' _ _ x1 (by omega)]
  · idx_vars x
    obtain rfl : r = x0 := Fin.ext h0
    rw [pay9_apply]
    unfold rowMul
    simp only [ld o _ _ x1 (by omega)]

/-- A load of stored pieces is a load of what they leave. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L _

/-- The two scratches of hidden units at point `t`: the gate's half and the other half. -/
def ublk (c : Dev nD) (t : Fin cfg0.N) : Vec Ideal S512x2048 .f32 :=
  halves (k0_pay3 (iblk m c 0 t) (iblk m c 1 t)) (iblk m c 2 t) 0 1024
    inb_S2048x4096_S2048x1024_0_0 inb_S2048x4096_S2048x1024_0_1024
def vblk (c : Dev nD) (t : Fin cfg0.N) : Vec Ideal S512x2048 .f32 :=
  halves (k0_pay3 (iblk m c 0 t) (iblk m c 1 t)) (iblk m c 2 t) 2048 3072
    inb_S2048x4096_S2048x1024_0_2048 inb_S2048x4096_S2048x1024_0_3072

/-- Row `i` of the input. -/
abbrev xrow (c : Dev nD) (i : Fin 32768) (d : Fin 2048) : EReal := V m c main_v0 (ix2 i d)

/-- A load of the whole block is the block. -/
theorem ld_whole {e : EltTy} (X : Vec Ideal S512x2048 e) (inb) : View.ld X (Rect.unit ![0, 0] ![512, 2048] inb) = X :=
  funext fun k => View.ld_unit_apply_of _ _ _ _ _ k (by intro a; fin_cases a <;> simp)

set_option maxHeartbeats 4000000 in
/-- The block a point writes, at an index. -/
theorem out_val (c : Dev nD) (t : Fin cfg0.N) (r : Fin 512) (d : Fin 2048) (i : Fin 32768) (hi : i.val = 512 * t.val + r.val) : outsAt0 m c t (ix2 r d)
    = xrow m c i d + rowMul (gated (fun r j => ublk m c t (ix2 r j)) (fun r j => k0_pay11 (vblk m c t) (iblk m c 3 t) (ix2 r j))
        (fun g q p => iblk m c 4 t (ix3 g q p)) (fun g q => iblk m c 5 t (ix3 g q 0)) r) (fun j d => iblk m c 6 t (ix2 j d)) d := by
  unfold outsAt0 out0_A_7
  frame_out
  rw [pay2_apply, ib0 m c t r d i hi]
  simp only [pay4_eq, pay8_eq, pay10_eq, readCov_ld, ld_whole]
  congr 2
  funext j
  refine (View.ld_unit_apply_of _ _ _ _ _ (ix2 r j) (by intro a; fin_cases a <;> simp)).trans ?_
  canon_tiles x h
  all_goals
    idx_vars x
    exact tile_apply (k0_pay11 (vblk m c t) (iblk m c 3 t)) _ _ _ (by decide) (iblk m c 4 t) (iblk m c 5 t) (ublk m c t) _ _ _ x0 x1 r j (by omega) (by omega) rfl rfl

/-- The scratches at an index: the units of the block's rows; -/
theorem ublk_apply (c : Dev nD) (t : Fin cfg0.N) (r : Fin 512) (j : Fin 2048) (i : Fin 32768) (hi : i.val = 512 * t.val + r.val) :
    ublk m c t (ix2 r j) = gate (fun k => V m c main_v6 (ix2 0 k)) (fun k j => V m c main_v3 (ix2 k j)) (xrow m c i) j := by
  refine (halves_apply _ _ 0 1024 _ _ r j ⟨j.val, by omega⟩ rfl (by simp)).trans ?_
  unfold gate
  simp only [pay3_apply, ib0 m c t r _ i hi, ib1, ib2]
theorem vblk_apply (c : Dev nD) (t : Fin cfg0.N) (r : Fin 512) (j : Fin 2048) (i : Fin 32768) (hi : i.val = 512 * t.val + r.val) :
    vblk m c t (ix2 r j) = val (fun k => V m c main_v6 (ix2 0 k)) (fun k j => V m c main_v3 (ix2 k j)) (xrow m c i) j := by
  refine (halves_apply _ _ 2048 3072 _ _ r j ⟨2048 + j.val, by omega⟩ rfl rfl).trans ?_
  unfold val
  simp only [pay3_apply, ib0 m c t r _ i hi, ib1, ib2]
theorem vn_apply (c : Dev nD) (t : Fin cfg0.N) (r : Fin 512) (j : Fin 2048) (i : Fin 32768) (hi : i.val = 512 * t.val + r.val) :
    k0_pay11 (vblk m c t) (iblk m c 3 t) (ix2 r j)
      = valn (fun k => V m c main_v6 (ix2 0 k)) (fun k j => V m c main_v3 (ix2 k j)) (fun k => V m c main_v7 (ix2 0 k)) (xrow m c i) j := by
  unfold valn
  rw [pay11_apply]
  simp only [vblk_apply m c t r _ i hi, ib3]

/-- The block a point writes: the gMLP mixer's rows. -/
theorem out_row (c : Dev nD) (t : Fin cfg0.N) (r : Fin 512) (d : Fin 2048) (i : Fin 32768) (hi : i.val = 512 * t.val + r.val) :
    outsAt0 m c t (ix2 r d)
      = gmlp (fun k => V m c main_v6 (ix2 0 k)) (fun k j => V m c main_v3 (ix2 k j)) (fun k => V m c main_v7 (ix2 0 k))
          (fun g q p => V m c main_v2 (ix3 g q p)) (fun g q => V m c main_v4 (ix3 g q 0)) (fun j d => V m c main_v5 (ix2 j d))
          (fun p => xrow m c ⟨i.val / 128 * 128 + p.val, by omega⟩) ⟨i.val % 128, by omega⟩ d := by
  rw [out_val m c t r d i hi]
  have hq : (⟨i.val / 128 * 128 + i.val % 128, by omega⟩ : Fin 32768) = i := Fin.ext (by dsimp only; omega)
  have hr : r.val % 128 = i.val % 128 := by omega
  unfold gmlp gated
  dsimp only
  rw [hq]
  simp only [ublk_apply m c t r _ i hi, ib4, ib5, ib6, hr,
    fun (p : Fin 128) j => vn_apply m c t ⟨r.val / 128 * 128 + p.val, by omega⟩ j ⟨i.val / 128 * 128 + p.val, by omega⟩ (by dsimp only; omega)]

/-- The launch's result at an index. -/
theorem arr_apply (c : Dev nD) (i : Fin 32768) (d : Fin 2048) :
    (dats m 0 c).arrAt 7 cfg0.N (ix2 i d)
      = gmlp (fun k => V m c main_v6 (ix2 0 k)) (fun k j => V m c main_v3 (ix2 k j)) (fun k => V m c main_v7 (ix2 0 k))
          (fun g q p => V m c main_v2 (ix3 g q p)) (fun g q => V m c main_v4 (ix3 g q 0)) (fun j d => V m c main_v5 (ix2 j d))
          (fun p => xrow m c ⟨i.val / 128 * 128 + p.val, by omega⟩) ⟨i.val % 128, by omega⟩ d := by
  have hlt : i.val / 512 < cfg0.N := by
    change _ < grid0.N
    rw [N_0]; omega
  obtain ⟨t, ht⟩ : ∃ t : Fin cfg0.N, t.val = i.val / 512 := ⟨⟨_, hlt⟩, rfl⟩
  have hrd : ∀ A : Vec Ideal S32768x2048 .f32, ((cfg0.win 7).blk t).view.read (Elt Ideal) A (ix2 (⟨i.val % 512, by omega⟩ : Fin 512) d) = A (ix2 i d) := fun A => by
    blk_ext [idx t]
  refine (hrd _).symm.trans ((congrFun (blocks7 m c t (flush0_7 t)) _).trans ?_)
  rw [flushed7]
  exact out_row m c t ⟨i.val % 512, by omega⟩ d i (by dsimp only; omega)

end Cert.GmlpIdeal.RefValue
-- ==== Proof.GmlpClaim.lean ====
module

public import proofs.«01_k».proof.Defs
public import proofs.«01_k».proof.Proof.GmlpRef
public import proofs.«01_k».proof.Proof.GmlpVal

@[expose] public section

noncomputable section

namespace Cert.Proof.GmlpClaims

open Idealize.ShloMosaic Idealize.SL.Sem Cert.Math

/-- Kernel and reference end with the same array: the gMLP mixer's rows. -/
theorem result_eq (m : (ℓ : Loc Cert.GmlpIdeal.nD Cert.GmlpIdeal.τ Cert.GmlpIdeal.sig) → Buf (Elt Ideal) ℓ)
    (m' : (ℓ : Loc Cert.RefGmlpIdeal.nD Cert.RefGmlpIdeal.τ Cert.RefGmlpIdeal.sig) → Buf (Elt Ideal) ℓ) (c : Dev Cert.GmlpIdeal.nD)
    (h0 : m' ((c.tc : Thread Cert.RefGmlpIdeal.nD Cert.RefGmlpIdeal.τ).loc Cert.RefGmlpIdeal.main_arg0) = m ((c.tc : Thread Cert.GmlpIdeal.nD Cert.GmlpIdeal.τ).loc Cert.GmlpIdeal.main_arg0))
    (h1 : m' ((c.tc : Thread Cert.RefGmlpIdeal.nD Cert.RefGmlpIdeal.τ).loc Cert.RefGmlpIdeal.main_arg1) = m ((c.tc : Thread Cert.GmlpIdeal.nD Cert.GmlpIdeal.τ).loc Cert.GmlpIdeal.main_arg1))
    (h2 : m' ((c.tc : Thread Cert.RefGmlpIdeal.nD Cert.RefGmlpIdeal.τ).loc Cert.RefGmlpIdeal.main_arg2) = m ((c.tc : Thread Cert.GmlpIdeal.nD Cert.GmlpIdeal.τ).loc Cert.GmlpIdeal.main_arg2))
    (h3 : m' ((c.tc : Thread Cert.RefGmlpIdeal.nD Cert.RefGmlpIdeal.τ).loc Cert.RefGmlpIdeal.main_arg3) = m ((c.tc : Thread Cert.GmlpIdeal.nD Cert.GmlpIdeal.τ).loc Cert.GmlpIdeal.main_arg3))
    (h4 : m' ((c.tc : Thread Cert.RefGmlpIdeal.nD Cert.RefGmlpIdeal.τ).loc Cert.RefGmlpIdeal.main_arg4) = m ((c.tc : Thread Cert.GmlpIdeal.nD Cert.GmlpIdeal.τ).loc Cert.GmlpIdeal.main_arg4))
    (h5 : m' ((c.tc : Thread Cert.RefGmlpIdeal.nD Cert.RefGmlpIdeal.τ).loc Cert.RefGmlpIdeal.main_arg5) = m ((c.tc : Thread Cert.GmlpIdeal.nD Cert.GmlpIdeal.τ).loc Cert.GmlpIdeal.main_arg5))
    (h6 : m' ((c.tc : Thread Cert.RefGmlpIdeal.nD Cert.RefGmlpIdeal.τ).loc Cert.RefGmlpIdeal.main_arg6) = m ((c.tc : Thread Cert.GmlpIdeal.nD Cert.GmlpIdeal.τ).loc Cert.GmlpIdeal.main_arg6)) :
    Cert.RefGmlpIdeal.Value.res_out0 m' c = (Cert.GmlpIdeal.Gen.dats m 0 c).arrAt 7 Cert.GmlpIdeal.cfg0.N := by
  funext y
  obtain ⟨i, d, rfl⟩ : ∃ (i : Fin 32768) (d : Fin 2048), y = ix2 i d := ⟨y 0, y 1, eq_ix2 y⟩
  refine (Cert.RefGmlpIdeal.RefValue.out_apply m' c i d).trans ((Cert.GmlpIdeal.RefValue.arr_apply m c i d).trans ?_).symm
  rw [h0, h1, h2, h3, h4, h5, h6]
  rw [show (fun (p : Fin 128) => Cert.GmlpIdeal.RefValue.xrow m c ⟨i.val / 128 * 128 + p.val, by omega⟩) = fun p k =>
      m ((c.tc : Thread Cert.GmlpIdeal.nD Cert.GmlpIdeal.τ).loc Cert.GmlpIdeal.main_arg0) (ix3 ⟨i.val / 16384, by omega⟩ ⟨i.val % 16384 / 128 * 128 + p.val, by omega⟩ k) from
      funext fun p => funext fun k => (Cert.GmlpIdeal.RefValue.V0 m c _ k).trans (by
        congr 2 <;> exact Fin.ext (by dsimp only; omega)),
    show (fun k => Cert.GmlpIdeal.Gen.V m c Cert.GmlpIdeal.main_v6 (ix2 0 k)) = _ from funext fun k => Cert.GmlpIdeal.RefValue.V6 m c k,
    show (fun k => Cert.GmlpIdeal.Gen.V m c Cert.GmlpIdeal.main_v7 (ix2 0 k)) = _ from funext fun k => Cert.GmlpIdeal.RefValue.V7 m c k,
    show (fun k j => Cert.GmlpIdeal.Gen.V m c Cert.GmlpIdeal.main_v3 (ix2 k j)) = _ from funext fun k => funext fun j => Cert.GmlpIdeal.RefValue.V3 m c k j,
    show (fun g q p => Cert.GmlpIdeal.Gen.V m c Cert.GmlpIdeal.main_v2 (ix3 g q p)) = _ from funext fun g => funext fun q => funext fun p => Cert.GmlpIdeal.RefValue.V2 m c g q p,
    show (fun g q => Cert.GmlpIdeal.Gen.V m c Cert.GmlpIdeal.main_v4 (ix3 g q 0)) = _ from funext fun g => funext fun q => Cert.GmlpIdeal.RefValue.V4 m c g q,
    show (fun j d => Cert.GmlpIdeal.Gen.V m c Cert.GmlpIdeal.main_v5 (ix2 j d)) = _ from funext fun k => funext fun j => Cert.GmlpIdeal.RefValue.V5 m c k j]

theorem frame_ref : Cert.quiescent_RefGmlpIdeal := fun m ρ _ =>
  (θ_run Cert.RefGmlpIdeal.defs _ _).mono (fun r h => ⟨fun c => (h c).2, Idealize.ShloMosaic.sem_eq_zero_of_no_sems (by decide) r.2⟩)
    (Cert.RefGmlpIdeal.Value.run (F := Ideal) m ρ)

/-- The gMLP call and its reference end with equal results over the extended reals. -/
theorem algebraic : Cert.algebraic_GmlpIdeal_RefGmlpIdeal := by
  intro m ρ m' ρ' _ hagree
  refine ⟨fun c => (Cert.GmlpIdeal.Gen.dats m 0 c).arrAt 7 Cert.GmlpIdeal.cfg0.N, Cert.GmlpIdeal.Value.run_blocks (F := Ideal) m ρ, ?_⟩
  refine (θ_run Cert.RefGmlpIdeal.defs _ _).mono (fun _ h c => ?_) (Cert.RefGmlpIdeal.Value.run (F := Ideal) m' ρ')
  obtain ⟨h0, h1, h2, h3, h4, h5, h6⟩ := hagree c
  exact ⟨(h c).1.trans (result_eq m m' c h0 h1 h2 h3 h4 h5 h6), (h c).2⟩

end Cert.Proof.GmlpClaims
-- ==== Proof.AttnMath.lean ====
module

public import proofs.«01_k».proof.Proof.Math
public import Idealize.ShloMosaic.PureOps.Ideal.Laws

@[expose] public section

noncomputable section

/-! The mathematics of sliding-window attention over the extended reals. -/

namespace Cert.Math

open Idealize.ShloMosaic

/-! ## Numbers that are real -/

/-- An extended real that is a real number; and one that is a nonnegative real number. -/
def Real' (x : EReal) : Prop := ∃ a : ℝ, x = a
def Nonneg' (x : EReal) : Prop := ∃ a : ℝ, 0 ≤ a ∧ x = a

theorem Nonneg'.real {x : EReal} (h : Nonneg' x) : Real' x := let ⟨a, _, e⟩ := h; ⟨a, e⟩
theorem Real'.add {x y : EReal} : Real' x → Real' y → Real' (x + y) := fun ⟨a, ha⟩ ⟨b, hb⟩ => ⟨a + b, by rw [ha, hb, EReal.coe_add]⟩
theorem Real'.mul {x y : EReal} : Real' x → Real' y → Real' (x * y) := fun ⟨a, ha⟩ ⟨b, hb⟩ => ⟨a * b, by rw [ha, hb, EReal.coe_mul]⟩
theorem Nonneg'.add {x y : EReal} : Nonneg' x → Nonneg' y → Nonneg' (x + y) :=
  fun ⟨a, h, ha⟩ ⟨b, h', hb⟩ => ⟨a + b, add_nonneg h h', by rw [ha, hb, EReal.coe_add]⟩
theorem Real'.sq {x : EReal} : Real' x → Nonneg' (x * x) := fun ⟨a, ha⟩ => ⟨a * a, mul_self_nonneg a, by rw [ha, EReal.coe_mul]⟩

/-- Finite sums of them. -/
theorem Real'.sum {n : ℕ} (f : Fin n → EReal) (h : ∀ k, Real' (f k)) : Real' (∑ k, f k) := by
  induction n with
  | zero => exact ⟨0, by simp⟩
  | succ n ih => rw [Fin.sum_univ_castSucc]; exact (ih _ fun k => h _).add (h _)
theorem Nonneg'.sum {n : ℕ} (f : Fin n → EReal) (h : ∀ k, Nonneg' (f k)) : Nonneg' (∑ k, f k) := by
  induction n with
  | zero => exact ⟨0, le_refl _, by simp⟩
  | succ n ih => rw [Fin.sum_univ_castSucc]; exact (ih _ fun k => h _).add (h _)

theorem Real'.ne_top {x : EReal} : Real' x → x ≠ ⊤ := fun ⟨a, e⟩ => e ▸ EReal.coe_ne_top a
theorem Real'.ne_bot {x : EReal} : Real' x → x ≠ ⊥ := fun ⟨a, e⟩ => e ▸ EReal.coe_ne_bot a
theorem Real'.of_ne {x : EReal} (h : x ≠ ⊤) (h' : x ≠ ⊥) : Real' x := ⟨x.toReal, (EReal.coe_toReal h h').symm⟩

/-- An extended real whose absolute value is below the infinity is real. -/
theorem Real'.of_abs {x : EReal} (h : max x (-x) < ⊤) : Real' x := by
  refine .of_ne (fun e => ?_) fun e => ?_ <;> simp [e] at h

/-- Multiplying by a nonnegative real distributes over every finite sum. -/
theorem sum_mul_nonneg {n : ℕ} (f : Fin n → EReal) (c : EReal) (hc : Nonneg' c) : (∑ k, f k) * c = ∑ k, f k * c := by
  obtain ⟨a, ha, rfl⟩ := hc
  induction n with
  | zero => simp
  | succ n ih => rw [Fin.sum_univ_castSucc, Fin.sum_univ_castSucc, EReal.right_distrib_of_nonneg_of_ne_top (by exact_mod_cast ha) (EReal.coe_ne_top _), ih]

/-! ## The constants -/

/-- One eighth, and the two constants of the normalisation, as both programs write them. -/
abbrev eighth : EReal := Ideal.ofBits .f32 0x3E000000#32
theorem eighth_eq : eighth = ((1 / 8 : ℝ) : EReal) := by
  unfold eighth
  simp [Ideal.ofBits, Ideal.ieee, -EReal.coe_mul]; norm_num
theorem eighth_nonneg : Nonneg' eighth := ⟨1 / 8, by norm_num, eighth_eq⟩
theorem c2048_eq : Ideal.ofBits .f32 0x45000000#32 = ((2048 : ℝ) : EReal) := by
  simp [Ideal.ofBits, Ideal.ieee, -EReal.coe_mul]; norm_num
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- A normalised row of real numbers is real. -/
theorem rms_real {n : ℕ} (x g : Fin n → EReal) (hx : ∀ k, Real' (x k)) (hg : ∀ k, Real' (g k)) (k : Fin n) :
    Real' (rms (Ideal.ofBits .f32 0x45000000#32) x g k) := by
  unfold rms
  obtain ⟨s, hs, es⟩ := Nonneg'.sum (fun l => x l * x l) fun l => (hx l).sq
  obtain ⟨e, he, ee⟩ := eps_pos
  refine ((hx k).mul ?_).mul (hg k)
  rw [es, ee, c2048_eq]
  have h : Ideal.div (s : EReal) ((2048 : ℝ) : EReal) + (e : EReal) = ((s * 2048⁻¹ + e : ℝ) : EReal) := by
    unfold Ideal.div
    rw [if_neg (by norm_num), ← EReal.coe_inv, ← EReal.coe_mul, ← EReal.coe_add]
  have hp : 0 < s * 2048⁻¹ + e := by positivity
  rw [h]
  refine ⟨(Real.sqrt (s * 2048⁻¹ + e))⁻¹, ?_⟩
  show (if s * 2048⁻¹ + e < 0 then (⊥ : EReal) else if s * 2048⁻¹ + e = 0 then ⊤ else _) = _
  rw [if_neg (not_lt.2 hp.le), if_neg hp.ne']

/-- Entry `j` of a token's query, key and value row: its normalised row times the table, plus the bias. -/
def zrow (g : Fin 2048 → EReal) (w : Fin 2048 → Fin 1536 → EReal) (b : Fin 1536 → EReal) (x : Fin 2048 → EReal) (j : Fin 1536) : EReal :=
  rowMul (rms (Ideal.ofBits .f32 0x45000000#32) x g) w j + b j

theorem zrow_real (g : Fin 2048 → EReal) (w : Fin 2048 → Fin 1536 → EReal) (b : Fin 1536 → EReal) (x : Fin 2048 → EReal) (hg : ∀ k, Real' (g k))
    (hw : ∀ k j, Real' (w k j)) (hb : ∀ j, Real' (b j)) (hx : ∀ k, Real' (x k)) (j : Fin 1536) : Real' (zrow g w b x j) :=
  (Real'.sum _ fun k => (rms_real x g hx hg k).mul (hw k j)).add (hb j)

/-- The slope of head `h`: two to the power minus half of `h + 1`. -/
def slope (h : ℕ) : ℝ := (Real.sqrt (2 ^ (h + 1)))⁻¹

theorem slope_pos (h : ℕ) : 0 < slope h := by unfold slope; positivity

/-- The slope as the power both programs mean. -/
theorem pow_slope (h : ℕ) : Ideal.pow ((2 : ℝ) : EReal) (((-8 * (1 + h) / 16 : ℝ)) : EReal) = (slope h : EReal) := by
  show ((Real.rpow 2 (-8 * (1 + h) / 16) : ℝ) : EReal) = _
  congr 1
  unfold slope
  rw [Real.sqrt_eq_rpow, ← Real.rpow_natCast, ← Real.rpow_mul (by norm_num), ← Real.rpow_neg (by norm_num)]
  show (2 : ℝ) ^ (-8 * (1 + (h : ℝ)) / 16) = _
  congr 1
  push_cast; ring

/-! ## One head's attention at one query

The band of a query is 256 keys: the block of 128 before the query's own block, then its own block. Key `κ` is at
distance `i + 128 - κ` from query `i`, and takes part when the distance is at least 0 and below 128. -/

/-- Row `r` of the band's first half, and of its second. -/
def lo (r : Fin 128) : Fin 256 := ⟨r.val, by omega⟩
def hi (r : Fin 128) : Fin 256 := ⟨128 + r.val, by omega⟩

/-- The score of key `κ`: the infinity below where the key takes no part. In a sequence's first block (`first`) the
    band's first half lies before the sequence. -/
def bscore (sl : ℝ) (first : Prop) [Decidable first] (K : Fin 256 → Fin 64 → EReal) (q : Fin 64 → EReal) (i : Fin 128) (κ : Fin 256) : EReal :=
  if κ.val ≤ i.val + 128 ∧ i.val < κ.val ∧ (first → 128 ≤ κ.val) then (∑ d, K κ d * q d) * eighth - (sl : EReal) * (((i.val : ℝ) + 128 - κ.val : ℝ) : EReal) else ⊥

/-- Scores `s`, their values `V` and the sink `sk`: the values' mean with the weights of a softmax that counts the sink. -/
def soft {n : ℕ} (s : Fin n → EReal) (V : Fin n → EReal) (sk : EReal) : EReal :=
  ∑ κ, V κ * Ideal.div (Ideal.exp (s κ - max (Finset.univ.fold max ⊥ s) sk))
    ((∑ κ, Ideal.exp (s κ - max (Finset.univ.fold max ⊥ s) sk)) + Ideal.exp (sk - max (Finset.univ.fold max ⊥ s) sk))

/-- Exactly one of keys `r` and `128 + r` is near enough to the query: the folded score of the pair. -/
def fscore (sl no : EReal) (K : Fin 256 → Fin 64 → EReal) (q : Fin 64 → EReal) (i r : Fin 128) : EReal :=
  (if i.val < r.val then ∑ d, K (lo r) d * (q d * eighth) else ∑ d, K (hi r) d * (q d * eighth))
    + sl * (if i.val < r.val then (((r.val : ℝ) - i.val - 128 : ℝ) : EReal) + no else (((r.val : ℝ) - i.val : ℝ) : EReal))

/-- Weights of the 128 pairs, spread over the 256 keys. -/
def wide (i : Fin 128) (p : Fin 128 → EReal) (κ : Fin 256) : EReal :=
  if h : κ.val < 128 then (if i.val < κ.val then p ⟨κ.val, h⟩ else 0) else if i.val < κ.val - 128 then 0 else p ⟨κ.val - 128, by omega⟩

/-- The folded softmax: the normalising division after the values' sum. -/
def fsoft (s : Fin 128 → EReal) (i : Fin 128) (V : Fin 256 → EReal) (sk : EReal) : EReal :=
  Ideal.div (∑ κ, V κ * wide i (fun r => Ideal.exp (s r - max (Finset.univ.fold max ⊥ s) sk)) κ)
    ((∑ r, Ideal.exp (s r - max (Finset.univ.fold max ⊥ s) sk)) + Ideal.exp (sk - max (Finset.univ.fold max ⊥ s) sk))

/-- A score's product with the scale inside or outside of the sum, less the slope times the distance. -/
theorem score_eq (sl a b : ℝ) (hab : b = -a) (k q : Fin 64 → EReal) :
    (∑ d, k d * q d) * eighth - (sl : EReal) * (a : EReal) = (∑ d, k d * (q d * eighth)) + (sl : EReal) * (b : EReal) := by
  rw [sum_mul_nonneg _ _ eighth_nonneg, sub_eq_add_neg, ← EReal.coe_mul, ← EReal.coe_neg, ← EReal.coe_mul, hab, mul_neg]
  simp only [mul_assoc]

/-- What a pair's folded score leaves at its two keys. -/
theorem bscore_lo (sl : ℝ) (hsl : 0 < sl) (first : Prop) [Decidable first] (K : Fin 256 → Fin 64 → EReal) (q : Fin 64 → EReal) (i r : Fin 128) :
    bscore sl first K q i (lo r) = if i.val < r.val then fscore sl (if first then ⊥ else 0) K q i r else ⊥ := by
  unfold bscore fscore
  have hlo : (lo r).val = r.val := rfl
  have hr := r.isLt
  rw [hlo]
  by_cases h : i.val < r.val
  · simp only [if_pos h]
    by_cases hf : first
    · rw [if_neg (fun hh => absurd (hh.2.2 hf) (by omega)), if_pos hf, EReal.add_bot, EReal.coe_mul_bot_of_pos hsl, EReal.add_bot]
    · rw [if_pos ⟨by omega, h, fun hh => absurd hh hf⟩, if_neg hf, add_zero]
      exact score_eq sl _ _ (by ring) _ _
  · rw [if_neg (fun hh => h hh.2.1), if_neg h]

theorem bscore_hi (sl : ℝ) (first : Prop) [Decidable first] (no : EReal) (K : Fin 256 → Fin 64 → EReal) (q : Fin 64 → EReal) (i r : Fin 128) :
    bscore sl first K q i (hi r) = if i.val < r.val then ⊥ else fscore sl no K q i r := by
  unfold bscore fscore
  have hhi : (hi r).val = 128 + r.val := rfl
  have hr := r.isLt
  have hi := i.isLt
  rw [hhi]
  by_cases h : i.val < r.val
  · rw [if_neg (fun hh => absurd hh.1 (by omega)), if_pos h]
  · rw [if_pos ⟨by omega, by omega, fun _ => by omega⟩]
    simp only [if_neg h]
    exact score_eq sl _ _ (by push_cast; ring) _ _

/-- A sum over the band is a sum over the pairs. -/
theorem sum_band (f : Fin 256 → EReal) : ∑ κ, f κ = ∑ r : Fin 128, (f (lo r) + f (hi r)) := by
  rw [Finset.sum_add_distrib]
  exact Fin.sum_univ_add (a := 128) (b := 128) f

/-- Every key is the first or the second of a pair. -/
theorem band_cases (κ : Fin 256) : (∃ r, κ = lo r) ∨ ∃ r, κ = hi r := by
  by_cases h : κ.val < 128
  · exact .inl ⟨⟨κ.val, h⟩, rfl⟩
  · exact .inr ⟨⟨κ.val - 128, by omega⟩, Fin.ext (by show κ.val = 128 + (κ.val - 128); omega)⟩

/-- A difference of a number that is not the upper infinity and a real number has a nonnegative exponential. -/
theorem exp_nonneg' (x : EReal) (m : ℝ) (hx : x ≠ ⊤) : Nonneg' (Ideal.exp (x - (m : EReal))) := by
  induction x with
  | bot => exact ⟨0, le_refl _, by rw [EReal.bot_sub]; rfl⟩
  | top => exact absurd rfl hx
  | coe a => exact ⟨Real.exp (a - m), (Real.exp_pos _).le, by rw [← EReal.coe_sub]; rfl⟩

/-- When each pair's folded score sits at one of its keys and the other key takes no part, the folded softmax is the band's. -/
theorem fsoft_eq_soft (s : Fin 128 → EReal) (b : Fin 256 → EReal) (i : Fin 128) (V : Fin 256 → EReal) (sk : EReal)
    (hlo : ∀ r, b (lo r) = if i.val < r.val then s r else ⊥) (hhi : ∀ r, b (hi r) = if i.val < r.val then ⊥ else s r)
    (hs : ∀ r, s r ≠ ⊤) (hsk : Real' sk) : fsoft s i V sk = soft b V sk := by
  have hmax : Finset.univ.fold max ⊥ b = Finset.univ.fold max ⊥ s := by
    show Finset.univ.sup b = Finset.univ.sup s
    refine le_antisymm (Finset.sup_le fun κ _ => ?_) (Finset.sup_le fun r _ => ?_)
    · obtain ⟨r, rfl⟩ | ⟨r, rfl⟩ := band_cases κ
      · rw [hlo]; split_ifs
        exacts [Finset.le_sup (f := s) (Finset.mem_univ r), bot_le]
      · rw [hhi]; split_ifs
        exacts [bot_le, Finset.le_sup (f := s) (Finset.mem_univ r)]
    · by_cases h : i.val < r.val
      · exact le_trans (by rw [hlo, if_pos h]) (Finset.le_sup (f := b) (Finset.mem_univ (lo r)))
      · exact le_trans (by rw [hhi, if_neg h]) (Finset.le_sup (f := b) (Finset.mem_univ (hi r)))
  obtain ⟨k, rfl⟩ := hsk
  obtain ⟨m, hm⟩ : Real' (max (Finset.univ.fold max ⊥ s) (k : EReal)) := by
    refine .of_ne (ne_of_lt (max_lt ?_ (EReal.coe_lt_top k))) (ne_of_gt (lt_of_lt_of_le (EReal.bot_lt_coe k) (le_max_right _ _)))
    exact (Finset.sup_lt_iff bot_lt_top).2 fun r _ => lt_top_iff_ne_top.2 (hs r)
  unfold fsoft soft
  rw [hmax, hm]
  have hbot : Ideal.exp (⊥ - (m : EReal)) = 0 := by rw [EReal.bot_sub]; rfl
  have hsum : (∑ κ, Ideal.exp (b κ - (m : EReal))) = ∑ r, Ideal.exp (s r - (m : EReal)) := by
    rw [sum_band]
    refine Finset.sum_congr rfl fun r _ => ?_
    rw [hlo, hhi]
    split_ifs <;> simp only [hbot, add_zero, zero_add]
  have hw : ∀ κ, wide i (fun r => Ideal.exp (s r - (m : EReal))) κ = Ideal.exp (b κ - (m : EReal)) := fun κ => by
    unfold wide
    obtain ⟨r, rfl⟩ | ⟨r, rfl⟩ := band_cases κ
    · rw [dif_pos (show (lo r).val < 128 from r.isLt), hlo]
      show (if i.val < r.val then _ else _) = _
      split_ifs
      exacts [rfl, hbot.symm]
    · have hv : (hi r).val - 128 = r.val := Nat.add_sub_cancel_left _ _
      rw [dif_neg (show ¬ (hi r).val < 128 from Nat.not_lt.2 (Nat.le_add_right _ _)), hhi]
      simp only [hv]
      split_ifs
      exacts [hbot.symm, rfl]
  rw [hsum]
  simp only [hw]
  obtain ⟨p, hp, ep⟩ := Nonneg'.sum _ fun r => exp_nonneg' (s r) m (hs r)
  have hd : (∑ r, Ideal.exp (s r - (m : EReal))) + Ideal.exp ((k : EReal) - (m : EReal)) = ((p + Real.exp (k - m) : ℝ) : EReal) := by
    rw [ep, ← EReal.coe_sub, EReal.coe_add]; rfl
  have hpos : 0 < p + Real.exp (k - m) := add_pos_of_nonneg_of_pos hp (Real.exp_pos _)
  rw [hd]
  have hdiv : ∀ x, Ideal.div x ((p + Real.exp (k - m) : ℝ) : EReal) = x * (((p + Real.exp (k - m))⁻¹ : ℝ) : EReal) := fun x => by
    unfold Ideal.div
    rw [if_neg (by exact_mod_cast hpos.ne'), ← EReal.coe_inv]
  simp only [hdiv]
  rw [sum_mul_nonneg _ _ ⟨_, (inv_pos.2 hpos).le, rfl⟩]
  simp only [mul_assoc]

/-- With a real band, query and sink, folded attention is the band's. -/
theorem folded_eq (sl : ℝ) (hsl : 0 < sl) (first : Prop) [Decidable first] (K : Fin 256 → Fin 64 → EReal) (q : Fin 64 → EReal) (i : Fin 128)
    (V : Fin 256 → EReal) (sk : EReal) (hK : ∀ κ d, Real' (K κ d)) (hq : ∀ d, Real' (q d)) (hsk : Real' sk) :
    fsoft (fscore sl (if first then ⊥ else 0) K q i) i V sk = soft (bscore sl first K q i) V sk := by
  refine fsoft_eq_soft _ _ i V sk (bscore_lo sl hsl first K q i) (bscore_hi sl first _ K q i) (fun r => ?_) hsk
  have hx : ∀ κ, Real' (∑ d, K κ d * (q d * eighth)) := fun κ => .sum _ fun d => (hK κ d).mul ((hq d).mul eighth_nonneg.real)
  have hc : ∀ a : ℝ, Real' (a : EReal) := fun a => ⟨a, rfl⟩
  unfold fscore
  by_cases h : i.val < r.val
  · simp only [if_pos h]
    by_cases hf : first
    · rw [if_pos hf, EReal.add_bot, EReal.coe_mul_bot_of_pos hsl, EReal.add_bot]
      exact bot_ne_top
    · rw [if_neg hf, add_zero]
      exact ((hx _).add ((hc _).mul (hc _))).ne_top
  · simp only [if_neg h]
    exact ((hx _).add ((hc _).mul (hc _))).ne_top

/-! ## The whole layer -/

/-- The input plus both groups' outputs times their halves of a column of the output table. -/
def outRow (x : EReal) (oa wa o wb : Fin 1024 → EReal) : EReal := x + (∑ l, oa l * wa l) + ∑ l, o l * wb l

/-- Row `κ` of the band of the block of 128 tokens `n` begins, in a sequence with rows `z`; rows before the sequence are zero. -/
def bandrow (z : Fin 16384 → Fin 1536 → EReal) (n : Fin 128) (κ : Fin 256) (c : Fin 1536) : EReal :=
  if h : 128 ≤ n.val * 128 + κ.val then z ⟨n.val * 128 + κ.val - 128, by omega⟩ c else 0

/-- Feature `l` of the heads' outputs for token `s` of a sequence with query, key and value rows `z`. -/
def attnO (z : Fin 16384 → Fin 1536 → EReal) (sk : Fin 16 → EReal) (s : Fin 16384) (l : Fin 1024) : EReal :=
  soft (bscore (slope (l.val / 64)) (s.val / 128 = 0) (fun κ d => bandrow z ⟨s.val / 128, by omega⟩ κ ⟨1024 + (l.val / 256 * 64 + d.val), by omega⟩)
      (fun d => z s ⟨l.val / 64 * 64 + d.val, by omega⟩) ⟨s.val % 128, by omega⟩)
    (fun κ => bandrow z ⟨s.val / 128, by omega⟩ κ ⟨1280 + (l.val / 256 * 64 + l.val % 64), by omega⟩) (sk ⟨l.val / 64, by omega⟩)

end Cert.Math
-- ==== Proof.AttnScore.lean ====
module

public import proofs.«01_k».proof.Proof.AttnMath
public import proofs.«01_k».proof.Proof.GmlpRef
public import proofs.«01_k».proof.Proof.Gen.RefAttnIdeal.Run
public import Idealize.ShloMosaic.Lib.Pointwise
public import Idealize.ShloMosaic.Lib.KernelVsHost

@[expose] public section

set_option maxRecDepth 16384

noncomputable section

namespace Cert.RefAttnIdeal.RefValue

open Cert.RefAttnIdeal Cert.RefAttnIdeal.Gen Idealize.ShloMosaic Idealize.ShloMosaic.TcCoe Cert.Math
open Cert.RefGmlpIdeal.RefValue (hrms hrms_apply)

/-- The tokens' query, key and value rows. -/
def hqkv (x : FVec Ideal S2x16384x2048 .f32) (g : FVec Ideal S2048 .f32) (w : FVec Ideal S2048x4896 .f32) (bias : FVec Ideal S1536 .f32) : FVec Ideal S2x16384x1536 .f32 :=
  addf (Host.dotGeneral dot_S2x16384x2048_S2048x1536_S2x16384x1536_2_0_01_1_n_n none (hrms x g) (extractStridedSlice S2048x1536 ![0, 3360] w slices_S2048x4896_S2048x1536_0_3360)) (broadcastInDim S2x16384x1536 ![0, 1, 2] bcast_S1x1x1536_S2x16384x1536_0_1_2 (broadcastInDim S1x1x1536 ![2] bcast_S1536_S1x1x1536_2 bias))

theorem hqkv_apply (x : FVec Ideal S2x16384x2048 .f32) (g : FVec Ideal S2048 .f32) (w : FVec Ideal S2048x4896 .f32) (bias : FVec Ideal S1536 .f32)
    (b : Fin 2) (s : Fin 16384) (j : Fin 1536) : hqkv x g w bias (ix3 b s j)
      = zrow (fun k => g (ix1 k)) (fun k j => w (ix2 k ⟨3360 + j.val, by omega⟩)) (fun j => bias (ix1 j)) (fun k => x (ix3 b s k)) j := by
  unfold zrow rowMul
  simp only [← hrms_apply]
  pointwise [hqkv, dot_S2x16384x2048_S2048x1536_S2x16384x1536_2_0_01_1_n_n]

/-- The queries: [batch, block, row, key head, query head of the key head's group, feature]. -/
def hqs (z : FVec Ideal S2x16384x1536 .f32) : FVec Ideal S2x128x128x4x4x64 .f32 :=
  shapeCast _ (shapeCast S2x16384x16x64 (extractStridedSlice S2x16384x1024 ![0, 0, 0] z slices_S2x16384x1536_S2x16384x1024_0_0_0) shapeCasts_S2x16384x1024_S2x16384x16x64) shapeCasts_S2x16384x16x64_S2x128x128x4x4x64

theorem hqs_apply (z : FVec Ideal S2x16384x1536 .f32) (b : Fin 2) (n i : Fin 128) (h g : Fin 4) (d : Fin 64) :
    hqs z (ix6 b n i h g d) = z (ix3 b ⟨n.val * 128 + i.val, by omega⟩ ⟨(h.val * 4 + g.val) * 64 + d.val, by omega⟩) := by
  pointwise [hqs]
  congr 2
  exact Fin.ext (by dsimp only; omega)

/-- The keys or values of a block of 256 columns: [batch, block, row, key head, feature]. -/
def hblk (a : FVec Ideal S2x16384x256 .f32) : FVec Ideal S2x128x128x4x64 .f32 :=
  shapeCast _ (shapeCast S2x16384x4x64 a shapeCasts_S2x16384x256_S2x16384x4x64) shapeCasts_S2x16384x4x64_S2x128x128x4x64

theorem hblk_apply (a : FVec Ideal S2x16384x256 .f32) (b : Fin 2) (n i : Fin 128) (h : Fin 4) (d : Fin 64) :
    hblk a (ix5 b n i h d) = a (ix3 b ⟨n.val * 128 + i.val, by omega⟩ ⟨h.val * 64 + d.val, by omega⟩) := by
  pointwise [hblk]

/-- The blocks moved on by one, a block of zeros before the first. -/
def hprev (a : FVec Ideal S2x128x128x4x64 .f32) : FVec Ideal S2x128x128x4x64 .f32 :=
  extractStridedSlice S2x128x128x4x64 ![0, 0, 0, 0, 0] (pad S2x129x128x4x64 ![0, 1, 0, 0, 0] ![0, 0, 0, 0, 0] ![0, 0, 0, 0, 0] a (sitofp .f32 (constantI S_ 32 0#32)) pads_S2x128x128x4x64_S2x129x128x4x64_000_100_000_000_000 h_S_) slices_S2x129x128x4x64_S2x128x128x4x64_0_0_0_0_0

theorem hprev_apply (a : FVec Ideal S2x128x128x4x64 .f32) (b : Fin 2) (n i : Fin 128) (h : Fin 4) (d : Fin 64) :
    hprev a (ix5 b n i h d) = if hn : 1 ≤ n.val then a (ix5 b ⟨n.val - 1, by omega⟩ i h d) else (0 : EReal) := by
  refine (extractStridedSlice_apply _ _ _ _ (ix5 b ⟨n.val, by omega⟩ i h d) ?_).trans ?_
  · intro a; fin_cases a <;> simp
  split_ifs with hn
  · exact pad_apply_of_inside _ _ _ _ _ _ _ _ (ix5 b ⟨n.val - 1, by omega⟩ i h d) (by intro a; fin_cases a <;> simp <;> omega)
  · refine (pad_apply_of_not_inside _ _ _ _ _ _ _ _ 1 fun hh => hn hh.1).trans ?_
    exact (by simp : (((0#32 : BitVec 32).toInt : ℝ) : EReal) = 0)

/-- Each block's band: the block before it, then itself. -/
def hband (a : FVec Ideal S2x128x128x4x64 .f32) : FVec Ideal S2x128x256x4x64 .f32 :=
  concatenate S2x128x256x4x64 2 [⟨S2x128x128x4x64, hprev a⟩, ⟨S2x128x128x4x64, a⟩] concatenates_S2x128x128x4x64_S2x128x128x4x64_S2x128x256x4x64_d2

theorem hband_apply (a : FVec Ideal S2x16384x256 .f32) (z : Fin 16384 → Fin 1536 → EReal) (o : ℕ) (b : Fin 2) (ho : o ≤ 1280)
    (hz : ∀ s (j : Fin 256), a (ix3 b s j) = z s ⟨o + j.val, by omega⟩) (n : Fin 128) (κ : Fin 256) (h : Fin 4) (d : Fin 64) :
    hband (hblk a) (ix5 b n κ h d) = bandrow z n κ ⟨o + (h.val * 64 + d.val), by omega⟩ := by
  unfold bandrow
  by_cases hκ : κ.val < 128
  · refine (show _ = hprev (hblk a) (ix5 b n ⟨κ.val, hκ⟩ h d) by pointwise [hband]; rw [dif_pos hκ]).trans ?_
    rw [hprev_apply]
    split_ifs with h1 h2 h2
    · rw [hblk_apply, hz]
      congr 1
      exact Fin.ext (by dsimp only; omega)
    · omega
    · omega
    · rfl
  · refine (show _ = hblk a (ix5 b n ⟨κ.val - 128, by omega⟩ h d) by pointwise [hband]; rw [dif_neg hκ]).trans ?_
    rw [hblk_apply, hz, dif_pos (by omega)]
    congr 1
    exact Fin.ext (by dsimp only; omega)

theorem neg_inf : Ideal.ofBits .f32 0xFF800000#32 = ⊥ := by simp [Ideal.ofBits, Ideal.ieee]

theorem sel {α : Type} (P : Prop) [Decidable P] (a b : α) : Scalar.select (if P then 1#1 else 0#1) a b = if P then a else b := by
  split_ifs <;> rfl

/-- The heads' slopes. -/
def hslope : FVec Ideal S16 .f32 :=
  Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))

theorem hslope_apply (h : Fin 16) : hslope (ix1 h) = (Math.slope h.val : EReal) := by
  rw [← pow_slope]
  pointwise [hslope]
  have e : ∀ b : BitVec 32, (FloatOps.sitofp (F := Ideal) FTy.f32 b : EReal) = ((b.toInt : ℝ) : EReal) := fun _ => rfl
  have e1 : ∀ h : Fin 16, (BitVec.ofNat 32 h.val).toInt = (h.val : ℤ) := by decide
  rw [e, e1, show Ideal.ofBits .f32 0x40000000#32 = ((2 : ℝ) : EReal) by simp [Ideal.ofBits, Ideal.ieee, -EReal.coe_mul]; norm_num,
    show Ideal.ofBits .f32 0xC1000000#32 = ((-8 : ℝ) : EReal) by simp [Ideal.ofBits, Ideal.ieee, -EReal.coe_mul]; norm_num,
    show Ideal.ofBits .f32 0x41800000#32 = ((16 : ℝ) : EReal) by simp [Ideal.ofBits, Ideal.ieee, -EReal.coe_mul]; norm_num]
  congr 1
  unfold Ideal.div
  rw [if_neg (by norm_num), ← EReal.coe_one, ← EReal.coe_add, ← EReal.coe_mul, ← EReal.coe_inv, ← EReal.coe_mul, div_eq_mul_inv]
  push_cast
  rfl

theorem and_bits (P Q : Prop) [Decidable P] [Decidable Q] : IntOp.andi (if P then 1#1 else 0#1) (if Q then 1#1 else 0#1) = if P ∧ Q then 1#1 else 0#1 := by
  by_cases p : P <;> by_cases q : Q <;> simp [p, q, IntOp.andi]

/-- Signed comparisons compare the integers. -/
theorem sge_bits (a b : BitVec 32) : IntOp.cmpi CmpIPredicate.sge a b = if b.toInt ≤ a.toInt then 1#1 else 0#1 := by
  by_cases h : b.toInt ≤ a.toInt <;> simp [IntOp.cmpi, BitVec.sle, h]
theorem slt_bits (a b : BitVec 32) : IntOp.cmpi CmpIPredicate.slt a b = if a.toInt < b.toInt then 1#1 else 0#1 := by
  by_cases h : a.toInt < b.toInt <;> simp [IntOp.cmpi, BitVec.slt, h]

/-- A distance, and a key's position, as integers. -/
theorem dist_int : ∀ (i : Fin 128) (κ : Fin 256), (IntOp.subi (IntOp.addi (BitVec.ofNat 32 i.val) 128#32) (BitVec.ofNat 32 κ.val)).toInt = (i.val : ℤ) + 128 - κ.val := by
  decide +kernel
theorem pos_int : ∀ (n : Fin 128) (κ : Fin 256),
    (IntOp.addi (IntOp.subi (IntOp.muli (BitVec.ofNat 32 n.val) 128#32) 128#32) (BitVec.ofNat 32 κ.val)).toInt = (n.val : ℤ) * 128 - 128 + κ.val := by
  decide +kernel

/-- The keys' distances from the queries. -/
def hdist : Vec Ideal S128x256 .i32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

theorem hdist_apply (i : Fin 128) (κ : Fin 256) : hdist (ix2 i κ) = IntOp.subi (IntOp.addi (BitVec.ofNat 32 i.val) 128#32) (BitVec.ofNat 32 κ.val) := by
  pointwise [hdist]

/-- What the distance takes off a score. -/
def hbias : FVec Ideal S2x128x4x4x128x256 .f32 :=
  broadcastInDim S2x128x4x4x128x256 ![0, 1, 2, 3, 4, 5] bcast_S1x1x4x4x128x256_S2x128x4x4x128x256_0_1_2_3_4_5 (broadcastInDim S1x1x4x4x128x256 ![2, 3, 4, 5] bcast_S4x4x128x256_S1x1x4x4x128x256_2_3_4_5 (mulf (broadcastInDim S4x4x128x256 ![0, 1, 2, 3] bcast_S4x4x1x1_S4x4x128x256_0_1_2_3 (broadcastInDim S4x4x1x1 ![0, 1] bcast_S4x4_S4x4x1x1_0_1 (shapeCast S4x4 hslope shapeCasts_S16_S4x4))) (broadcastInDim S4x4x128x256 ![0, 1, 2, 3] bcast_S1x1x128x256_S4x4x128x256_0_1_2_3 (broadcastInDim S1x1x128x256 ![2, 3] bcast_S128x256_S1x1x128x256_2_3 (sitofp .f32 hdist)))))

theorem hbias_apply (b : Fin 2) (n : Fin 128) (h g : Fin 4) (i : Fin 128) (κ : Fin 256) :
    hbias (ix6 b n h g i κ) = (Math.slope (h.val * 4 + g.val) : EReal) * (((i.val : ℝ) + 128 - κ.val : ℝ) : EReal) := by
  rw [← hslope_apply ⟨h.val * 4 + g.val, by omega⟩]
  pointwise [hbias]
  have e : ∀ b : BitVec 32, (FloatOps.sitofp (F := Ideal) FTy.f32 b : EReal) = ((b.toInt : ℝ) : EReal) := fun _ => rfl
  rw [hdist_apply, e, dist_int]
  push_cast
  rfl

/-- Where a key takes part. -/
def hmask : Vec Ideal S2x128x4x4x128x256 .i1 :=
  broadcastInDim S2x128x4x4x128x256 ![0, 1, 2, 3, 4, 5] bcast_S1x128x1x1x128x256_S2x128x4x4x128x256_0_1_2_3_4_5 (broadcastInDim S1x128x1x1x128x256 ![1, 4, 5] bcast_S128x128x256_S1x128x1x1x128x256_1_4_5 (andi
    (broadcastInDim S128x128x256 ![0, 1, 2] bcast_S1x128x256_S128x128x256_0_1_2 (broadcastInDim S1x128x256 ![1, 2] bcast_S128x256_S1x128x256_1_2 (andi (cmpi .sge hdist (broadcastInDim S128x256 ![] bcast_S_S128x256 (constantI S_ 32 0#32))) (cmpi .slt hdist (broadcastInDim S128x256 ![] bcast_S_S128x256 (constantI S_ 32 128#32))))))
    (broadcastInDim S128x128x256 ![0, 1, 2] bcast_S128x1x256_S128x128x256_0_1_2 (broadcastInDim S128x1x256 ![0, 2] bcast_S128x256_S128x1x256_0_2 (cmpi .sge (addi (broadcastInDim S128x256 ![0, 1] bcast_S128x1_S128x256_0_1 (subi (muli (broadcastInDim S128x1 ![0] bcast_S128_S128x1_0 (iotaInDim S128 32 0)) (broadcastInDim S128x1 ![] bcast_S_S128x1 (constantI S_ 32 128#32))) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))))))

theorem hmask_apply (b : Fin 2) (n : Fin 128) (h g : Fin 4) (i : Fin 128) (κ : Fin 256) :
    hmask (ix6 b n h g i κ) = if κ.val ≤ i.val + 128 ∧ i.val < κ.val ∧ (n.val = 0 → 128 ≤ κ.val) then 1#1 else 0#1 := by
  pointwise [hmask]
  rw [hdist_apply, sge_bits, slt_bits, sge_bits, dist_int, pos_int, and_bits, and_bits]
  refine if_congr ?_ rfl rfl
  show ((0 : ℤ) ≤ _ ∧ _ < (128 : ℤ)) ∧ (0 : ℤ) ≤ _ ↔ _
  omega

/-- The last axis of a [2,128,4,4,128,256] array put back. -/
theorem lift_last (hr : S2x128x4x4x128x256.Reduces [5] S2x128x4x4x128) (b : Fin 2) (n : Fin 128) (h g : Fin 4) (i : Fin 128) (κ : Fin 256) :
    hr.lift (ix5 b n h g i) κ = ix6 b n h g i κ := by
  funext a
  apply Fin.ext
  fin_cases a <;> rfl

/-- A row's largest score, and the sum of a row. -/
def hlarge (s : FVec Ideal S2x128x4x4x128x256 .f32) : FVec Ideal S2x128x4x4x128 .f32 :=
  Host.reduce FloatOps.maximumf s (constant S_ .f32 0xFF800000#32) reducesTo_S2x128x4x4x128x256_S2x128x4x4x128_d5 h_S_

theorem hlarge_apply (s : FVec Ideal S2x128x4x4x128x256 .f32) (b : Fin 2) (n : Fin 128) (h g : Fin 4) (i : Fin 128) :
    hlarge s (ix5 b n h g i) = Finset.univ.fold max ⊥ fun κ : Fin 256 => s (ix6 b n h g i κ) := by
  have hr : S2x128x4x4x128x256.Reduces [5] S2x128x4x4x128 := by decide
  unfold hlarge
  refine (Host.reduce_eq_fold_single (FloatOps.maximumf (F := Ideal) (φ := .f32)) s _ _ hr _ (ix5 b n h g i)).trans ?_
  rw [← neg_inf]
  exact congrArg (Finset.fold max _ · Finset.univ) (funext fun κ => congrArg s (lift_last hr b n h g i κ))

def hrowsum (s : FVec Ideal S2x128x4x4x128x256 .f32) : FVec Ideal S2x128x4x4x128 .f32 :=
  Host.reduceAdd s (constant S_ .f32 0x00000000#32) reducesTo_S2x128x4x4x128x256_S2x128x4x4x128_d5 h_S_

theorem hrowsum_apply (s : FVec Ideal S2x128x4x4x128x256 .f32) (b : Fin 2) (n : Fin 128) (h g : Fin 4) (i : Fin 128) :
    hrowsum s (ix5 b n h g i) = ∑ κ : Fin 256, s (ix6 b n h g i κ) := by
  have hr : S2x128x4x4x128x256.Reduces [5] S2x128x4x4x128 := by decide
  refine (Ideal.hostReduceAdd_single _ hr s _ (ix5 b n h g i)).trans ?_
  rw [show (constant S_ .f32 0x00000000#32 : FVec Ideal S_ .f32) (Shape.Idx.first h_S_) = 0 by simp [constant, Ideal.ofBits, Ideal.ieee], zero_add]
  exact Finset.sum_congr rfl fun κ _ => congrArg s (lift_last hr b n h g i κ)

/-- The scores: [batch, block, key head, query head, row, key]. -/
def hscore (z : FVec Ideal S2x16384x1536 .f32) : FVec Ideal S2x128x4x4x128x256 .f32 :=
  select hmask (subf (mulf (transpose S2x128x4x4x128x256 [0, 1, 2, 5, 4, 3] (Host.dotGeneral dot_S2x128x256x4x64_S2x128x128x4x4x64_S2x128x4x256x128x4_4_5_2_24_013_013 none (hband (hblk (extractStridedSlice S2x16384x256 ![0, 0, 1024] z slices_S2x16384x1536_S2x16384x256_0_0_1024))) (hqs z)) transposes_S2x128x4x256x128x4_S2x128x4x4x128x256_0_1_2_5_4_3) (broadcastInDim S2x128x4x4x128x256 ![] bcast_S_S2x128x4x4x128x256 (constant S_ .f32 0x3E000000#32))) hbias) (broadcastInDim S2x128x4x4x128x256 ![] bcast_S_S2x128x4x4x128x256 (id (constant S_ .f32 0xFF800000#32)))

theorem hscore_apply (z : FVec Ideal S2x16384x1536 .f32) (b : Fin 2) (n : Fin 128) (h g : Fin 4) (i : Fin 128) (κ : Fin 256) :
    hscore z (ix6 b n h g i κ) = bscore (Math.slope (h.val * 4 + g.val)) (n.val = 0) (fun κ d => bandrow (fun s j => z (ix3 b s j)) n κ ⟨1024 + (h.val * 64 + d.val), by omega⟩)
      (fun d => z (ix3 b ⟨n.val * 128 + i.val, by omega⟩ ⟨(h.val * 4 + g.val) * 64 + d.val, by omega⟩)) i κ := by
  have hk := fun d => hband_apply (extractStridedSlice S2x16384x256 ![0, 0, 1024] z slices_S2x16384x1536_S2x16384x256_0_0_1024) (fun s j => z (ix3 b s j)) 1024 b (by omega)
    (fun s j => by pointwise) n κ h d
  unfold bscore
  simp only [← hbias_apply b n, ← hk, ← hqs_apply]
  refine Eq.trans ?_ (sel _ _ _)
  rw [← hmask_apply b n h g i κ]
  pointwise [hscore, dot_S2x128x256x4x64_S2x128x128x4x4x64_S2x128x4x256x128x4_4_5_2_24_013_013]
  exact congrArg (Scalar.select _ _) neg_inf

end Cert.RefAttnIdeal.RefValue
-- ==== Proof.AttnRef.lean ====
module

public import proofs.«01_k».proof.Proof.AttnScore
public import proofs.«01_k».proof.Proof.Gen.RefAttnIdeal.Run
public import Idealize.ShloMosaic.Lib.Pointwise
public import Idealize.ShloMosaic.Lib.KernelVsHost

@[expose] public section

set_option maxRecDepth 16384

noncomputable section

namespace Cert.RefAttnIdeal.RefValue

open Cert.RefAttnIdeal Cert.RefAttnIdeal.Gen Idealize.ShloMosaic Idealize.ShloMosaic.TcCoe Cert.Math
open Cert.RefGmlpIdeal.RefValue (hrms hrms_apply)

/-- The sinks, one for every head. -/
def hsink (sk : FVec Ideal S16 .f32) : FVec Ideal S2x128x4x4x128x1 .f32 :=
  broadcastInDim S2x128x4x4x128x1 ![0, 1, 2, 3, 4, 5] bcast_S1x1x4x4x1x1_S2x128x4x4x128x1_0_1_2_3_4_5 (broadcastInDim S1x1x4x4x1x1 ![2, 3, 4, 5] bcast_S4x4x1x1_S1x1x4x4x1x1_2_3_4_5 (broadcastInDim S4x4x1x1 ![0, 1] bcast_S4x4_S4x4x1x1_0_1 (shapeCast S4x4 sk shapeCasts_S16_S4x4)))

theorem hsink_apply (sk : FVec Ideal S16 .f32) (b : Fin 2) (n : Fin 128) (h g : Fin 4) (i : Fin 128) (e : Fin 1) :
    hsink sk (ix6 b n h g i e) = sk (ix1 ⟨h.val * 4 + g.val, by omega⟩) := by
  pointwise [hsink]

/-- The larger of a row's number and another. -/
theorem larger_apply (a : FVec Ideal S2x128x4x4x128 .f32) (k : FVec Ideal S2x128x4x4x128x1 .f32) (b : Fin 2) (n : Fin 128) (h g : Fin 4) (i : Fin 128) (e : Fin 1) :
    maximumf (broadcastInDim S2x128x4x4x128x1 ![0, 1, 2, 3, 4] bcast_S2x128x4x4x128_S2x128x4x4x128x1_0_1_2_3_4 a) k (ix6 b n h g i e)
      = max (a (ix5 b n h g i) : EReal) (k (ix6 b n h g i e)) := by
  pointwise

/-- The largest of a row's scores and its sink. -/
def hmax (s : FVec Ideal S2x128x4x4x128x256 .f32) (k : FVec Ideal S2x128x4x4x128x1 .f32) : FVec Ideal S2x128x4x4x128x1 .f32 :=
  maximumf (broadcastInDim S2x128x4x4x128x1 ![0, 1, 2, 3, 4] bcast_S2x128x4x4x128_S2x128x4x4x128x1_0_1_2_3_4 (hlarge s)) k

theorem hmax_apply (s : FVec Ideal S2x128x4x4x128x256 .f32) (k : FVec Ideal S2x128x4x4x128x1 .f32) (b : Fin 2) (n : Fin 128) (h g : Fin 4) (i : Fin 128) (e : Fin 1) :
    hmax s k (ix6 b n h g i e) = max (Finset.univ.fold max ⊥ fun κ : Fin 256 => s (ix6 b n h g i κ)) (k (ix6 b n h g i e)) := by
  rw [← hlarge_apply]
  unfold hmax
  generalize hlarge s = a
  exact larger_apply a k b n h g i e

/-- The weights before the division, and after it. -/
def hew (s : FVec Ideal S2x128x4x4x128x256 .f32) (k : FVec Ideal S2x128x4x4x128x1 .f32) : FVec Ideal S2x128x4x4x128x256 .f32 :=
  Host.exp (subf s (broadcastInDim S2x128x4x4x128x256 ![0, 1, 2, 3, 4, 5] bcast_S2x128x4x4x128x1_S2x128x4x4x128x256_0_1_2_3_4_5 (hmax s k)))

theorem hew_apply (s : FVec Ideal S2x128x4x4x128x256 .f32) (k : FVec Ideal S2x128x4x4x128x1 .f32) (b : Fin 2) (n : Fin 128) (h g : Fin 4) (i : Fin 128) (κ : Fin 256) :
    hew s k (ix6 b n h g i κ) = Ideal.exp (s (ix6 b n h g i κ) - hmax s k (ix6 b n h g i 0)) := by
  pointwise [hew]

def hw (s : FVec Ideal S2x128x4x4x128x256 .f32) (k : FVec Ideal S2x128x4x4x128x1 .f32) : FVec Ideal S2x128x4x4x128x256 .f32 :=
  Host.divf (hew s k) (broadcastInDim S2x128x4x4x128x256 ![0, 1, 2, 3, 4, 5] bcast_S2x128x4x4x128x1_S2x128x4x4x128x256_0_1_2_3_4_5 (addf (broadcastInDim S2x128x4x4x128x1 ![0, 1, 2, 3, 4] bcast_S2x128x4x4x128_S2x128x4x4x128x1_0_1_2_3_4 (hrowsum (hew s k))) (Host.exp (subf k (hmax s k)))))

theorem hw_apply (s : FVec Ideal S2x128x4x4x128x256 .f32) (k : FVec Ideal S2x128x4x4x128x1 .f32) (b : Fin 2) (n : Fin 128) (h g : Fin 4) (i : Fin 128) (κ : Fin 256) :
    hw s k (ix6 b n h g i κ) = Ideal.div (hew s k (ix6 b n h g i κ)) ((∑ κ : Fin 256, hew s k (ix6 b n h g i κ)) + Ideal.exp (k (ix6 b n h g i 0) - hmax s k (ix6 b n h g i 0))) := by
  rw [← hrowsum_apply]
  pointwise [hw]

/-- The heads' outputs. -/
def hattn (z : FVec Ideal S2x16384x1536 .f32) (sk : FVec Ideal S16 .f32) : FVec Ideal S2x16384x1024 .f32 :=
  shapeCast _ (transpose S2x128x128x4x4x64 [0, 1, 5, 2, 4, 3] (Host.dotGeneral dot_S2x128x256x4x64_S2x128x4x4x128x256_S2x128x4x64x4x128_2_5_4_34_013_012 none (hband (hblk (extractStridedSlice S2x16384x256 ![0, 0, 1280] z slices_S2x16384x1536_S2x16384x256_0_0_1280))) (hw (hscore z) (hsink sk))) transposes_S2x128x4x64x4x128_S2x128x128x4x4x64_0_1_5_2_4_3) shapeCasts_S2x128x128x4x4x64_S2x16384x1024

theorem hattn_apply (z : FVec Ideal S2x16384x1536 .f32) (sk : FVec Ideal S16 .f32) (b : Fin 2) (s : Fin 16384) (l : Fin 1024) :
    hattn z sk (ix3 b s l) = attnO (fun s j => z (ix3 b s j)) (fun h => sk (ix1 h)) s l := by
  have e : hattn z sk (ix3 b s l) = ∑ κ : Fin 256, hband (hblk (extractStridedSlice S2x16384x256 ![0, 0, 1280] z slices_S2x16384x1536_S2x16384x256_0_0_1280))
      (ix5 b ⟨s.val / 128, by omega⟩ κ ⟨l.val / 256, by omega⟩ ⟨l.val % 64, by omega⟩)
      * hw (hscore z) (hsink sk) (ix6 b ⟨s.val / 128, by omega⟩ ⟨l.val / 256, by omega⟩ ⟨l.val / 64 % 4, by omega⟩ ⟨s.val % 128, by omega⟩ κ) := by
    pointwise [hattn, dot_S2x128x256x4x64_S2x128x4x4x128x256_S2x128x4x64x4x128_2_5_4_34_013_012]
  have hv := fun κ => hband_apply (extractStridedSlice S2x16384x256 ![0, 0, 1280] z slices_S2x16384x1536_S2x16384x256_0_0_1280) (fun s j => z (ix3 b s j)) 1280 b (by omega)
    (fun s j => by pointwise) ⟨s.val / 128, by omega⟩ κ ⟨l.val / 256, by omega⟩ ⟨l.val % 64, by omega⟩
  have e1 : l.val / 256 * 4 + l.val / 64 % 4 = l.val / 64 := by omega
  have e2 : s.val / 128 * 128 + s.val % 128 = s.val := by omega
  rw [e]
  simp only [hw_apply, hew_apply, hmax_apply, hscore_apply, hsink_apply, hv, e1, e2]
  rfl

/-- Both groups' outputs side by side. -/
def hcat (oa o : FVec Ideal S2x16384x1024 .f32) : FVec Ideal S2x16384x2048 .f32 :=
  concatenate S2x16384x2048 2 [⟨S2x16384x1024, oa⟩, ⟨S2x16384x1024, o⟩] concatenates_S2x16384x1024_S2x16384x1024_S2x16384x2048_d2

theorem hcat_lo (oa o : FVec Ideal S2x16384x1024 .f32) (b : Fin 2) (s : Fin 16384) (l : Fin 1024) :
    hcat oa o (ix3 b s ⟨l.val, by omega⟩) = oa (ix3 b s l) := by
  pointwise [hcat]

theorem hcat_hi (oa o : FVec Ideal S2x16384x1024 .f32) (b : Fin 2) (s : Fin 16384) (l : Fin 1024) :
    hcat oa o (ix3 b s ⟨1024 + l.val, by omega⟩) = o (ix3 b s l) := by
  pointwise [hcat]

/-- The reference's sum: the input plus both groups' outputs times the output table. -/
def hsum (x : FVec Ideal S2x16384x2048 .f32) (oa o : FVec Ideal S2x16384x1024 .f32) (wo : FVec Ideal S2048x2048 .f32) : FVec Ideal S2x16384x2048 .f32 :=
  addf x (Host.dotGeneral dot_S2x16384x2048_S2048x2048_S2x16384x2048_2_0_01_1_n_n none (hcat oa o) wo)

theorem hsum_apply (x : FVec Ideal S2x16384x2048 .f32) (oa o : FVec Ideal S2x16384x1024 .f32) (wo : FVec Ideal S2048x2048 .f32) (b : Fin 2) (s : Fin 16384) (d : Fin 2048) :
    hsum x oa o wo (ix3 b s d) = outRow (x (ix3 b s d)) (fun l => oa (ix3 b s l)) (fun l => wo (ix2 ⟨l.val, by omega⟩ d))
      (fun l => o (ix3 b s l)) (fun l => wo (ix2 ⟨1024 + l.val, by omega⟩ d)) := by
  have e : hsum x oa o wo (ix3 b s d) = (x (ix3 b s d) : EReal) + ∑ k : Fin (1024 + 1024), (hcat oa o (ix3 b s k) : EReal) * (wo (ix2 k d) : EReal) := by
    pointwise [hsum, dot_S2x16384x2048_S2048x2048_S2x16384x2048_2_0_01_1_n_n]
  rw [e, Fin.sum_univ_add]
  unfold outRow
  rw [add_assoc]
  refine congrArg₂ (· + ·) rfl (congrArg₂ (· + ·) (Finset.sum_congr rfl fun l _ => ?_) (Finset.sum_congr rfl fun l _ => ?_))
  · exact congrArg (· * (wo (ix2 ⟨l.val, by omega⟩ d) : EReal)) (hcat_lo oa o b s l)
  · exact congrArg (· * (wo (ix2 ⟨1024 + l.val, by omega⟩ d) : EReal)) (hcat_hi oa o b s l)

/-- The reference's composed term, in the pieces above. -/
theorem res_eq (m : (ℓ : Loc nD τ sig) → Buf (Elt Ideal) ℓ) (c : Dev nD) :
    Value.res_out0 m c = shapeCast S32768x2048 (hsum (m ((c.tc : Thread nD τ).loc main_arg0)) (extf .f32 (m ((c.tc : Thread nD τ).loc main_arg4)) bitsLt_bf16_f32) (hattn (hqkv (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg5))) (m ((c.tc : Thread nD τ).loc main_arg6))) shapeCasts_S2x16384x2048_S32768x2048 := by
  unfold Value.res_out0 Value.res_main_v116
  rfl

/-- The reference's result at token `i`, feature `d`. -/
theorem out_apply (m : (ℓ : Loc nD τ sig) → Buf (Elt Ideal) ℓ) (c : Dev nD) (i : Fin 32768) (d : Fin 2048) :
    Value.res_out0 m c (ix2 i d) = outRow (m ((c.tc : Thread nD τ).loc main_arg0) (ix3 ⟨i.val / 16384, by omega⟩ ⟨i.val % 16384, by omega⟩ d))
      (fun l => m ((c.tc : Thread nD τ).loc main_arg4) (ix3 ⟨i.val / 16384, by omega⟩ ⟨i.val % 16384, by omega⟩ l))
      (fun l => m ((c.tc : Thread nD τ).loc main_arg6) (ix2 ⟨l.val, by omega⟩ d))
      (attnO (fun s => zrow (fun k => m ((c.tc : Thread nD τ).loc main_arg1) (ix1 k)) (fun k j => m ((c.tc : Thread nD τ).loc main_arg2) (ix2 k ⟨3360 + j.val, by omega⟩))
          (fun j => m ((c.tc : Thread nD τ).loc main_arg3) (ix1 j)) (fun k => m ((c.tc : Thread nD τ).loc main_arg0) (ix3 ⟨i.val / 16384, by omega⟩ s k)))
        (fun h => m ((c.tc : Thread nD τ).loc main_arg5) (ix1 h)) ⟨i.val % 16384, by omega⟩)
      (fun l => m ((c.tc : Thread nD τ).loc main_arg6) (ix2 ⟨1024 + l.val, by omega⟩ d)) := by
  rw [res_eq]
  refine (shapeCast_apply _ _ _ (ix3 ⟨i.val / 16384, by omega⟩ ⟨i.val % 16384, by omega⟩ d) ?_).trans ?_
  · rw [Shape.rowMajor_val_three, Shape.rowMajor_val_two]
    show (i.val / 16384 * 16384 + i.val % 16384) * 2048 + d.val = i.val * 2048 + d.val
    omega
  · rw [hsum_apply]
    simp only [hattn_apply, hqkv_apply]
    rfl

end Cert.RefAttnIdeal.RefValue
-- ==== Proof.AttnVal.lean ====
module

public import proofs.«01_k».proof.Proof.AttnMath
public import proofs.«01_k».proof.Proof.Gen.AttnIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.AttnIdeal.RefValue

open Cert.AttnIdeal Cert.AttnIdeal.Gen Cert.AttnIdeal.Value Idealize.ShloMosaic Idealize.ShloMosaic.TcCoe Cert.Math

/-! ## One head of one block of 128 queries -/

/-- Minus the distance of each pair's key that takes part, for pair `r` (row) and query `i` (column); `no` is added where
    that key lies in the block before. -/
def nd (no : Elt Ideal .f32) : FVec Ideal S128x128 .f32 :=
  select k0_pay7 (addf (sitofp .f32 (subi (subi (iota .tc S128x128 32 [0] iota_S128x128_d0_w32) (iota .tc S128x128 32 [1] iota_S128x128_d1_w32)) (broadcast S128x128 128#32))) (broadcast S128x128 no))
    (sitofp .f32 (subi (iota .tc S128x128 32 [0] iota_S128x128_d0_w32) (iota .tc S128x128 32 [1] iota_S128x128_d1_w32)))

/-- The band's keys times the queries, for one head. -/
def dots (kp kc : Vec Ideal S128x256 .f32) (q : Vec Ideal S128x1024 .f32) (ok oq : Fin 2 → ℕ) (hk : S256x256.Slices ok S256x64) (hq : S128x1024.Slices oq S128x64) :
    FVec Ideal S256x128 .f32 :=
  matmul dot_S256x64_S128x64_S256x128_1_1_0_0_n_n none (extractStridedSlice S256x64 ok (k0_pay9 kp kc) hk)
    (extractStridedSlice S128x64 oq (k0_pay11 q) hq) (constant S256x128 .f32 0x00000000#32)

/-- The folded scores. -/
def sc (D : FVec Ideal S256x128 .f32) (sl no : Elt Ideal .f32) : FVec Ideal S128x128 .f32 :=
  addf (select k0_pay7 (extractStridedSlice S128x128 ![0, 0] D slices_S256x128_o0_0_S128x128) (extractStridedSlice S128x128 ![128, 0] D slices_S256x128_o128_0_S128x128))
    (mulf (broadcast S128x128 sl) (nd no))

/-- The scores' maxima with the sink. -/
def mx (s : FVec Ideal S128x128 .f32) (sk : Elt Ideal .f32) : FVec Ideal S1x128 .f32 :=
  maximumf (shapeCast S1x128 (multiReduction .maximumf [0] S128 s 0xFF800000#32 reduces_S128x128_S128 (.inl rfl) rfl) shapeCasts_S128_S1x128) (broadcast S1x128 sk)

/-- The weights, and their sums with the sink's weight. -/
def ew (s : FVec Ideal S128x128 .f32) (M : FVec Ideal S1x128 .f32) : FVec Ideal S128x128 .f32 := exp (subf s (broadcastTo S128x128 M broadcasts_S1x128_S128x128))
def den (p : FVec Ideal S128x128 .f32) (M : FVec Ideal S1x128 .f32) (sk : Elt Ideal .f32) : FVec Ideal S1x128 .f32 :=
  addf (shapeCast S1x128 (multiReduction .add [0] S128 p 0x00000000#32 reduces_S128x128_S128 (.inl rfl) rfl) shapeCasts_S128_S1x128) (exp (subf (broadcast S1x128 sk) M))

/-- The weights spread over the band. -/
def wd (p : FVec Ideal S128x128 .f32) : FVec Ideal S256x128 .bf16 :=
  truncf .bf16 (concatenate S256x128 0 [⟨S128x128, select k0_pay7 p (broadcast S128x128 (Scalar.ofBits .f32 0x00000000#32))⟩, ⟨S128x128, select k0_pay7 (broadcast S128x128 (Scalar.ofBits .f32 0x00000000#32)) p⟩] concatenates_S128x128_S128x128_S256x128_d0) bitsLt_bf16_f32

/-- The head's outputs from its scores: 64 features (rows) for 128 queries (columns). -/
def outT (s : FVec Ideal S128x128 .f32) (vp vc : Vec Ideal S128x256 .f32) (ok : Fin 2 → ℕ) (hk : S256x256.Slices ok S256x64) (sk : Elt Ideal .f32) : FVec Ideal S64x128 .bf16 :=
  shapeCast S64x128 (truncf .bf16 (divf (matmul dot_S256x64_S256x128_S64x128_0_0_1_1_n_n none (extractStridedSlice S256x64 ok (k0_pay10 vp vc) hk) (wd (ew s (mx s sk))) (constant S64x128 .f32 0x00000000#32))
    (broadcastTo S64x128 (den (ew s (mx s sk)) (mx s sk) sk) broadcasts_S1x128_S64x128)) bitsLt_bf16_f32) shapeCasts_S64x128_S64x128

/-- Row `κ`, column `c` of two blocks of 128 rows. -/
def band (p q : Fin 128 → Fin 256 → EReal) (κ : Fin 256) (c : Fin 256) : EReal :=
  if h : κ.val < 128 then p ⟨κ.val, h⟩ c else q ⟨κ.val - 128, by omega⟩ c

theorem pay7_apply (r i : Fin 128) : (k0_pay7 (ix2 r i) : BitVec 1) = if i.val < r.val then 1#1 else 0#1 := by
  have h : ∀ r i : Fin 128, IntOp.cmpi .sgt (BitVec.ofNat 32 r.val) (BitVec.ofNat 32 i.val) = if i.val < r.val then 1#1 else 0#1 := by decide +kernel
  rw [← h]
  pointwise [k0_pay7]

theorem sel {α : Type} (P : Prop) [Decidable P] (a b : α) : Scalar.select (if P then 1#1 else 0#1) a b = if P then a else b := by
  split_ifs <;> rfl

theorem nd_apply (no : Elt Ideal .f32) (r i : Fin 128) : nd no (ix2 r i)
    = if i.val < r.val then (((r.val : ℝ) - i.val - 128 : ℝ) : EReal) + no else (((r.val : ℝ) - i.val : ℝ) : EReal) := by
  have h1 : ∀ r i : Fin 128, (IntOp.subi (BitVec.ofNat 32 r.val) (BitVec.ofNat 32 i.val)).toInt = (r.val : ℤ) - i.val := by decide +kernel
  have h2 : ∀ r i : Fin 128, (IntOp.subi (IntOp.subi (BitVec.ofNat 32 r.val) (BitVec.ofNat 32 i.val)) 128#32).toInt = (r.val : ℤ) - i.val - 128 := by decide +kernel
  rw [← sel]
  unfold nd
  pointwise [pay7_apply]
  have e : ∀ b : BitVec 32, (FloatOps.sitofp (F := Ideal) FTy.f32 b : EReal) = ((b.toInt : ℝ) : EReal) := fun _ => rfl
  rw [e, e, h1, h2]
  push_cast
  rfl

theorem dots_apply (kp kc : Vec Ideal S128x256 .f32) (q : Vec Ideal S128x1024 .f32) (a b : ℕ) (hk : S256x256.Slices ![0, a] S256x64)
    (hq : S128x1024.Slices ![0, b] S128x64) (ha : a ≤ 192) (hb : b ≤ 960) (κ : Fin 256) (i : Fin 128) :
    dots kp kc q ![0, a] ![0, b] hk hq (ix2 κ i)
      = ∑ d : Fin 64, band (fun r c => kp (ix2 r c)) (fun r c => kc (ix2 r c)) κ ⟨a + d.val, by omega⟩ * (q (ix2 i ⟨b + d.val, by omega⟩) * eighth) := by
  unfold band
  pointwise [dots, k0_pay9, k0_pay11, dot_S256x64_S128x64_S256x128_1_1_0_0_n_n]

theorem sc_apply (D : FVec Ideal S256x128 .f32) (sl no : Elt Ideal .f32) (r i : Fin 128) : sc D sl no (ix2 r i)
    = (if i.val < r.val then D (ix2 (lo r) i) else D (ix2 (hi r) i))
      + sl * (if i.val < r.val then (((r.val : ℝ) - i.val - 128 : ℝ) : EReal) + no else (((r.val : ℝ) - i.val : ℝ) : EReal)) := by
  rw [← nd_apply, ← sel]
  unfold lo hi
  pointwise [sc, pay7_apply]

theorem neg_inf : Ideal.ofBits .f32 0xFF800000#32 = ⊥ := by simp [Ideal.ofBits, Ideal.ieee]

theorem mx_apply (s : FVec Ideal S128x128 .f32) (sk : Elt Ideal .f32) (i : Fin 128) : mx s sk (ix2 0 i) = max (Finset.univ.fold max ⊥ fun r : Fin 128 => s (ix2 r i)) sk := by
  rw [← neg_inf]
  pointwise [mx]

theorem outT_apply (s : FVec Ideal S128x128 .f32) (vp vc : Vec Ideal S128x256 .f32) (a : ℕ) (hk : S256x256.Slices ![0, a] S256x64) (ha : a ≤ 192) (sk : Elt Ideal .f32) (e : Fin 64) (i : Fin 128) :
    outT s vp vc ![0, a] hk sk (ix2 e i)
      = fsoft (fun r => s (ix2 r i)) i (fun κ => band (fun r c => vp (ix2 r c)) (fun r c => vc (ix2 r c)) κ ⟨a + e.val, by omega⟩) sk := by
  unfold fsoft wide band
  simp only [← mx_apply]
  pointwise [outT, den, wd, ew, k0_pay10, pay7_apply, sel, dot_S256x64_S256x128_S64x128_0_0_1_1_n_n]

/-! ## A tile of the heads' outputs, from the block's scratch -/

/-- Row `n` of the keys and values a block of 512 rows works on: the carried 128 rows, then the block's own. -/
def zb (Z : Fin 512 → Fin 1536 → EReal) (kv : Fin 128 → Fin 512 → EReal) (n : ℕ) (c : Fin 512) : EReal :=
  if h : n < 128 then kv ⟨n, h⟩ c else if h' : n < 640 then Z ⟨n - 128, by omega⟩ ⟨1024 + c.val, by omega⟩ else 0

/-- Feature `l` of the heads' outputs at the block's row `r`: head `l / 64` in the block of 128 queries `r` lies in. -/
def ob (Z : Fin 512 → Fin 1536 → EReal) (kv : Fin 128 → Fin 512 → EReal) (no : EReal) (sk : Fin 16 → EReal) (l : Fin 1024) (r : Fin 512) : EReal :=
  fsoft (fscore (slope (l.val / 64)) (if r.val < 128 then no else 0) (fun κ d => zb Z kv (r.val / 128 * 128 + κ.val) ⟨0 + (l.val / 256 * 64 + d.val), by omega⟩)
      (fun d => Z r ⟨l.val / 64 * 64 + d.val, by omega⟩) ⟨r.val % 128, by omega⟩)
    ⟨r.val % 128, by omega⟩ (fun κ => zb Z kv (r.val / 128 * 128 + κ.val) ⟨256 + (l.val / 256 * 64 + l.val % 64), by omega⟩) (sk ⟨l.val / 64, by omega⟩)

/-- Two loaded blocks of 128 rows are the band of 256. -/
theorem band_zb (Z : Fin 512 → Fin 1536 → EReal) (kv : Fin 128 → Fin 512 → EReal) (p q : Fin 128 → Fin 256 → EReal) (j o : ℕ) (ho : o ≤ 256)
    (hp : ∀ ρ (c : Fin 256), p ρ c = zb Z kv (j + ρ.val) ⟨o + c.val, by omega⟩) (hq : ∀ ρ (c : Fin 256), q ρ c = zb Z kv (j + 128 + ρ.val) ⟨o + c.val, by omega⟩)
    (κ c : Fin 256) : band p q κ c = zb Z kv (j + κ.val) ⟨o + c.val, by omega⟩ := by
  unfold band
  split_ifs with h
  · exact hp _ _
  · rw [hq]
    congr 1
    show j + 128 + (κ.val - 128) = _
    omega

/-- A head's slope as the kernel writes it: every second one is a power of two, the others are named constants. -/
def slopeK (h : Fin 16) : EReal :=
  match h.val with
  | 0 => Named.named (F := Ideal) κ "slope1" (φ := .f32) 0x3F3504F3#32
  | 1 => FloatOps.ofBits (F := Ideal) FTy.f32 0x3F000000#32
  | 2 => Named.named (F := Ideal) κ "slope3" (φ := .f32) 0x3EB504F3#32
  | 3 => FloatOps.ofBits (F := Ideal) FTy.f32 0x3E800000#32
  | 4 => Named.named (F := Ideal) κ "slope5" (φ := .f32) 0x3E3504F3#32
  | 5 => FloatOps.ofBits (F := Ideal) FTy.f32 0x3E000000#32
  | 6 => Named.named (F := Ideal) κ "slope7" (φ := .f32) 0x3DB504F3#32
  | 7 => FloatOps.ofBits (F := Ideal) FTy.f32 0x3D800000#32
  | 8 => Named.named (F := Ideal) κ "slope9" (φ := .f32) 0x3D3504F3#32
  | 9 => FloatOps.ofBits (F := Ideal) FTy.f32 0x3D000000#32
  | 10 => Named.named (F := Ideal) κ "slope11" (φ := .f32) 0x3CB504F3#32
  | 11 => FloatOps.ofBits (F := Ideal) FTy.f32 0x3C800000#32
  | 12 => Named.named (F := Ideal) κ "slope13" (φ := .f32) 0x3C3504F3#32
  | 13 => FloatOps.ofBits (F := Ideal) FTy.f32 0x3C000000#32
  | 14 => Named.named (F := Ideal) κ "slope15" (φ := .f32) 0x3BB504F3#32
  | _ => FloatOps.ofBits (F := Ideal) FTy.f32 0x3B800000#32

theorem root_slope (x : ℝ) (n : ℕ) (h : x = 2 ^ (n + 1)) : (((Real.sqrt x)⁻¹ : ℝ) : EReal) = (Math.slope n : EReal) := by rw [h]; rfl

theorem bits_slope (b : BitVec 32) (n : ℕ) (h : Ideal.ofBits .f32 b = (((2 ^ (n + 1))⁻¹ : ℝ) : EReal)) : Ideal.ofBits .f32 b = (Math.slope (2 * n + 1) : EReal) := by
  rw [h]; unfold Math.slope
  rw [show 2 * n + 1 + 1 = (n + 1) * 2 by omega, pow_mul, Real.sqrt_sq (by positivity)]

theorem slopeK_eq : ∀ h : Fin 16, slopeK h = (Math.slope h.val : EReal) := by
  intro h
  fin_cases h
  · exact (IdealRules.named_const.ideal_named_scalar _ _ _ _ rfl).trans (root_slope 2 0 (by norm_num))
  · exact bits_slope 0x3F000000#32 0 (by simp [Ideal.ofBits, Ideal.ieee, -EReal.coe_mul]; norm_num)
  · exact (IdealRules.named_const.ideal_named_scalar _ _ _ _ rfl).trans (root_slope 8 2 (by norm_num))
  · exact bits_slope 0x3E800000#32 1 (by simp [Ideal.ofBits, Ideal.ieee, -EReal.coe_mul]; norm_num)
  · exact (IdealRules.named_const.ideal_named_scalar _ _ _ _ rfl).trans (root_slope 32 4 (by norm_num))
  · exact bits_slope 0x3E000000#32 2 (by simp [Ideal.ofBits, Ideal.ieee, -EReal.coe_mul]; norm_num)
  · exact (IdealRules.named_const.ideal_named_scalar _ _ _ _ rfl).trans (root_slope 128 6 (by norm_num))
  · exact bits_slope 0x3D800000#32 3 (by simp [Ideal.ofBits, Ideal.ieee, -EReal.coe_mul]; norm_num)
  · exact (IdealRules.named_const.ideal_named_scalar _ _ _ _ rfl).trans (root_slope 512 8 (by norm_num))
  · exact bits_slope 0x3D000000#32 4 (by simp [Ideal.ofBits, Ideal.ieee, -EReal.coe_mul]; norm_num)
  · exact (IdealRules.named_const.ideal_named_scalar _ _ _ _ rfl).trans (root_slope 2048 10 (by norm_num))
  · exact bits_slope 0x3C800000#32 5 (by simp [Ideal.ofBits, Ideal.ieee, -EReal.coe_mul]; norm_num)
  · exact (IdealRules.named_const.ideal_named_scalar _ _ _ _ rfl).trans (root_slope 8192 12 (by norm_num))
  · exact bits_slope 0x3C000000#32 6 (by simp [Ideal.ofBits, Ideal.ieee, -EReal.coe_mul]; norm_num)
  · exact (IdealRules.named_const.ideal_named_scalar _ _ _ _ rfl).trans (root_slope 32768 14 (by norm_num))
  · exact bits_slope 0x3B800000#32 7 (by simp [Ideal.ofBits, Ideal.ieee, -EReal.coe_mul]; norm_num)

/-- One tile: head `b / 64`, queries `j` to `j + 127`. -/
theorem tile_val (Z : Fin 512 → Fin 1536 → EReal) (kv : Fin 128 → Fin 512 → EReal) (no : EReal) (sks : Fin 16 → EReal) (a b j : ℕ)
    (hk : S256x256.Slices ![0, a] S256x64) (hq : S128x1024.Slices ![0, b] S128x64) (kp kc vp vc : Vec Ideal S128x256 .f32) (q : Vec Ideal S128x1024 .f32)
    (sl no' sk : Elt Ideal .f32) (e : Fin 64) (i : Fin 128) (l : Fin 1024) (r : Fin 512) (h0 : l.val = b + e.val) (h1 : r.val = j + i.val)
    (hb : b % 64 = 0) (ha : a = b / 256 * 64) (hj : j % 128 = 0) (hb' : b / 64 < 16)
    (hkp : ∀ (ρ : Fin 128) (c : Fin 256), kp (ix2 ρ c) = zb Z kv (j + ρ.val) ⟨0 + c.val, by omega⟩)
    (hkc : ∀ (ρ : Fin 128) (c : Fin 256), kc (ix2 ρ c) = zb Z kv (j + 128 + ρ.val) ⟨0 + c.val, by omega⟩)
    (hvp : ∀ (ρ : Fin 128) (c : Fin 256), vp (ix2 ρ c) = zb Z kv (j + ρ.val) ⟨256 + c.val, by omega⟩)
    (hvc : ∀ (ρ : Fin 128) (c : Fin 256), vc (ix2 ρ c) = zb Z kv (j + 128 + ρ.val) ⟨256 + c.val, by omega⟩)
    (hz : ∀ (c : Fin 1024), q (ix2 i c) = Z r ⟨c.val, by omega⟩)
    (hsl : sl = slopeK ⟨b / 64, hb'⟩) (hno : no' = if j < 128 then no else 0) (hsk : sk = sks ⟨b / 64, hb'⟩) :
    outT (sc (dots kp kc q ![0, a] ![0, b] hk hq) sl no') vp vc ![0, a] hk sk (ix2 e i) = ob Z kv no sks l r := by
  have e1 : l.val / 64 = b / 64 := by omega
  have e2 : l.val / 256 * 64 = a := by omega
  have e3 : l.val % 64 = e.val := by omega
  have e4 : r.val / 128 * 128 = j := by omega
  have e5 : r.val % 128 = i.val := by omega
  have e6 : b / 64 * 64 = b := by omega
  have e7 : (r.val < 128) = (j < 128) := propext (by omega)
  rw [outT_apply _ _ _ a hk (by omega)]
  unfold ob fscore lo hi
  simp only [sc_apply, dots_apply _ _ _ a b hk hq (by omega) (by omega), e1, e2, e3, e4, e5, e6, e7, hz, hsl.trans (slopeK_eq _), hno, hsk,
    band_zb Z kv _ _ j 0 (by omega) hkp hkc, band_zb Z kv _ _ j 256 (by omega) hvp hvc]
  rfl

/-- A load of the block's scratch of queries, keys and values: 128 rows' keys or values, -/
theorem ld_kv (Z : Vec Ideal S512x1536 .f32) (kv : Fin 128 → Fin 512 → EReal) (a b n o : ℕ) (inb : ∀ k : Fin S512x1536.rank, ![a, b] k + ![128, 256] k ≤ S512x1536.size k)
    (hn : n = a + 128) (ho : b = 1024 + o) (ha : a ≤ 384) (ho' : o ≤ 256) (ρ : Fin 128) (c : Fin 256) :
    View.ld Z (Rect.unit ![a, b] ![128, 256] inb) (ix2 ρ c) = zb (fun r c => Z (ix2 r c)) kv (n + ρ.val) ⟨o + c.val, by omega⟩ := by
  unfold zb
  rw [dif_neg (by omega), dif_pos (by omega)]
  exact View.ld_unit_apply_of _ _ _ _ _ (ix2 _ _) (by intro k; fin_cases k <;> simp <;> omega)

/-- and 128 rows' queries. -/
theorem ld_q (Z : Vec Ideal S512x1536 .f32) (a : ℕ) (inb : ∀ k : Fin S512x1536.rank, ![a, 0] k + ![128, 1024] k ≤ S512x1536.size k)
    (ρ : Fin 128) (c : Fin 1024) (r : Fin 512) (hr : r.val = a + ρ.val) :
    View.ld Z (Rect.unit ![a, 0] ![128, 1024] inb) (ix2 ρ c) = Z (ix2 r ⟨c.val, by omega⟩) :=
  View.ld_unit_apply_of _ _ _ _ _ (ix2 _ _) (by intro k; fin_cases k <;> simp <;> omega)

/-- A load of the carried rows. -/
theorem ld_carried (K : Vec Ideal S128x512 .f32) (Z : Fin 512 → Fin 1536 → EReal) (o : ℕ) (inb : ∀ k : Fin S128x512.rank, ![0, o] k + ![128, 256] k ≤ S128x512.size k)
    (ho' : o ≤ 256) (ρ : Fin 128) (c : Fin 256) :
    View.ld K (Rect.unit ![0, o] ![128, 256] inb) (ix2 ρ c) = zb Z (fun r c => K (ix2 r c)) (0 + ρ.val) ⟨o + c.val, by omega⟩ := by
  unfold zb
  rw [dif_pos (by omega)]
  exact View.ld_unit_apply_of _ _ _ _ _ (ix2 _ _) (by intro k; fin_cases k <;> simp)

/-- A load of stored pieces is a load of what they leave; a whole store leaves its payload. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L _

/-! ## The launch's arrays and the windows' blocks at an index -/

variable (m : (ℓ : Loc nD τ sig) → Buf (Elt Ideal) ℓ)

theorem V0 (c : Dev nD) (i : Fin 32768) (k : Fin 2048) : V m c main_v0 (ix2 i k)
    = m ((c.tc : Thread nD τ).loc main_arg0) (ix3 ⟨i.val / 16384, by omega⟩ ⟨i.val % 16384, by omega⟩ k) := by
  unfold V
  after_reads_at
theorem V1 (c : Dev nD) (i : Fin 32768) (k : Fin 1024) : V m c main_v1 (ix2 i k)
    = m ((c.tc : Thread nD τ).loc main_arg4) (ix3 ⟨i.val / 16384, by omega⟩ ⟨i.val % 16384, by omega⟩ k) := by
  unfold V
  after_reads_at
theorem V2 (c : Dev nD) (k : Fin 2048) : V m c main_v2 (ix2 0 k) = m ((c.tc : Thread nD τ).loc main_arg1) (ix1 k) := by
  unfold V
  after_reads_at
theorem V4 (c : Dev nD) (k : Fin 2048) (j : Fin 1536) : V m c main_v4 (ix2 k j) = m ((c.tc : Thread nD τ).loc main_arg2) (ix2 k ⟨3360 + j.val, by omega⟩) := by
  unfold V
  after_reads_at
theorem V6 (c : Dev nD) (j : Fin 1536) : V m c main_v6 (ix2 0 j) = m ((c.tc : Thread nD τ).loc main_arg3) (ix1 j) := by
  unfold V
  after_reads_at
theorem V7 (c : Dev nD) (l : Fin 1024) (d : Fin 2048) : V m c main_v7 (ix2 l d) = m ((c.tc : Thread nD τ).loc main_arg6) (ix2 ⟨l.val, by omega⟩ d) := by
  unfold V
  after_reads_at
theorem V8 (c : Dev nD) (l : Fin 1024) (d : Fin 2048) : V m c main_v8 (ix2 l d) = m ((c.tc : Thread nD τ).loc main_arg6) (ix2 ⟨1024 + l.val, by omega⟩ d) := by
  unfold V
  after_reads_at
theorem V5 (c : Dev nD) (h : Fin 16) : V m c main_arg5 (ix1 h) = m ((c.tc : Thread nD τ).loc main_arg5) (ix1 h) := by
  unfold V
  after_reads_at

/-- The windows' index maps over the grid, decided. -/
theorem idx : ∀ t : Fin cfg0.N, win0_0.index t = ![0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![t.val, 0] :=
  (by decide +kernel : ∀ t : Fin grid0.N, _)

theorem ib0 (c : Dev nD) (t : Fin cfg0.N) (h : Fin 16) : iblk m c 0 t (ix1 h) = V m c main_arg5 (ix1 h) := by
  blk_ext [iblk, idx t]
theorem ib1 (c : Dev nD) (t : Fin cfg0.N) (r : Fin 512) (k : Fin 2048) (i : Fin 32768) (hi : i.val = 512 * t.val + r.val) :
    iblk m c 1 t (ix2 r k) = V m c main_v0 (ix2 i k) := by
  blk_ext [iblk, idx t]
theorem ib2 (c : Dev nD) (t : Fin cfg0.N) (r : Fin 512) (k : Fin 1024) (i : Fin 32768) (hi : i.val = 512 * t.val + r.val) :
    iblk m c 2 t (ix2 r k) = V m c main_v1 (ix2 i k) := by
  blk_ext [iblk, idx t]
theorem ib3 (c : Dev nD) (t : Fin cfg0.N) (k : Fin 2048) : iblk m c 3 t (ix2 0 k) = V m c main_v2 (ix2 0 k) := by
  blk_ext [iblk, idx t]
theorem ib4 (c : Dev nD) (t : Fin cfg0.N) (k : Fin 2048) (j : Fin 1536) : iblk m c 4 t (ix2 k j) = V m c main_v4 (ix2 k j) := by
  blk_ext [iblk, idx t]
theorem ib5 (c : Dev nD) (t : Fin cfg0.N) (j : Fin 1536) : iblk m c 5 t (ix2 0 j) = V m c main_v6 (ix2 0 j) := by
  blk_ext [iblk, idx t]
theorem ib6 (c : Dev nD) (t : Fin cfg0.N) (l : Fin 1024) (d : Fin 2048) : iblk m c 6 t (ix2 l d) = V m c main_v7 (ix2 l d) := by
  blk_ext [iblk, idx t]
theorem ib7 (c : Dev nD) (t : Fin cfg0.N) (l : Fin 1024) (d : Fin 2048) : iblk m c 7 t (ix2 l d) = V m c main_v8 (ix2 l d) := by
  blk_ext [iblk, idx t]

/-- The body's stored queries, keys and values at an index. -/
theorem pay4_apply (x : Vec Ideal S512x2048 .f32) (g : Vec Ideal S1x2048 .f32) (w : Vec Ideal S2048x1536 .bf16) (b : Vec Ideal S1x1536 .f32) (r : Fin 512) (j : Fin 1536) :
    k0_pay4 x g w b (ix2 r j) = zrow (fun k => g (ix2 0 k)) (fun k j => w (ix2 k j)) (fun j => b (ix2 0 j)) (fun k => x (ix2 r k)) j := by
  unfold zrow rowMul rms
  pointwise [k0_pay4, k0_pay3, dot_S512x2048_S2048x1536_S512x1536_1_0_0_1_n_n]

/-- The output rows. -/
theorem pay1_apply (x : Vec Ideal S512x2048 .f32) (oa : Vec Ideal S512x1024 .bf16) (wa : Vec Ideal S1024x2048 .bf16) (o : Vec Ideal S1024x512 .bf16) (wb : Vec Ideal S1024x2048 .bf16)
    (r : Fin 512) (d : Fin 2048) :
    k0_pay1 (k0_pay6 (k0_pay3 x) (k0_pay5 oa wa)) o wb (ix2 r d)
      = outRow (x (ix2 r d)) (fun l => oa (ix2 r l)) (fun l => wa (ix2 l d)) (fun l => o (ix2 l r)) (fun l => wb (ix2 l d)) := by
  unfold outRow
  pointwise [k0_pay1, k0_pay6, k0_pay5, k0_pay3, dot_S512x1024_S1024x2048_S512x2048_1_0_0_1_n_n, dot_S1024x512_S1024x2048_S512x2048_0_0_1_1_n_n]

/-- The scratch of queries, keys and values at point `t`. -/
def zblk (c : Dev nD) (t : Fin cfg0.N) : Vec Ideal S512x1536 .f32 := k0_pay4 (iblk m c 1 t) (iblk m c 3 t) (iblk m c 4 t) (iblk m c 5 t)

/-- A scratch stored whole holds the stored block. -/
theorem canon_z (Z : Vec Ideal S512x1536 .f32) (inb) :
    View.canon (Val := Elt Ideal) (e := .f32) [⟨Rect.unit (s := S512x1536) ![0, 0] ![512, 1536] inb, Z⟩] = Z :=
  View.canon_unit_zero (by funext a; fin_cases a <;> rfl) _ _
theorem canon_k (Z : Vec Ideal S128x512 .f32) (inb) :
    View.canon (Val := Elt Ideal) (e := .f32) [⟨Rect.unit (s := S128x512) ![0, 0] ![128, 512] inb, Z⟩] = Z :=
  View.canon_unit_zero (by funext a; fin_cases a <;> rfl) _ _

end Cert.AttnIdeal.RefValue
-- ==== Proof.AttnOut.lean ====
module

public import proofs.«01_k».proof.Proof.AttnVal
public import proofs.«01_k».proof.Proof.Gen.AttnIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 200000

noncomputable section

namespace Cert.AttnIdeal.RefValue

open Cert.AttnIdeal Cert.AttnIdeal.Gen Cert.AttnIdeal.Value Idealize.ShloMosaic Idealize.ShloMosaic.TcCoe Cert.Math

variable (m : (ℓ : Loc nD τ sig) → Buf (Elt Ideal) ℓ)

/-- A whole load of a whole buffer's contents gives them back. -/
theorem ldr {sp : Space} {s : Shape} {e : EltTy} (M : Memref sig .tc sp s e) (h : M.IsWhole) (X : Vec Ideal s e) {off : Fin s.rank → Nat} (inb : ∀ a, off a + s.size a ≤ s.size a)
    (h0 : ∀ a, off a = 0) : View.ld (View.read (Elt Ideal) M.view (h.unread X)) (Rect.unit off s.size inb) = X := by
  rw [h.read_unread]
  exact View.ld_unit_lit inb X h0

/-- The loads of the stored block, -/
theorem rd_kv (Z : Vec Ideal S512x1536 .f32) (kv : Fin 128 → Fin 512 → EReal) (a b n o : ℕ) (inb₀) (inb : ∀ k : Fin S512x1536.rank, ![a, b] k + ![128, 256] k ≤ S512x1536.size k)
    (hn : n = a + 128) (ho : b = 1024 + o) (ha : a ≤ 384) (ho' : o ≤ 256) (ρ : Fin 128) (c : Fin 256) :
    (View.whole cc0_scratch1).readCov (Val := Elt Ideal) [⟨Rect.unit (s := S512x1536) ![0, 0] ![512, 1536] inb₀, Z⟩] (Rect.unit (s := S512x1536) ![a, b] ![128, 256] inb).toLoadRect (ix2 ρ c)
      = zb (fun r j => Z (ix2 r j)) kv (n + ρ.val) ⟨o + c.val, by omega⟩ := by
  refine (congrFun (readCov_ld _ _ _) _).trans ?_
  rw [canon_z]
  exact ld_kv Z kv a b n o inb hn ho ha ho' ρ c

theorem rd_q (Z : Vec Ideal S512x1536 .f32) (a : ℕ) (inb₀) (inb : ∀ k : Fin S512x1536.rank, ![a, 0] k + ![128, 1024] k ≤ S512x1536.size k)
    (ρ : Fin 128) (c : Fin 1024) (r : Fin 512) (hr : r.val = a + ρ.val) :
    (View.whole cc0_scratch1).readCov (Val := Elt Ideal) [⟨Rect.unit (s := S512x1536) ![0, 0] ![512, 1536] inb₀, Z⟩] (Rect.unit (s := S512x1536) ![a, 0] ![128, 1024] inb).toLoadRect (ix2 ρ c)
      = Z (ix2 r ⟨c.val, by omega⟩) := by
  refine (congrFun (readCov_ld _ _ _) _).trans ?_
  rw [canon_z]
  exact ld_q Z a inb ρ c r hr

/-- of the carried rows where a sequence begins: they are zero, -/
theorem rd_zero (Z : Fin 512 → Fin 1536 → EReal) (o : ℕ) (inb₀) (inb : ∀ k : Fin S128x512.rank, ![0, o] k + ![128, 256] k ≤ S128x512.size k)
    (ho' : o ≤ 256) (ρ : Fin 128) (c : Fin 256) :
    (View.whole cc0_scratch2).readCov (Val := Elt Ideal) [⟨Rect.unit (s := S128x512) ![0, 0] ![128, 512] inb₀, k0_pay2 (F := Ideal)⟩] (Rect.unit (s := S128x512) ![0, o] ![128, 256] inb).toLoadRect (ix2 ρ c)
      = zb Z (fun _ _ => 0) (0 + ρ.val) ⟨o + c.val, by omega⟩ := by
  refine (congrFun (readCov_ld _ _ _) _).trans ?_
  rw [canon_k, ld_carried _ Z o inb ho' ρ c]
  unfold zb
  rw [dif_pos (by omega), dif_pos (by omega)]
  unfold k0_pay2
  pointwise

/-- of the rows carried over, -/
theorem rd_carried (K : Vec Ideal S128x512 .f32) (h : (Memref.whole (κ := .tc) cc0_scratch2).IsWhole) (Z : Fin 512 → Fin 1536 → EReal) (o : ℕ)
    (inb : ∀ k : Fin S128x512.rank, ![0, o] k + ![128, 256] k ≤ S128x512.size k) (ho' : o ≤ 256) (ρ : Fin 128) (c : Fin 256) :
    View.ld (View.read (Elt Ideal) (View.whole cc0_scratch2) (h.unread K)) (Rect.unit ![0, o] ![128, 256] inb) (ix2 ρ c)
      = zb Z (fun r j => K (ix2 r j)) (0 + ρ.val) ⟨o + c.val, by omega⟩ :=
  (congrArg (fun K => View.ld K (Rect.unit ![0, o] ![128, 256] inb) (ix2 ρ c)) (h.read_unread K)).trans (ld_carried K Z o inb ho' ρ c)

/-- and of a sink. -/
theorem ld_sink (X : Vec Ideal S16 .f32) (h : ℕ) (inb : ∀ k : Fin S16.rank, ![h] k + ![1] k ≤ S16.size k) (g) (j : Fin 16) (hj : j.val = h) :
    View.ld X (Rect.unit ![h] ![1] inb) (Shape.Idx.first (s := S1) g) = X (ix1 j) :=
  View.ld_unit_apply_of _ _ _ _ _ (ix1 j) (by intro k; fin_cases k; simp [hj, Shape.Idx.first])

theorem no_pos (j : ℕ) (no : EReal) (h : ¬ j < 128) : (FloatOps.ofBits (F := Ideal) FTy.f32 0#32 : Elt Ideal .f32) = if j < 128 then no else 0 := by
  rw [if_neg h]
  exact (by simp [Ideal.ofBits, Ideal.ieee] : Ideal.ofBits .f32 0#32 = 0)

/-- The number added to the scores of the keys before the first block: the mask where the sequence begins, zero elsewhere. -/
theorem no_first (t : Fin cfg0.N) (j : ℕ) (h : j < 128) (h0 : t.val % 32 = 0) :
    (Scalar.select (Scalar.cmpi CmpIPredicate.eq (BitVec.ofNat 32 (grid0.coords t 1).val) 0#32) (Named.named (F := Ideal) κ "mask" (φ := .f32) 0xF49DC5AE#32) (FloatOps.ofBits (F := Ideal) FTy.f32 0#32) : Elt Ideal .f32)
      = if j < 128 then ⊥ else 0 := by
  rw [if_pos h, show (grid0.coords t 1).val = 0 from (Pipeline.Grid.coords_val t 1 (by decide) rfl : _ = t.val / 1 % 32).trans (by omega)]
  exact IdealRules.named_const.ideal_named_scalar _ _ _ _ rfl

theorem no_later (t : Fin cfg0.N) (j : ℕ) (h0 : ¬ t.val % 32 = 0) :
    (Scalar.select (Scalar.cmpi CmpIPredicate.eq (BitVec.ofNat 32 (grid0.coords t 1).val) 0#32) (Named.named (F := Ideal) κ "mask" (φ := .f32) 0xF49DC5AE#32) (FloatOps.ofBits (F := Ideal) FTy.f32 0#32) : Elt Ideal .f32)
      = if j < 128 then 0 else 0 := by
  have e : ∀ k : Fin 32, k.val ≠ 0 → Scalar.cmpi CmpIPredicate.eq (BitVec.ofNat 32 k.val) 0#32 = 0#1 := by decide
  rw [ite_self, show (grid0.coords t 1).val = (⟨t.val % 32, by omega⟩ : Fin 32).val from (Pipeline.Grid.coords_val t 1 (by decide) rfl : _ = t.val / 1 % 32).trans (by rw [Nat.div_one]), e _ h0]
  exact (by simp [Ideal.ofBits, Ideal.ieee] : Ideal.ofBits .f32 0#32 = 0)

set_option maxHeartbeats 4000000 in
theorem out_val_A (c : Dev nD) (t : Fin cfg0.N) (ht : t.val % 32 = 0) (r : Fin 512) (d : Fin 2048) : (outsAt0 m c t.val t.isLt).1 (ix2 r d)
    = outRow (iblk m c 1 t (ix2 r d)) (fun l => iblk m c 2 t (ix2 r l)) (fun l => iblk m c 6 t (ix2 l d))
      (fun l => ob (fun r j => zblk m c t (ix2 r j)) (fun _ _ => 0) ⊥ (fun h => iblk m c 0 t (ix1 h)) l r) (fun l => iblk m c 7 t (ix2 l d)) := by
  rw [outsAt0_A m c t ht]
  dsimp only
  frame_out
  rw [ldr (ms0_1 t) (hs0_1 t) (iblk m c 1 t) _ (by decide), ldr (ms0_3 t) (hs0_3 t) (iblk m c 3 t) _ (by decide), ldr (ms0_4 t) (hs0_4 t) (iblk m c 4 t) _ (by decide), ldr (ms0_5 t) (hs0_5 t) (iblk m c 5 t) _ (by decide), (hs0_0 t).read_unread (iblk m c 0 t)]
  refine (pay1_apply _ _ _ _ _ r d).trans ?_
  congr 1
  funext l
  refine (congrFun (readCov_ld _ _ _) _).trans ?_
  refine (View.ld_unit_apply_of _ _ _ _ _ (ix2 l r) (by intro a; fin_cases a <;> simp)).trans ?_
  canon_tiles x h
  all_goals
    idx_vars x
    refine tile_val _ _ _ _ _ _ _ _ (by decide) _ _ _ _ _ _ _ _ x0 x1 l r (by first | exact h0 | exact h0.trans (Nat.zero_add _).symm)
      (by first | exact h1 | exact h1.trans (Nat.zero_add _).symm) (by decide) (by decide) (by decide) (by decide) ?hkp ?hkc ?hvp ?hvc ?hz ?hsl ?hno ?hsk
    case hkp =>
      first
      | have := show r.val = x1.val from h1
        exact fun ρ c' => rd_zero _ _ _ _ (by decide) ρ c'
      | exact fun ρ c' => rd_kv (zblk m c t) _ _ _ _ _ _ _ (by decide) (by decide) (by decide) (by decide) ρ c'
    case hvp =>
      first
      | have := show r.val = x1.val from h1
        exact fun ρ c' => rd_zero _ _ _ _ (by decide) ρ c'
      | exact fun ρ c' => rd_kv (zblk m c t) _ _ _ _ _ _ _ (by decide) (by decide) (by decide) (by decide) ρ c'
    case hkc => exact fun ρ c' => rd_kv (zblk m c t) _ _ _ _ _ _ _ (by decide) (by decide) (by decide) (by decide) ρ c'
    case hvc => exact fun ρ c' => rd_kv (zblk m c t) _ _ _ _ _ _ _ (by decide) (by decide) (by decide) (by decide) ρ c'
    case hz => exact fun c' => rd_q (zblk m c t) _ _ _ _ c' r (by first | exact h1 | exact h1.trans (Nat.zero_add _).symm)
    case hsl => rfl
    case hno =>
      first
      | exact no_pos _ _ (by decide)
      | exact no_first t _ (by decide) ht
    case hsk => exact ld_sink (iblk m c 0 t) _ _ _ _ rfl

set_option maxHeartbeats 4000000 in
theorem out_val_B (c : Dev nD) (t : Fin cfg0.N) (ht : ¬ t.val % 32 = 0) (r : Fin 512) (d : Fin 2048) : (outsAt0 m c t.val t.isLt).1 (ix2 r d)
    = outRow (iblk m c 1 t (ix2 r d)) (fun l => iblk m c 2 t (ix2 r l)) (fun l => iblk m c 6 t (ix2 l d))
      (fun l => ob (fun r j => zblk m c t (ix2 r j)) (fun r j => (outsAt0 m c (t.val - 1) (by omega)).2 (ix2 r j)) 0 (fun h => iblk m c 0 t (ix1 h)) l r) (fun l => iblk m c 7 t (ix2 l d)) := by
  rw [outsAt0_B m c t ht]
  dsimp only
  frame_out
  rw [ldr (ms0_1 t) (hs0_1 t) (iblk m c 1 t) _ (by decide), ldr (ms0_3 t) (hs0_3 t) (iblk m c 3 t) _ (by decide), ldr (ms0_4 t) (hs0_4 t) (iblk m c 4 t) _ (by decide), ldr (ms0_5 t) (hs0_5 t) (iblk m c 5 t) _ (by decide), (hs0_0 t).read_unread (iblk m c 0 t)]
  refine (pay1_apply _ _ _ _ _ r d).trans ?_
  congr 1
  funext l
  refine (congrFun (readCov_ld _ _ _) _).trans ?_
  refine (View.ld_unit_apply_of _ _ _ _ _ (ix2 l r) (by intro a; fin_cases a <;> simp)).trans ?_
  canon_tiles x h
  all_goals
    idx_vars x
    refine tile_val _ _ _ _ _ _ _ _ (by decide) _ _ _ _ _ _ _ _ x0 x1 l r (by first | exact h0 | exact h0.trans (Nat.zero_add _).symm)
      (by first | exact h1 | exact h1.trans (Nat.zero_add _).symm) (by decide) (by decide) (by decide) (by decide) ?hkp ?hkc ?hvp ?hvc ?hz ?hsl ?hno ?hsk
    case hkp =>
      first
      | have := show r.val = x1.val from h1
        exact fun ρ c' => rd_carried _ _ _ _ _ (by decide) ρ c'
      | exact fun ρ c' => rd_kv (zblk m c t) _ _ _ _ _ _ _ (by decide) (by decide) (by decide) (by decide) ρ c'
    case hvp =>
      first
      | have := show r.val = x1.val from h1
        exact fun ρ c' => rd_carried _ _ _ _ _ (by decide) ρ c'
      | exact fun ρ c' => rd_kv (zblk m c t) _ _ _ _ _ _ _ (by decide) (by decide) (by decide) (by decide) ρ c'
    case hkc => exact fun ρ c' => rd_kv (zblk m c t) _ _ _ _ _ _ _ (by decide) (by decide) (by decide) (by decide) ρ c'
    case hvc => exact fun ρ c' => rd_kv (zblk m c t) _ _ _ _ _ _ _ (by decide) (by decide) (by decide) (by decide) ρ c'
    case hz => exact fun c' => rd_q (zblk m c t) _ _ _ _ c' r (by first | exact h1 | exact h1.trans (Nat.zero_add _).symm)
    case hsl => rfl
    case hno =>
      first
      | exact no_pos _ _ (by decide)
      | exact no_later t _ ht
    case hsk => exact ld_sink (iblk m c 0 t) _ _ _ _ rfl

end Cert.AttnIdeal.RefValue
-- ==== Proof.AttnArr.lean ====
module

public import proofs.«01_k».proof.Proof.AttnOut
public import proofs.«01_k».proof.Proof.Gen.AttnIdeal.Value
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.AttnIdeal.RefValue

open Cert.AttnIdeal Cert.AttnIdeal.Gen Cert.AttnIdeal.Value Idealize.ShloMosaic Idealize.ShloMosaic.TcCoe Cert.Math

variable (m : (ℓ : Loc nD τ sig) → Buf (Elt Ideal) ℓ)

/-! ## A block's band is its sequence's -/

/-- The rows of a sequence's token `s` where the block of 512 rows `q` begins at token `512 q`: with the block's rows and
    the 128 rows before it (zero where the sequence begins), the block's heads' outputs are the sequence's. -/
theorem ob_eq (z : Fin 16384 → Fin 1536 → EReal) (Z : Fin 512 → Fin 1536 → EReal) (kv : Fin 128 → Fin 512 → EReal) (no : EReal) (sk : Fin 16 → EReal) (q : ℕ) (hq : q < 32)
    (hZ : ∀ r j, Z r j = z ⟨512 * q + r.val, by omega⟩ j)
    (hkv : ∀ (ρ : Fin 128) (c : Fin 512), kv ρ c = if h : 1 ≤ q then z ⟨512 * q + ρ.val - 128, by omega⟩ ⟨1024 + c.val, by omega⟩ else 0)
    (hno : no = if q = 0 then ⊥ else 0) (hz : ∀ s j, Real' (z s j)) (hsk : ∀ h, Real' (sk h)) (l : Fin 1024) (r : Fin 512) (s : Fin 16384) (hs : s.val = 512 * q + r.val) :
    ob Z kv no sk l r = attnO z sk s l := by
  have hb : ∀ (κ : Fin 256) (c : Fin 512), zb Z kv (r.val / 128 * 128 + κ.val) c = bandrow z ⟨s.val / 128, by omega⟩ κ ⟨1024 + c.val, by omega⟩ := by
    intro κ c
    unfold zb bandrow
    by_cases h : r.val / 128 * 128 + κ.val < 128
    · rw [dif_pos h, hkv]
      by_cases h1 : 1 ≤ q
      · rw [dif_pos h1, dif_pos (by dsimp only; omega)]
        congr 1
        exact Fin.ext (by dsimp only; omega)
      · rw [dif_neg h1, dif_neg (by dsimp only; omega)]
    · rw [dif_neg h, dif_pos (by omega), dif_pos (by dsimp only; omega), hZ]
      congr 1
      exact Fin.ext (by dsimp only; omega)
  have hbr : ∀ n κ c, Real' (bandrow z n κ c) := by
    intro n κ c
    unfold bandrow
    split_ifs
    · exact hz _ _
    · exact ⟨0, rfl⟩
  unfold attnO
  rw [← folded_eq (Math.slope (l.val / 64)) (slope_pos _) (s.val / 128 = 0) _ _ _ _ _ (fun κ d => hbr _ _ _) (fun d => hz _ _) (hsk _)]
  unfold ob
  simp only [hb]
  have e1 : r.val % 128 = s.val % 128 := by omega
  have e2 : (if r.val < 128 then no else 0) = if s.val / 128 = 0 then (⊥ : EReal) else 0 := by
    by_cases h : s.val / 128 = 0
    · rw [if_pos h, if_pos (by omega), hno, if_pos (by omega)]
    · rw [if_neg h, hno]
      split_ifs
      · omega
      · rfl
      · rfl
  have e3 : ∀ j, Z r j = z s j := fun j => (hZ r j).trans (congrArg (z · j) (Fin.ext hs.symm))
  have e4 : ∀ d : Fin 64, (⟨1024 + (0 + (l.val / 256 * 64 + d.val)), by omega⟩ : Fin 1536) = ⟨1024 + (l.val / 256 * 64 + d.val), by omega⟩ := fun d => Fin.ext (by dsimp only; omega)
  have e5 : (⟨1024 + (256 + (l.val / 256 * 64 + l.val % 64)), by omega⟩ : Fin 1536) = ⟨1280 + (l.val / 256 * 64 + l.val % 64), by omega⟩ := Fin.ext (by dsimp only; omega)
  simp only [e1, e2, e3, e4, e5]

/-! ## The rows carried to the next point -/

/-- The last 128 rows of the stored block, without its queries. -/
theorem last_rows (Z : Vec Ideal S512x1536 .f32) (inb₀) (inb : ∀ k : Fin S512x1536.rank, ![384, 1024] k + ![128, 512] k ≤ S512x1536.size k) (r : Fin 128) (d : Fin 512) :
    (View.whole cc0_scratch1).readCov (Val := Elt Ideal) [⟨Rect.unit (s := S512x1536) ![0, 0] ![512, 1536] inb₀, Z⟩] (Rect.unit (s := S512x1536) ![384, 1024] ![128, 512] inb).toLoadRect (ix2 r d)
      = Z (ix2 ⟨384 + r.val, by omega⟩ ⟨1024 + d.val, by omega⟩) := by
  refine (congrFun (readCov_ld _ _ _) _).trans ?_
  rw [canon_z]
  exact View.ld_unit_apply_of _ _ _ _ _ _ (by intro a; fin_cases a <;> simp)

theorem kv_A (c : Dev nD) (t : Fin cfg0.N) (ht : t.val % 32 = 0) (r : Fin 128) (d : Fin 512) : (outsAt0 m c t.val t.isLt).2 (ix2 r d)
    = zblk m c t (ix2 ⟨384 + r.val, by omega⟩ ⟨1024 + d.val, by omega⟩) := by
  rw [outsAt0_A m c t ht]
  dsimp only
  frame_out
  refine (shapeCast_apply _ _ _ (ix2 r d) rfl).trans ?_
  exact last_rows (zblk m c t) _ _ r d

theorem kv_B (c : Dev nD) (t : Fin cfg0.N) (ht : ¬ t.val % 32 = 0) (r : Fin 128) (d : Fin 512) : (outsAt0 m c t.val t.isLt).2 (ix2 r d)
    = zblk m c t (ix2 ⟨384 + r.val, by omega⟩ ⟨1024 + d.val, by omega⟩) := by
  rw [outsAt0_B m c t ht]
  dsimp only
  frame_out
  refine (shapeCast_apply _ _ _ (ix2 r d) rfl).trans ?_
  exact last_rows (zblk m c t) _ _ r d

theorem kv_apply (c : Dev nD) (t : Fin cfg0.N) (r : Fin 128) (d : Fin 512) : (outsAt0 m c t.val t.isLt).2 (ix2 r d)
    = zblk m c t (ix2 ⟨384 + r.val, by omega⟩ ⟨1024 + d.val, by omega⟩) :=
  if ht : t.val % 32 = 0 then kv_A m c t ht r d else kv_B m c t ht r d

/-! ## The launch's result -/

/-- The query, key and value rows of sequence `b`. -/
def zs (c : Dev nD) (b : Fin 2) (s : Fin 16384) : Fin 1536 → EReal :=
  zrow (fun k => m ((c.tc : Thread nD τ).loc main_arg1) (ix1 k)) (fun k j => m ((c.tc : Thread nD τ).loc main_arg2) (ix2 k ⟨3360 + j.val, by omega⟩))
    (fun j => m ((c.tc : Thread nD τ).loc main_arg3) (ix1 j)) (fun k => m ((c.tc : Thread nD τ).loc main_arg0) (ix3 b s k))

theorem zblk_apply (c : Dev nD) (t : Fin cfg0.N) (r : Fin 512) (j : Fin 1536) (b : Fin 2) (s : Fin 16384) (hs : 512 * t.val + r.val = 16384 * b.val + s.val) :
    zblk m c t (ix2 r j) = zs m c b s j := by
  unfold zblk zs
  rw [pay4_apply]
  have hx : ∀ k, iblk m c 1 t (ix2 r k) = m ((c.tc : Thread nD τ).loc main_arg0) (ix3 b s k) := fun k =>
    (ib1 m c t r k ⟨512 * t.val + r.val, by omega⟩ rfl).trans ((V0 m c _ k).trans (by congr 2 <;> exact Fin.ext (by dsimp only; omega)))
  have hg : ∀ k, iblk m c 3 t (ix2 0 k) = m ((c.tc : Thread nD τ).loc main_arg1) (ix1 k) := fun k => (ib3 m c t k).trans (V2 m c k)
  have hw : ∀ k j, iblk m c 4 t (ix2 k j) = m ((c.tc : Thread nD τ).loc main_arg2) (ix2 k ⟨3360 + j.val, by omega⟩) := fun k j => (ib4 m c t k j).trans (V4 m c k j)
  have hb : ∀ j, iblk m c 5 t (ix2 0 j) = m ((c.tc : Thread nD τ).loc main_arg3) (ix1 j) := fun j => (ib5 m c t j).trans (V6 m c j)
  rw [show (fun k => iblk m c 1 t (ix2 r k)) = _ from funext hx, show (fun k => iblk m c 3 t (ix2 0 k)) = _ from funext hg,
    show (fun k j => iblk m c 4 t (ix2 k j)) = _ from funext fun k => funext (hw k), show (fun j => iblk m c 5 t (ix2 0 j)) = _ from funext hb]

/-- The block a point writes: the attention layer's rows. -/
theorem out_row (c : Dev nD) (t : Fin cfg0.N) (r : Fin 512) (d : Fin 2048) (i : Fin 32768) (hi : i.val = 512 * t.val + r.val)
    (hz : ∀ s j, Real' (zs m c ⟨i.val / 16384, by omega⟩ s j)) (hsk : ∀ h, Real' (m ((c.tc : Thread nD τ).loc main_arg5) (ix1 h))) :
    (outsAt0 m c t.val t.isLt).1 (ix2 r d) = outRow (m ((c.tc : Thread nD τ).loc main_arg0) (ix3 ⟨i.val / 16384, by omega⟩ ⟨i.val % 16384, by omega⟩ d))
      (fun l => m ((c.tc : Thread nD τ).loc main_arg4) (ix3 ⟨i.val / 16384, by omega⟩ ⟨i.val % 16384, by omega⟩ l))
      (fun l => m ((c.tc : Thread nD τ).loc main_arg6) (ix2 ⟨l.val, by omega⟩ d))
      (attnO (zs m c ⟨i.val / 16384, by omega⟩) (fun h => m ((c.tc : Thread nD τ).loc main_arg5) (ix1 h)) ⟨i.val % 16384, by omega⟩)
      (fun l => m ((c.tc : Thread nD τ).loc main_arg6) (ix2 ⟨1024 + l.val, by omega⟩ d)) := by
  have hx : iblk m c 1 t (ix2 r d) = m ((c.tc : Thread nD τ).loc main_arg0) (ix3 ⟨i.val / 16384, by omega⟩ ⟨i.val % 16384, by omega⟩ d) :=
    (ib1 m c t r d i hi).trans (V0 m c i d)
  have ha : ∀ l, iblk m c 2 t (ix2 r l) = m ((c.tc : Thread nD τ).loc main_arg4) (ix3 ⟨i.val / 16384, by omega⟩ ⟨i.val % 16384, by omega⟩ l) := fun l =>
    (ib2 m c t r l i hi).trans (V1 m c i l)
  have hwa : ∀ l, iblk m c 6 t (ix2 l d) = m ((c.tc : Thread nD τ).loc main_arg6) (ix2 ⟨l.val, by omega⟩ d) := fun l => (ib6 m c t l d).trans (V7 m c l d)
  have hwb : ∀ l, iblk m c 7 t (ix2 l d) = m ((c.tc : Thread nD τ).loc main_arg6) (ix2 ⟨1024 + l.val, by omega⟩ d) := fun l => (ib7 m c t l d).trans (V8 m c l d)
  have hs : ∀ h, iblk m c 0 t (ix1 h) = m ((c.tc : Thread nD τ).loc main_arg5) (ix1 h) := fun h => (ib0 m c t h).trans (V5 m c h)
  have hZ : ∀ (r' : Fin 512) j, zblk m c t (ix2 r' j) = zs m c ⟨i.val / 16384, by omega⟩ ⟨512 * (t.val % 32) + r'.val, by omega⟩ j := fun r' j =>
    zblk_apply m c t r' j _ _ (by dsimp only; omega)
  by_cases ht : t.val % 32 = 0
  · rw [out_val_A m c t ht r d, hx, show (fun l => iblk m c 2 t (ix2 r l)) = _ from funext ha, show (fun l => iblk m c 6 t (ix2 l d)) = _ from funext hwa,
      show (fun l => iblk m c 7 t (ix2 l d)) = _ from funext hwb, show (fun h => iblk m c 0 t (ix1 h)) = _ from funext hs]
    congr 1
    funext l
    exact ob_eq _ _ _ _ _ (t.val % 32) (by omega) hZ (fun ρ c' => (dif_neg (by omega)).symm) (if_pos ht).symm hz hsk l r _ (by dsimp only; omega)
  · rw [out_val_B m c t ht r d, hx, show (fun l => iblk m c 2 t (ix2 r l)) = _ from funext ha, show (fun l => iblk m c 6 t (ix2 l d)) = _ from funext hwa,
      show (fun l => iblk m c 7 t (ix2 l d)) = _ from funext hwb, show (fun h => iblk m c 0 t (ix1 h)) = _ from funext hs]
    congr 1
    funext l
    refine ob_eq _ _ _ _ _ (t.val % 32) (by omega) hZ (fun ρ c' => ?_) (if_neg ht).symm hz hsk l r _ (by dsimp only; omega)
    rw [dif_pos (by omega)]
    refine (kv_apply m c ⟨t.val - 1, by omega⟩ ρ c').trans ?_
    exact zblk_apply m c _ _ _ _ _ (by dsimp only; omega)

/-- The launch's result at an index. -/
theorem arr_apply (c : Dev nD) (i : Fin 32768) (d : Fin 2048)
    (hz : ∀ s j, Real' (zs m c ⟨i.val / 16384, by omega⟩ s j)) (hsk : ∀ h, Real' (m ((c.tc : Thread nD τ).loc main_arg5) (ix1 h))) :
    (dats m 0 c).arrAt 8 cfg0.N (ix2 i d) = outRow (m ((c.tc : Thread nD τ).loc main_arg0) (ix3 ⟨i.val / 16384, by omega⟩ ⟨i.val % 16384, by omega⟩ d))
      (fun l => m ((c.tc : Thread nD τ).loc main_arg4) (ix3 ⟨i.val / 16384, by omega⟩ ⟨i.val % 16384, by omega⟩ l))
      (fun l => m ((c.tc : Thread nD τ).loc main_arg6) (ix2 ⟨l.val, by omega⟩ d))
      (attnO (zs m c ⟨i.val / 16384, by omega⟩) (fun h => m ((c.tc : Thread nD τ).loc main_arg5) (ix1 h)) ⟨i.val % 16384, by omega⟩)
      (fun l => m ((c.tc : Thread nD τ).loc main_arg6) (ix2 ⟨1024 + l.val, by omega⟩ d)) := by
  have hlt : i.val / 512 < cfg0.N := by
    change _ < grid0.N
    rw [N_0]; omega
  obtain ⟨t, ht⟩ : ∃ t : Fin cfg0.N, t.val = i.val / 512 := ⟨⟨_, hlt⟩, rfl⟩
  have hrd : ∀ A : Vec Ideal S32768x2048 .f32, ((cfg0.win 8).blk t).view.read (Elt Ideal) A (ix2 (⟨i.val % 512, by omega⟩ : Fin 512) d) = A (ix2 i d) := fun A => by
    blk_ext [idx t]
  refine (hrd _).symm.trans ((congrFun (blocks8 m c t (flush0_8 t)) _).trans ?_)
  rw [flushed8]
  exact out_row m c t ⟨i.val % 512, by omega⟩ d i (by dsimp only; omega) hz hsk

end Cert.AttnIdeal.RefValue
-- ==== Proof.AttnClaim.lean ====
module

public import proofs.«01_k».proof.Defs
public import proofs.«01_k».proof.Proof.AttnRef
public import proofs.«01_k».proof.Proof.AttnArr
public import proofs.«01_k».proof.Proof.Gen.Pre_finite_inputs

@[expose] public section

noncomputable section

namespace Cert.Proof.AttnClaims

open Idealize.ShloMosaic Idealize.SL.Sem Cert.Math

/-- An entry whose absolute value compares less than infinity is real. -/
theorem real_of_less (x : EReal) (h : (FloatOps.cmpf (F := Ideal) (φ := .f32) CmpFPredicate.olt (max x (-x)) (Ideal.ofBits .f32 0x7F800000#32)) = 1#1) : Real' x := by
  refine Real'.of_abs ?_
  by_contra hx
  have e : Ideal.ofBits .f32 0x7F800000#32 = ⊤ := by simp [Ideal.ofBits, Ideal.ieee]
  rw [e] at h
  have h' : BitVec.ofBool (decide (max x (-x) < ⊤)) = 1#1 := h
  rw [decide_eq_false hx] at h'
  exact absurd h' (by decide)

/-- The precondition: every entry of the tokens, the scale, the table, the bias and the sinks is real. -/
theorem real_inputs (m : (ℓ : Loc Cert.AttnIdeal.nD Cert.AttnIdeal.τ Cert.AttnIdeal.sig) → Buf (Elt Ideal) ℓ)
    (h : Cert.Pre_AttnIdeal_finite_inputs (hPre_finite_inputs := Cert.Pre_finite_inputs.Gen.facts) m) (c : Dev Cert.AttnIdeal.nD) :
    (∀ i, Real' (m ((c.tc : Thread Cert.AttnIdeal.nD Cert.AttnIdeal.τ).loc Cert.AttnIdeal.main_arg0) i)) ∧ (∀ i, Real' (m ((c.tc : Thread Cert.AttnIdeal.nD Cert.AttnIdeal.τ).loc Cert.AttnIdeal.main_arg1) i))
    ∧ (∀ i, Real' (m ((c.tc : Thread Cert.AttnIdeal.nD Cert.AttnIdeal.τ).loc Cert.AttnIdeal.main_arg2) i)) ∧ (∀ i, Real' (m ((c.tc : Thread Cert.AttnIdeal.nD Cert.AttnIdeal.τ).loc Cert.AttnIdeal.main_arg3) i))
    ∧ (∀ i, Real' (m ((c.tc : Thread Cert.AttnIdeal.nD Cert.AttnIdeal.τ).loc Cert.AttnIdeal.main_arg5) i)) := by
  obtain ⟨h0, h1, h2, h3, h5⟩ := h c
  exact ⟨fun i => real_of_less _ (congrFun h0 i), fun i => real_of_less _ (congrFun h1 i), fun i => real_of_less _ (congrFun h2 i),
    fun i => real_of_less _ (congrFun h3 i), fun i => real_of_less _ (congrFun h5 i)⟩

/-- Kernel and reference end with the same array: the attention layer's rows. -/
theorem result_eq (m : (ℓ : Loc Cert.AttnIdeal.nD Cert.AttnIdeal.τ Cert.AttnIdeal.sig) → Buf (Elt Ideal) ℓ)
    (m' : (ℓ : Loc Cert.RefAttnIdeal.nD Cert.RefAttnIdeal.τ Cert.RefAttnIdeal.sig) → Buf (Elt Ideal) ℓ) (c : Dev Cert.AttnIdeal.nD)
    (hp : Cert.Pre_AttnIdeal_finite_inputs (hPre_finite_inputs := Cert.Pre_finite_inputs.Gen.facts) m)
    (h0 : m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0))
    (h1 : m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1))
    (h2 : m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2))
    (h3 : m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3))
    (h4 : m' ((c.tc : Thread Cert.RefAttnIdeal.nD Cert.RefAttnIdeal.τ).loc Cert.RefAttnIdeal.main_arg4) = m ((c.tc : Thread Cert.AttnIdeal.nD Cert.AttnIdeal.τ).loc Cert.AttnIdeal.main_arg4))
    (h5 : m' ((c.tc : Thread Cert.RefAttnIdeal.nD Cert.RefAttnIdeal.τ).loc Cert.RefAttnIdeal.main_arg5) = m ((c.tc : Thread Cert.AttnIdeal.nD Cert.AttnIdeal.τ).loc Cert.AttnIdeal.main_arg5))
    (h6 : m' ((c.tc : Thread Cert.RefAttnIdeal.nD Cert.RefAttnIdeal.τ).loc Cert.RefAttnIdeal.main_arg6) = m ((c.tc : Thread Cert.AttnIdeal.nD Cert.AttnIdeal.τ).loc Cert.AttnIdeal.main_arg6)) :
    Cert.RefAttnIdeal.Value.res_out0 m' c = (Cert.AttnIdeal.Gen.dats m 0 c).arrAt 8 Cert.AttnIdeal.cfg0.N := by
  obtain ⟨p0, p1, p2, p3, p5⟩ := real_inputs m hp c
  funext y
  obtain ⟨i, d, rfl⟩ : ∃ (i : Fin 32768) (d : Fin 2048), y = ix2 i d := ⟨y 0, y 1, eq_ix2 y⟩
  refine (Cert.RefAttnIdeal.RefValue.out_apply m' c i d).trans ((Cert.AttnIdeal.RefValue.arr_apply m c i d
    (fun s => zrow_real _ _ _ _ (fun _ => p1 _) (fun _ _ => p2 _) (fun _ => p3 _) fun _ => p0 _) fun _ => p5 _).trans ?_).symm
  rw [h0, h1, h2, h3, h4, h5, h6]
  rfl

theorem frame_ref : Cert.quiescent_RefAttnIdeal := fun m ρ _ =>
  (θ_run Cert.RefAttnIdeal.defs _ _).mono (fun r h => ⟨fun c => (h c).2, Idealize.ShloMosaic.sem_eq_zero_of_no_sems (by decide) r.2⟩)
    (Cert.RefAttnIdeal.Value.run (F := Ideal) m ρ)

/-- Each named constant stands for the number the table gives its name. -/
theorem preserves : Cert.preserves_Attn_AttnIdeal :=
  ⟨IdealRules.named_const.statement Cert.AttnIdeal.κ "mask" .f32 0xF49DC5AE#32 ⊥ rfl,
   IdealRules.named_const.statement Cert.AttnIdeal.κ "slope1" .f32 0x3F3504F3#32 (((Real.sqrt 2)⁻¹ : ℝ) : EReal) rfl,
   IdealRules.named_const.statement Cert.AttnIdeal.κ "slope3" .f32 0x3EB504F3#32 (((Real.sqrt 8)⁻¹ : ℝ) : EReal) rfl,
   IdealRules.named_const.statement Cert.AttnIdeal.κ "slope5" .f32 0x3E3504F3#32 (((Real.sqrt 32)⁻¹ : ℝ) : EReal) rfl,
   IdealRules.named_const.statement Cert.AttnIdeal.κ "slope7" .f32 0x3DB504F3#32 (((Real.sqrt 128)⁻¹ : ℝ) : EReal) rfl,
   IdealRules.named_const.statement Cert.AttnIdeal.κ "slope9" .f32 0x3D3504F3#32 (((Real.sqrt 512)⁻¹ : ℝ) : EReal) rfl,
   IdealRules.named_const.statement Cert.AttnIdeal.κ "slope11" .f32 0x3CB504F3#32 (((Real.sqrt 2048)⁻¹ : ℝ) : EReal) rfl,
   IdealRules.named_const.statement Cert.AttnIdeal.κ "slope13" .f32 0x3C3504F3#32 (((Real.sqrt 8192)⁻¹ : ℝ) : EReal) rfl,
   IdealRules.named_const.statement Cert.AttnIdeal.κ "slope15" .f32 0x3BB504F3#32 (((Real.sqrt 32768)⁻¹ : ℝ) : EReal) rfl⟩

/-- The attention call and its reference end with equal results over the extended reals. -/
theorem algebraic : Cert.algebraic_AttnIdeal_RefAttnIdeal_pre_finite_inputs (hPre_finite_inputs := Cert.Pre_finite_inputs.Gen.facts) := by
  intro m ρ m' ρ' hp hagree
  refine ⟨fun c => (Cert.AttnIdeal.Gen.dats m 0 c).arrAt 8 Cert.AttnIdeal.cfg0.N, Cert.AttnIdeal.Value.run_blocks (F := Ideal) m ρ, ?_⟩
  refine (θ_run Cert.RefAttnIdeal.defs _ _).mono (fun _ h c => ?_) (Cert.RefAttnIdeal.Value.run (F := Ideal) m' ρ')
  obtain ⟨h0, h1, h2, h3, h4, h5, h6⟩ := hagree c
  exact ⟨(h c).1.trans (result_eq m m' c hp h0 h1 h2 h3 h4 h5 h6), (h c).2⟩

end Cert.Proof.AttnClaims
-- ==== Proof.RwkvRef.lean ====
module

public import proofs.«01_k».proof.Proof.GmlpRef
public import proofs.«01_k».proof.Proof.Gen.RefRwkvIdeal.Run
public import Idealize.ShloMosaic.Lib.Pointwise
public import Idealize.ShloMosaic.Lib.KernelVsHost

@[expose] public section

set_option maxRecDepth 16384

noncomputable section

namespace Cert.Math

/-- A token's number mixed with the number of the token before it (`p`). -/
def mixed (z p mu : EReal) : EReal := z + (p - z) * mu

end Cert.Math

namespace Cert.RefRwkvIdeal.RefValue

open Cert.RefRwkvIdeal Cert.RefRwkvIdeal.Gen Idealize.ShloMosaic Idealize.ShloMosaic.TcCoe Cert.Math
open Cert.RefGmlpIdeal.RefValue (hrms hrms_apply)

/-- The projections of every token. -/
def hz (x : FVec Ideal S2x16384x2048 .f32) (g : FVec Ideal S2048 .f32) (w : FVec Ideal S2048x4896 .f32) : FVec Ideal S2x16384x3360 .f32 :=
  extractStridedSlice S2x16384x3360 ![0, 0, 0] (Host.dotGeneral dot_S2x16384x2048_S2048x4896_S2x16384x4896_2_0_01_1_n_n none (hrms x g) w) slices_S2x16384x4896_S2x16384x3360_0_0_0

theorem hz_apply (x : FVec Ideal S2x16384x2048 .f32) (g : FVec Ideal S2048 .f32) (w : FVec Ideal S2048x4896 .f32) (b : Fin 2) (s : Fin 16384) (j : Fin 3360) :
    hz x g w (ix3 b s j) = rowMul (rms (Ideal.ofBits .f32 0x45000000#32) (fun k => x (ix3 b s k)) (fun k => g (ix1 k))) (fun k (j : Fin 3360) => w (ix2 k ⟨j.val, by omega⟩)) j := by
  unfold rowMul
  simp only [← hrms_apply]
  pointwise [hz, dot_S2x16384x2048_S2048x4896_S2x16384x4896_2_0_01_1_n_n]

/-- Every token's row moved to the next token, the first token's being zero. -/
def hprev (a : FVec Ideal S2x16384x3360 .f32) : FVec Ideal S2x16384x3360 .f32 :=
  extractStridedSlice S2x16384x3360 ![0, 0, 0] (pad S2x16385x3360 ![0, 1, 0] ![0, 0, 0] ![0, 0, 0] a (sitofp .f32 (constantI S_ 32 0#32)) pads_S2x16384x3360_S2x16385x3360_000_100_000 h_S_) slices_S2x16385x3360_S2x16384x3360_0_0_0

theorem hprev_apply (a : FVec Ideal S2x16384x3360 .f32) (b : Fin 2) (s : Fin 16384) (j : Fin 3360) :
    hprev a (ix3 b s j) = if s.val = 0 then 0 else a (ix3 b ⟨s.val - 1, by omega⟩ j) := by
  unfold hprev
  refine (extractStridedSlice_apply _ _ _ _ (ix3 b ⟨s.val, by omega⟩ j) (by intro a; fin_cases a <;> simp)).trans ?_
  split_ifs with hn
  · refine (pad_apply_of_not_inside _ _ _ _ _ _ _ _ 1 fun hh => ?_).trans ?_
    · have := hh.1
      simp at this
      omega
    · show ((((0#32 : BitVec 32).toInt : ℝ)) : EReal) = 0
      simp
  · exact pad_apply_of_inside _ _ _ _ _ _ _ _ (ix3 b ⟨s.val - 1, by omega⟩ j) (by intro a; fin_cases a <;> simp <;> omega)

/-- The values: the third thousand-and-twenty-four of the mixed projections. -/
def hval (z : FVec Ideal S2x16384x3360 .f32) (mu : FVec Ideal S3360 .f32) : FVec Ideal S2x16384x1024 .f32 :=
  extractStridedSlice S2x16384x1024 ![0, 0, 2048] (addf z (mulf (subf (hprev z) z) (broadcastInDim S2x16384x3360 ![0, 1, 2] bcast_S1x1x3360_S2x16384x3360_0_1_2 (broadcastInDim S1x1x3360 ![2] bcast_S3360_S1x1x3360_2 mu)))) slices_S2x16384x3360_S2x16384x1024_0_0_2048

theorem hval_apply (z : FVec Ideal S2x16384x3360 .f32) (mu : FVec Ideal S3360 .f32) (b : Fin 2) (s : Fin 16384) (d : Fin 1024) :
    hval z mu (ix3 b s d) = mixed (z (ix3 b s ⟨2048 + d.val, by omega⟩)) (hprev z (ix3 b s ⟨2048 + d.val, by omega⟩)) (mu (ix1 ⟨2048 + d.val, by omega⟩)) := by
  unfold mixed
  generalize hp : hprev z = p
  unfold hval
  rw [hp]
  pointwise

/-- The reference's result, in the pieces above. -/
def res (m : (ℓ : Loc nD τ sig) → Buf (Elt Ideal) ℓ) (c : Dev nD) : FVec Ideal S32768x1024 .f32 :=
  shapeCast S32768x1024 (hval (hz (m ((c.tc : Thread nD τ).loc main_arg0)) (m ((c.tc : Thread nD τ).loc main_arg1)) (m ((c.tc : Thread nD τ).loc main_arg2))) (m ((c.tc : Thread nD τ).loc main_arg3))) shapeCasts_S2x16384x1024_S32768x1024

/-- The reference's projections of token `s` of sequence `b`. -/
def zs (m : (ℓ : Loc nD τ sig) → Buf (Elt Ideal) ℓ) (c : Dev nD) (b : Fin 2) (s : Fin 16384) : Fin 3360 → EReal :=
  rowMul (rms (Ideal.ofBits .f32 0x45000000#32) (fun k => m ((c.tc : Thread nD τ).loc main_arg0) (ix3 b s k)) (fun k => m ((c.tc : Thread nD τ).loc main_arg1) (ix1 k)))
    (fun k (j : Fin 3360) => m ((c.tc : Thread nD τ).loc main_arg2) (ix2 k ⟨j.val, by omega⟩))

theorem out_apply (m : (ℓ : Loc nD τ sig) → Buf (Elt Ideal) ℓ) (c : Dev nD) (i : Fin 32768) (d : Fin 1024) :
    res m c (ix2 i d) = mixed (zs m c ⟨i.val / 16384, by omega⟩ ⟨i.val % 16384, by omega⟩ ⟨2048 + d.val, by omega⟩)
      (if i.val % 16384 = 0 then 0 else zs m c ⟨i.val / 16384, by omega⟩ ⟨i.val % 16384 - 1, by omega⟩ ⟨2048 + d.val, by omega⟩)
      (m ((c.tc : Thread nD τ).loc main_arg3) (ix1 ⟨2048 + d.val, by omega⟩)) := by
  unfold res
  refine (shapeCast_apply _ _ _ (ix3 ⟨i.val / 16384, by omega⟩ ⟨i.val % 16384, by omega⟩ d) ?_).trans ?_
  · rw [Shape.rowMajor_val_three, Shape.rowMajor_val_two]
    show (i.val / 16384 * 16384 + i.val % 16384) * 1024 + d.val = i.val * 1024 + d.val
    omega
  · rw [hval_apply, hprev_apply, hz_apply, hz_apply]
    rfl

end Cert.RefRwkvIdeal.RefValue

end
-- ==== Proof.RwkvTile.lean ====
module

public import proofs.«01_k».proof.Proof.RwkvRef
public import proofs.«01_k».proof.Proof.Gen.RwkvIdeal.Skeleton
public import Idealize.ShloMosaic.Lib.Pointwise
public import Idealize.ShloMosaic.Lib.KernelVsHost

@[expose] public section

set_option maxRecDepth 200000

noncomputable section

namespace Cert.RwkvIdeal.RefValue

open Cert.RwkvIdeal Cert.RwkvIdeal.Gen Idealize.ShloMosaic Idealize.ShloMosaic.TcCoe Cert.Math

/-- The normalised rows. -/
theorem pay4_apply (x : Vec Ideal S256x2048 .f32) (g : Vec Ideal S1x2048 .f32) (r : Fin 256) (k : Fin 2048) :
    k0_pay4 x g (ix2 r k) = rms (Ideal.ofBits .f32 0x45000000#32) (fun k => x (ix2 r k)) (fun k => g (ix2 0 k)) k := by
  unfold rms
  pointwise [k0_pay4]

/-- A column block of projections, from normalised rows. -/
theorem pay22_apply (h : FVec Ideal S256x2048 .bf16) (w : Vec Ideal S2048x256 .bf16) (r : Fin 256) (j : Fin 256) :
    k0_pay22 h w (ix2 r j) = rowMul (fun k => h (ix2 r k)) (fun k j => w (ix2 k j)) j := by
  unfold rowMul
  pointwise [k0_pay22, dot_S256x2048_S2048x256_S256x256_1_0_0_1_n_n]

/-- The last row's projections, which the next point takes. -/
theorem pay23_apply (h : FVec Ideal S256x2048 .bf16) (w : Vec Ideal S2048x256 .bf16) (j : Fin 256) :
    k0_pay23 h w (ix2 7 j) = rowMul (fun k => h (ix2 255 k)) (fun k j => w (ix2 k j)) j := by
  rw [← pay22_apply]
  unfold k0_pay23
  generalize k0_pay22 h w = z
  pointwise

/-- The rows' numbers. -/
def rows : IVec S256x1 32 := iota .tc S256x1 32 [0] iota_S256x1_d0_w32

/-- A block of projections moved down by a row, the first row being `l`. -/
def down (z : FVec Ideal S256x256 .f32) (l : Vec Ideal S1x256 .f32) : FVec Ideal S256x256 .f32 :=
  select (broadcastTo S256x256 (shapeCast S256x1 (cmpi .eq rows (broadcast S256x1 0#32)) shapeCasts_S256x1_S256x1) broadcasts_S256x1_S256x256)
    (broadcastTo S256x256 (shapeCast S1x256 l shapeCasts_S1x256_S1x256) broadcasts_S1x256_S256x256) (dynamicRotate 0 1#32 none z rotates_S256x256_d0)

theorem first_row (r : Fin 256) : (cmpi .eq rows (broadcast S256x1 0#32) (ix2 r 0) : BitVec 1) = if r.val = 0 then 1#1 else 0#1 := by
  have h : ∀ r : Fin 256, IntOp.cmpi .eq (BitVec.ofNat 32 r.val) 0#32 = if r.val = 0 then 1#1 else 0#1 := by decide +kernel
  rw [← h]
  pointwise [rows]

theorem down_apply (z : FVec Ideal S256x256 .f32) (l : Vec Ideal S1x256 .f32) (r : Fin 256) (j : Fin 256) :
    down z l (ix2 r j) = if r.val = 0 then l (ix2 0 j) else z (ix2 ⟨r.val - 1, by omega⟩ j) := by
  have hr : r.val ≠ 0 → dynamicRotate 0 1#32 none z rotates_S256x256_d0 (ix2 r j) = z (ix2 ⟨r.val - 1, by omega⟩ j) := fun h =>
    dynamicRotate_apply 0 1#32 z _ _ _ (by
      intro b
      fin_cases b
      · show r.val - 1 = (r.val + 256 - 1) % 256
        omega
      · simp)
  have h1 : broadcastTo S256x256 (shapeCast S256x1 (cmpi .eq rows (broadcast S256x1 0#32)) shapeCasts_S256x1_S256x1) broadcasts_S256x1_S256x256 (ix2 r j)
      = (if r.val = 0 then 1#1 else 0#1 : BitVec 1) := by
    rw [← first_row r]
    generalize cmpi .eq rows (broadcast S256x1 0#32) = a
    pointwise
  have h2 : broadcastTo S256x256 (shapeCast S1x256 l shapeCasts_S1x256_S1x256) broadcasts_S1x256_S256x256 (ix2 r j) = l (ix2 0 j) := by pointwise
  show Scalar.select _ _ _ = _
  rw [h1, h2]
  split_ifs with hz
  · rfl
  · exact hr hz

/-- A block of mixed projections. -/
theorem pay24_apply (h : FVec Ideal S256x2048 .bf16) (mu : Vec Ideal S1x256 .f32) (w : Vec Ideal S2048x256 .bf16) (l : Vec Ideal S1x256 .f32) (r : Fin 256) (j : Fin 256) :
    k0_pay24 rows h mu w l (ix2 r j) = mixed (rowMul (fun k => h (ix2 r k)) (fun k j => w (ix2 k j)) j)
      (if r.val = 0 then l (ix2 0 j) else rowMul (fun k => h (ix2 ⟨r.val - 1, by omega⟩ k)) (fun k j => w (ix2 k j)) j) (mu (ix2 0 j)) := by
  rw [← pay22_apply, ← pay22_apply, ← down_apply]
  have e : k0_pay24 rows h mu w l = addf (k0_pay22 h w) (mulf (subf (down (k0_pay22 h w) l) (k0_pay22 h w))
      (broadcastTo S256x256 (shapeCast S1x256 mu shapeCasts_S1x256_S1x256) broadcasts_S1x256_S256x256)) := rfl
  rw [e]
  generalize down (k0_pay22 h w) l = d
  generalize k0_pay22 h w = z
  unfold mixed
  pointwise

/-- The other column blocks are the same functions. -/
theorem v1_eq (h : FVec Ideal S256x2048 .bf16) (mu : Vec Ideal S1x256 .f32) (w : Vec Ideal S2048x256 .bf16) (l : Vec Ideal S1x256 .f32) :
    k0_pay61 (k0_pay57 mu) (k0_pay58 h w) (k0_pay59 rows) l 1#32 = k0_pay24 rows h mu w l := rfl
theorem v2_eq (h : FVec Ideal S256x2048 .bf16) (mu : Vec Ideal S1x256 .f32) (w : Vec Ideal S2048x256 .bf16) (l : Vec Ideal S1x256 .f32) :
    k0_pay93 rows h mu w l = k0_pay24 rows h mu w l := rfl
theorem v3_eq (h : FVec Ideal S256x2048 .bf16) (mu : Vec Ideal S1x256 .f32) (w : Vec Ideal S2048x256 .bf16) (l : Vec Ideal S1x256 .f32) :
    k0_pay127 (k0_pay123 mu) (k0_pay124 h w) (k0_pay126 rows h w l) = k0_pay24 rows h mu w l := rfl
theorem l1_eq (h : FVec Ideal S256x2048 .bf16) (w : Vec Ideal S2048x256 .bf16) : k0_pay60 (k0_pay58 h w) = k0_pay23 h w := rfl
theorem l2_eq (h : FVec Ideal S256x2048 .bf16) (w : Vec Ideal S2048x256 .bf16) : k0_pay92 h w = k0_pay23 h w := rfl
theorem l3_eq (h : FVec Ideal S256x2048 .bf16) (w : Vec Ideal S2048x256 .bf16) : k0_pay125 h w = k0_pay23 h w := rfl

end Cert.RwkvIdeal.RefValue

end
-- ==== Proof.RwkvBlk.lean ====
module

public import proofs.«01_k».proof.Proof.RwkvTile
public import proofs.«01_k».proof.Proof.Gen.RwkvIdeal.Frame.Runs
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.RwkvIdeal.RefValue

open Cert.RwkvIdeal Cert.RwkvIdeal.Gen Idealize.ShloMosaic Idealize.ShloMosaic.TcCoe Cert.Math

variable (m : (ℓ : Loc nD τ sig) → Buf (Elt Ideal) ℓ)

theorem V0 (c : Dev nD) (i : Fin 32768) (k : Fin 2048) : V m c main_v0 (ix2 i k)
    = m ((c.tc : Thread nD τ).loc main_arg0) (ix3 ⟨i.val / 16384, by omega⟩ ⟨i.val % 16384, by omega⟩ k) := by
  unfold V
  after_reads_at
theorem V1 (c : Dev nD) (k : Fin 2048) : V m c main_v1 (ix2 0 k) = m ((c.tc : Thread nD τ).loc main_arg1) (ix1 k) := by
  unfold V
  after_reads_at
theorem V18 (c : Dev nD) (d : Fin 1024) : V m c main_v18 (ix2 0 d) = m ((c.tc : Thread nD τ).loc main_arg3) (ix1 ⟨2048 + d.val, by omega⟩) := by
  unfold V
  after_reads_at

theorem V4 (c : Dev nD) (k : Fin 2048) (j : Fin 3456) (hj : j.val < 3360) : V m c main_v4 (ix2 k j) = m ((c.tc : Thread nD τ).loc main_arg2) (ix2 k ⟨j.val, by omega⟩) := by
  unfold V
  after_reads_at
  exact dif_pos hj

/-- The windows' index maps over the grid, decided. -/
theorem idx : ∀ t : Fin cfg0.N, win0_0.index t = ![t.val, 0] ∧ win0_1.index t = ![0, 0] ∧ win0_2.index t = ![0, 0] ∧ win0_5.index t = ![0, 0]
    ∧ win0_18.index t = ![t.val, 0] :=
  (by decide +kernel : ∀ t : Fin grid0.N, _)

theorem ib0 (c : Dev nD) (t : Fin cfg0.N) (r : Fin 256) (k : Fin 2048) (i : Fin 32768) (hi : i.val = 256 * t.val + r.val) :
    iblk m c 0 t (ix2 r k) = V m c main_v0 (ix2 i k) := by
  blk_ext [iblk, idx t]
theorem ib1 (c : Dev nD) (t : Fin cfg0.N) (k : Fin 2048) : iblk m c 1 t (ix2 0 k) = V m c main_v1 (ix2 0 k) := by
  blk_ext [iblk, idx t]
theorem ib2 (c : Dev nD) (t : Fin cfg0.N) (k : Fin 2048) (j : Fin 3456) : iblk m c 2 t (ix2 k j) = V m c main_v4 (ix2 k j) := by
  blk_ext [iblk, idx t]
theorem ib5 (c : Dev nD) (t : Fin cfg0.N) (d : Fin 1024) : iblk m c 5 t (ix2 0 d) = V m c main_v18 (ix2 0 d) := by
  blk_ext [iblk, idx t]

/-- The projections of token `s` of sequence `b`. -/
def zs (c : Dev nD) (b : Fin 2) (s : Fin 16384) : Fin 3360 → EReal :=
  rowMul (rms (Ideal.ofBits .f32 0x45000000#32) (fun k => m ((c.tc : Thread nD τ).loc main_arg0) (ix3 b s k)) (fun k => m ((c.tc : Thread nD τ).loc main_arg1) (ix1 k)))
    (fun k (j : Fin 3360) => m ((c.tc : Thread nD τ).loc main_arg2) (ix2 k ⟨j.val, by omega⟩))

/-- The normalised rows of point `t`. -/
def hblk (c : Dev nD) (t : Fin cfg0.N) : FVec Ideal S256x2048 .bf16 := k0_pay4 (iblk m c 0 t) (iblk m c 1 t)

/-- A point's projections of the values at a column: the token's. -/
theorem zblk_apply (c : Dev nD) (t : Fin cfg0.N) (r : Fin 256) (q : ℕ) (hq : q ≤ 3) (d : Fin 256) (inb) (b : Fin 2) (s : Fin 16384)
    (hs : 256 * t.val + r.val = 16384 * b.val + s.val) :
    rowMul (fun k => hblk m c t (ix2 r k)) (fun k (j : Fin 256) => View.ld (iblk m c 2 t : Vec Ideal S2048x3456 .bf16) (Rect.unit (s := S2048x3456) ![0, 2048 + 256 * q] ![2048, 256] inb) (ix2 k j)) d
      = zs m c b s ⟨2048 + 256 * q + d.val, by omega⟩ := by
  unfold zs rowMul hblk
  refine Finset.sum_congr rfl fun k _ => ?_
  dsimp only
  rw [pay4_apply]
  have hx : ∀ k, iblk m c 0 t (ix2 r k) = m ((c.tc : Thread nD τ).loc main_arg0) (ix3 b s k) := fun k =>
    (ib0 m c t r k ⟨256 * t.val + r.val, by omega⟩ rfl).trans ((V0 m c _ k).trans (by congr 2 <;> exact Fin.ext (by dsimp only; omega)))
  have hg : ∀ k, iblk m c 1 t (ix2 0 k) = m ((c.tc : Thread nD τ).loc main_arg1) (ix1 k) := fun k => (ib1 m c t k).trans (V1 m c k)
  have hw : View.ld (iblk m c 2 t : Vec Ideal S2048x3456 .bf16) (Rect.unit (s := S2048x3456) ![0, 2048 + 256 * q] ![2048, 256] inb) (ix2 k d)
      = m ((c.tc : Thread nD τ).loc main_arg2) (ix2 k ⟨2048 + 256 * q + d.val, by omega⟩) :=
    (View.ld_unit_apply_of _ _ _ _ _ (ix2 k ⟨2048 + 256 * q + d.val, by omega⟩) (by intro k; fin_cases k <;> simp)).trans
      ((ib2 m c t k _).trans (V4 m c k _ (by dsimp only; omega)))
  rw [hw, show (fun k => iblk m c 0 t (ix2 r k)) = _ from funext hx, show (fun k => iblk m c 1 t (ix2 0 k)) = _ from funext hg]

end Cert.RwkvIdeal.RefValue

end
-- ==== Proof.RwkvSc.lean ====
module

public import proofs.«01_k».proof.Proof.RwkvBlk
public import Idealize.ShloMosaic.Lib.Pointwise
public import Idealize.ShloMosaic.Lib.Pipeline.ValueKit

@[expose] public section

set_option maxRecDepth 16384

noncomputable section

namespace Cert.RwkvIdeal.RefValue

open Cert.RwkvIdeal Cert.RwkvIdeal.Gen Idealize.ShloMosaic Idealize.ShloMosaic.TcCoe Cert.Math

/-- A store to other columns leaves this one. -/
theorem skip {R C : ℕ} (o n : ℕ) (inb : ∀ a, (![0, o] : Fin 2 → ℕ) a + (![R, n] : Fin 2 → ℕ) a ≤ (![R, C] : Fin 2 → ℕ) a)
    (w : (Rect.unit (s := ⟨2, ![R, C]⟩) ![0, o] ![R, n] inb).shape.Idx → Elt Ideal .f32) (L : List (View.Piece (Elt Ideal) ⟨2, ![R, C]⟩ .f32))
    (a : Fin R) (j : Fin C) (h : j.val < o ∨ o + n ≤ j.val) :
    View.canon ((⟨Rect.unit (s := ⟨2, ![R, C]⟩) ![0, o] ![R, n] inb, w⟩ : View.Piece (Elt Ideal) ⟨2, ![R, C]⟩ .f32) :: L) (ix2 a j) = View.canon L (ix2 a j) := by
  refine View.canon_cons_of_not_mem _ _ fun hm => ?_
  have h1 : o ≤ j.val ∧ j.val < o + n := (Rect.mem_set_unit (inb := inb)).mp hm 1
  omega

/-- A store to this column is what is read. -/
theorem hit {R C : ℕ} (o n : ℕ) (inb : ∀ a, (![0, o] : Fin 2 → ℕ) a + (![R, n] : Fin 2 → ℕ) a ≤ (![R, C] : Fin 2 → ℕ) a)
    (w : (⟨2, ![R, n]⟩ : Shape).Idx → Elt Ideal .f32) (L : List (View.Piece (Elt Ideal) ⟨2, ![R, C]⟩ .f32))
    (a : Fin R) (j : Fin C) (d : Fin n) (h : j.val = o + d.val) :
    View.canon ((⟨Rect.unit (s := ⟨2, ![R, C]⟩) ![0, o] ![R, n] inb, w⟩ : View.Piece (Elt Ideal) ⟨2, ![R, C]⟩ .f32) :: L) (ix2 a j) = w (ix2 a d) := by
  have he : (Rect.unit (s := ⟨2, ![R, C]⟩) ![0, o] ![R, n] inb).emb (ix2 a d) = ix2 a j := by
    funext b
    fin_cases b <;> refine Fin.ext ((Rect.idx_unit_val _ _ _ _ _).trans ?_)
    · exact Nat.zero_add _
    · exact h.symm
  rw [← he]
  exact View.canon_cons_emb _ _ _ _

/-- The clear of the carried rows, under stores to other columns. -/
theorem cleared (inb : ∀ a, (![0, 0] : Fin 2 → ℕ) a + S8x3456.size a ≤ S8x3456.size a) (a : Fin 8) (j : Fin 3456) :
    View.canon [(⟨Rect.unit (s := S8x3456) ![0, 0] S8x3456.size inb, k0_pay3 (F := Ideal)⟩ : View.Piece (Elt Ideal) S8x3456 .f32)] (ix2 a j) = (0 : EReal) := by
  rw [View.canon_unit_zero (by funext a; fin_cases a <;> rfl) _ _]
  pointwise [k0_pay3]

theorem readCov_ld {sp : Space} {s : Shape} (v : View sig .tc sp s .f32) (L : List (View.Piece (Elt Ideal) s .f32)) (r : Rect s) :
    v.readCov L r.toLoadRect = View.ld (View.canon L) r := View.readCov_eq_canon' v L _

/-- A load of the carried last row at columns `o` on. -/
theorem last_ld (X : Vec Ideal S8x3456 .f32) (o : ℕ) (inb : ∀ a, (![7, o] : Fin 2 → ℕ) a + (![1, 256] : Fin 2 → ℕ) a ≤ S8x3456.size a) (d : Fin 256) (j : Fin 3456) (h : j.val = o + d.val) :
    (View.ld X (Rect.unit (s := S8x3456) ![7, o] ![1, 256] inb) : Vec Ideal S1x256 .f32) (ix2 0 d) = X (ix2 7 j) :=
  View.ld_unit_apply_of _ _ _ _ _ (ix2 7 j) (by intro k; fin_cases k <;> simp [h])

variable (m : (ℓ : Loc nD τ sig) → Buf (Elt Ideal) ℓ)

/-- The projections of the token before token `i`: zeros where a sequence begins. -/
def prevz (c : Dev nD) (i : Fin 32768) (j : Fin 3360) : EReal :=
  if i.val % 16384 = 0 then 0 else zs m c ⟨i.val / 16384, by omega⟩ ⟨i.val % 16384 - 1, by omega⟩ j

/-- A tile of the values: the projections mixed with the token before's, if the row `l` carried in is the token before's. -/
theorem tile (c : Dev nD) (t : Fin cfg0.N) (r : Fin 256) (q : ℕ) (hq : q ≤ 3) (d : Fin 256) (inb inb') (l : Vec Ideal S1x256 .f32) (i : Fin 32768)
    (hi : i.val = 256 * t.val + r.val) (hl : r.val = 0 → l (ix2 0 d) = prevz m c i ⟨2048 + 256 * q + d.val, by omega⟩) :
    k0_pay24 rows (k0_pay4 (iblk m c 0 t) (iblk m c 1 t)) (View.ld (iblk m c 5 t : Vec Ideal S1x1024 .f32) (Rect.unit (s := S1x1024) ![0, 256 * q] ![1, 256] inb'))
        (View.ld (iblk m c 2 t : Vec Ideal S2048x3456 .bf16) (Rect.unit (s := S2048x3456) ![0, 2048 + 256 * q] ![2048, 256] inb)) l (ix2 r d)
      = mixed (zs m c ⟨i.val / 16384, by omega⟩ ⟨i.val % 16384, by omega⟩ ⟨2048 + 256 * q + d.val, by omega⟩) (prevz m c i ⟨2048 + 256 * q + d.val, by omega⟩)
        (m ((c.tc : Thread nD τ).loc main_arg3) (ix1 ⟨2048 + 256 * q + d.val, by omega⟩)) := by
  refine (pay24_apply _ _ _ _ r d).trans ?_
  have hmu : View.ld (iblk m c 5 t : Vec Ideal S1x1024 .f32) (Rect.unit (s := S1x1024) ![0, 256 * q] ![1, 256] inb') (ix2 0 d)
      = m ((c.tc : Thread nD τ).loc main_arg3) (ix1 ⟨2048 + 256 * q + d.val, by omega⟩) :=
    (View.ld_unit_apply_of _ _ _ _ _ (ix2 0 ⟨256 * q + d.val, by omega⟩) (by intro k; fin_cases k <;> simp)).trans
      ((ib5 m c t _).trans ((V18 m c _).trans (by congr 2; exact Fin.ext (by dsimp only; omega))))
  have hz := zblk_apply m c t r q hq d inb ⟨i.val / 16384, by omega⟩ ⟨i.val % 16384, by omega⟩ (by dsimp only; omega)
  unfold hblk at hz
  rw [hz, hmu]
  congr 1
  by_cases hr : r.val = 0
  · rw [if_pos hr, hl hr]
  · have hi' : ¬ i.val % 16384 = 0 := by
      have := r.isLt
      omega
    have hz' := zblk_apply m c t ⟨r.val - 1, by omega⟩ q hq d inb ⟨i.val / 16384, by omega⟩ ⟨i.val % 16384 - 1, by omega⟩ (by dsimp only; omega)
    unfold hblk at hz'
    unfold prevz
    rw [if_neg hr, if_neg hi', hz']

/-- What a point carries to the next: its last token's projections. -/
theorem last (c : Dev nD) (t : Fin cfg0.N) (q : ℕ) (hq : q ≤ 3) (d : Fin 256) (inb) (i : Fin 32768) (hi : i.val = 256 * t.val + 255) :
    k0_pay23 (k0_pay4 (iblk m c 0 t) (iblk m c 1 t)) (View.ld (iblk m c 2 t : Vec Ideal S2048x3456 .bf16) (Rect.unit (s := S2048x3456) ![0, 2048 + 256 * q] ![2048, 256] inb)) (ix2 7 d)
      = zs m c ⟨i.val / 16384, by omega⟩ ⟨i.val % 16384, by omega⟩ ⟨2048 + 256 * q + d.val, by omega⟩ := by
  refine (pay23_apply _ _ d).trans ?_
  have hz := zblk_apply m c t 255 q hq d inb ⟨i.val / 16384, by omega⟩ ⟨i.val % 16384, by omega⟩ (by rw [show ((255 : Fin 256)).val = 255 from rfl]; dsimp only; omega)
  unfold hblk at hz
  exact hz

end Cert.RwkvIdeal.RefValue

end
-- ==== Proof.RwkvVal.lean ====
module

public import proofs.«01_k».proof.Proof.RwkvSc
public import proofs.«01_k».proof.Proof.Gen.RwkvIdeal.Value
public import Idealize.ShloMosaic.Lib.Pointwise
public import Idealize.ShloMosaic.Lib.Pipeline.ValueKit

@[expose] public section

set_option maxRecDepth 200000

noncomputable section

namespace Cert.RwkvIdeal.RefValue

open Cert.RwkvIdeal Cert.RwkvIdeal.Gen Idealize.ShloMosaic Idealize.ShloMosaic.TcCoe Cert.Math

variable (m : (ℓ : Loc nD τ sig) → Buf (Elt Ideal) ℓ)

/-- The values' columns of the rows that a point carries to the next: its last token's projections. -/
theorem carried (c : Dev nD) (t : Fin cfg0.N) (q : ℕ) (hq : q ≤ 3) (d : Fin 256) (i : Fin 32768) (hi : i.val = 256 * t.val + 255) :
    (outsAt0 m c t.val t.isLt).2.2.2 (ix2 7 ⟨2048 + 256 * q + d.val, by omega⟩)
      = zs m c ⟨i.val / 16384, by omega⟩ ⟨i.val % 16384, by omega⟩ ⟨2048 + 256 * q + d.val, by omega⟩ := by
  by_cases ht : t.val % 64 = 0
  · rw [outsAt0_A m c t ht]
    dsimp only
    frame_out
    interval_cases q
    all_goals
      repeat refine (skip _ _ _ _ _ _ _ (by dsimp only; omega)).trans ?_
      refine (hit _ _ _ _ _ _ _ d (by dsimp only)).trans ?_
    · exact last m c t 0 hq d (by decide) i hi
    · exact (congrFun (l1_eq _ _) _).trans (last m c t 1 hq d (by decide) i hi)
    · exact (congrFun (l2_eq _ _) _).trans (last m c t 2 hq d (by decide) i hi)
    · exact (congrFun (l3_eq _ _) _).trans (last m c t 3 hq d (by decide) i hi)
  · rw [outsAt0_B m c t ht]
    dsimp only
    frame_out
    interval_cases q
    all_goals
      repeat refine (skip _ _ _ _ _ _ _ (by dsimp only; omega)).trans ?_
      refine (hit _ _ _ _ _ _ _ d (by dsimp only)).trans ?_
    · exact last m c t 0 hq d (by decide) i hi
    · exact (congrFun (l1_eq _ _) _).trans (last m c t 1 hq d (by decide) i hi)
    · exact (congrFun (l2_eq _ _) _).trans (last m c t 2 hq d (by decide) i hi)
    · exact (congrFun (l3_eq _ _) _).trans (last m c t 3 hq d (by decide) i hi)

/-- The row carried in, at a later point of a sequence: the token before's. -/
theorem carried_prev (c : Dev nD) (t : Fin cfg0.N) (ht : ¬ t.val % 64 = 0) (q : ℕ) (hq : q ≤ 3) (d : Fin 256) (i : Fin 32768) (hi : i.val = 256 * t.val) (hn) :
    (outsAt0 m c (t.val - 1) hn).2.2.2 (ix2 7 ⟨2048 + 256 * q + d.val, by omega⟩) = prevz m c i ⟨2048 + 256 * q + d.val, by omega⟩ := by
  have hi' : ¬ i.val % 16384 = 0 := by omega
  unfold prevz
  rw [if_neg hi', carried m c ⟨t.val - 1, hn⟩ q hq d ⟨i.val - 1, by omega⟩ (by dsimp only; omega)]
  congr 1 <;> exact Fin.ext (by dsimp only; omega)

/-- A load of the rows carried in, at a later point of a sequence. -/
theorem load_B (c : Dev nD) (t : Fin cfg0.N) (ht : ¬ t.val % 64 = 0) (q : ℕ) (hq : q ≤ 3) (d : Fin 256) (i : Fin 32768) (hi : i.val = 256 * t.val) (hn)
    (h : (Memref.whole cc0_scratch1).IsWhole) (inb) :
    View.ld (View.read (Elt Ideal) (View.whole cc0_scratch1) (h.unread (outsAt0 m c (t.val - 1) hn).2.2.2)) (Rect.unit (s := S8x3456) ![7, 2048 + 256 * q] ![1, 256] inb) (ix2 0 d)
      = prevz m c i ⟨2048 + 256 * q + d.val, by omega⟩ :=
  (congrArg (fun K => View.ld K (Rect.unit (s := S8x3456) ![7, 2048 + 256 * q] ![1, 256] inb) (ix2 0 d)) (h.read_unread _)).trans
    ((last_ld _ _ _ d ⟨2048 + 256 * q + d.val, by omega⟩ rfl).trans (carried_prev m c t ht q hq d i hi hn))

/-- The values a point writes. -/
theorem out_row (c : Dev nD) (t : Fin cfg0.N) (r : Fin 256) (q : ℕ) (hq : q ≤ 3) (d : Fin 256) (i : Fin 32768) (hi : i.val = 256 * t.val + r.val) :
    (outsAt0 m c t.val t.isLt).2.1 (ix2 r ⟨256 * q + d.val, by omega⟩)
      = mixed (zs m c ⟨i.val / 16384, by omega⟩ ⟨i.val % 16384, by omega⟩ ⟨2048 + 256 * q + d.val, by omega⟩) (prevz m c i ⟨2048 + 256 * q + d.val, by omega⟩)
        (m ((c.tc : Thread nD τ).loc main_arg3) (ix1 ⟨2048 + 256 * q + d.val, by omega⟩)) := by
  by_cases ht : t.val % 64 = 0
  · have h0 : r.val = 0 → prevz m c i ⟨2048 + 256 * q + d.val, by omega⟩ = 0 := fun hr => if_pos (by omega)
    rw [outsAt0_A m c t ht]
    dsimp only
    frame_out
    interval_cases q
    all_goals
      repeat refine (skip _ _ _ _ _ _ _ (by dsimp only; omega)).trans ?_
      refine (hit _ _ _ _ _ _ _ d (by dsimp only)).trans ?_
    · refine tile m c t r 0 hq d (by decide) (by decide) _ i hi fun hr => ?_
      refine (congrFun (readCov_ld _ _ _) _).trans ((last_ld _ _ _ d ⟨2048 + d.val, by omega⟩ rfl).trans ?_)
      repeat refine (skip _ _ _ _ _ _ _ (by dsimp only; omega)).trans ?_
      exact (cleared _ _ _).trans (h0 hr).symm
    · refine (congrFun (v1_eq _ _ _ _) _).trans (tile m c t r 1 hq d (by decide) (by decide) _ i hi fun hr => ?_)
      refine (congrFun (readCov_ld _ _ _) _).trans ((last_ld _ _ _ d ⟨2304 + d.val, by omega⟩ rfl).trans ?_)
      repeat refine (skip _ _ _ _ _ _ _ (by dsimp only; omega)).trans ?_
      exact (cleared _ _ _).trans (h0 hr).symm
    · refine (congrFun (v2_eq _ _ _ _) _).trans (tile m c t r 2 hq d (by decide) (by decide) _ i hi fun hr => ?_)
      refine (congrFun (readCov_ld _ _ _) _).trans ((last_ld _ _ _ d ⟨2560 + d.val, by omega⟩ rfl).trans ?_)
      repeat refine (skip _ _ _ _ _ _ _ (by dsimp only; omega)).trans ?_
      exact (cleared _ _ _).trans (h0 hr).symm
    · refine (congrFun (v3_eq _ _ _ _) _).trans (tile m c t r 3 hq d (by decide) (by decide) _ i hi fun hr => ?_)
      refine (congrFun (readCov_ld _ _ _) _).trans ((last_ld _ _ _ d ⟨2816 + d.val, by omega⟩ rfl).trans ?_)
      repeat refine (skip _ _ _ _ _ _ _ (by dsimp only; omega)).trans ?_
      exact (cleared _ _ _).trans (h0 hr).symm
  · have hl := fun (hr : r.val = 0) => load_B m c t ht q hq d i (by omega)
    rw [outsAt0_B m c t ht]
    dsimp only
    frame_out
    interval_cases q
    all_goals
      repeat refine (skip _ _ _ _ _ _ _ (by dsimp only; omega)).trans ?_
      refine (hit _ _ _ _ _ _ _ d (by dsimp only)).trans ?_
    · exact tile m c t r 0 hq d (by decide) (by decide) _ i hi fun hr => hl hr _ _ _
    · exact (congrFun (v1_eq _ _ _ _) _).trans (tile m c t r 1 hq d (by decide) (by decide) _ i hi fun hr => hl hr _ _ _)
    · exact (congrFun (v2_eq _ _ _ _) _).trans (tile m c t r 2 hq d (by decide) (by decide) _ i hi fun hr => hl hr _ _ _)
    · exact (congrFun (v3_eq _ _ _ _) _).trans (tile m c t r 3 hq d (by decide) (by decide) _ i hi fun hr => hl hr _ _ _)

/-- The call's second result at an index. -/
theorem arr_apply (c : Dev nD) (i : Fin 32768) (d : Fin 1024) :
    (dats m 0 c).arrAt 18 cfg0.N (ix2 i d)
      = mixed (zs m c ⟨i.val / 16384, by omega⟩ ⟨i.val % 16384, by omega⟩ ⟨2048 + d.val, by omega⟩)
        (if i.val % 16384 = 0 then 0 else zs m c ⟨i.val / 16384, by omega⟩ ⟨i.val % 16384 - 1, by omega⟩ ⟨2048 + d.val, by omega⟩)
        (m ((c.tc : Thread nD τ).loc main_arg3) (ix1 ⟨2048 + d.val, by omega⟩)) := by
  have hlt : i.val / 256 < cfg0.N := by
    change _ < grid0.N
    rw [N_0]; omega
  obtain ⟨t, ht⟩ : ∃ t : Fin cfg0.N, t.val = i.val / 256 := ⟨⟨_, hlt⟩, rfl⟩
  have hrd : ∀ A : Vec Ideal S32768x1024 .f32, ((cfg0.win 18).blk t).view.read (Elt Ideal) A (ix2 (⟨i.val % 256, by omega⟩ : Fin 256) d) = A (ix2 i d) := fun A => by
    blk_ext [idx t]
  refine (hrd _).symm.trans ((congrFun (Value.blocks18 m c t (flush0_18 t)) _).trans ?_)
  rw [Value.flushed18]
  have hd : d = ⟨256 * (d.val / 256) + d.val % 256, by omega⟩ := Fin.ext (by dsimp only; omega)
  have h := out_row m c t ⟨i.val % 256, by omega⟩ (d.val / 256) (by omega) ⟨d.val % 256, by omega⟩ i (by dsimp only; omega)
  have hj : ∀ hh, (⟨2048 + 256 * (d.val / 256) + d.val % 256, hh⟩ : Fin 3360) = ⟨2048 + d.val, by omega⟩ := fun _ => Fin.ext (by dsimp only; omega)
  dsimp only at h
  rw [← hd, hj] at h
  exact h

end Cert.RwkvIdeal.RefValue

end
-- ==== Proof.RwkvClaim.lean ====
module

public import proofs.«01_k».proof.Defs
public import proofs.«01_k».proof.Proof.RwkvRef
public import proofs.«01_k».proof.Proof.Gen.RefRwkvIdeal.Run
public import proofs.«01_k».proof.Proof.RwkvVal

@[expose] public section

noncomputable section

namespace Cert.Proof.RwkvClaims

open Idealize.ShloMosaic Idealize.SL.Sem Cert.Math

/-- Kernel and reference end with the same values: the projections mixed with the token before's. -/
theorem result_eq (m : (ℓ : Loc Cert.RwkvIdeal.nD Cert.RwkvIdeal.τ Cert.RwkvIdeal.sig) → Buf (Elt Ideal) ℓ)
    (m' : (ℓ : Loc Cert.RefRwkvIdeal.nD Cert.RefRwkvIdeal.τ Cert.RefRwkvIdeal.sig) → Buf (Elt Ideal) ℓ) (c : Dev Cert.RwkvIdeal.nD)
    (h0 : m' ((c.tc : Thread Cert.RefRwkvIdeal.nD Cert.RefRwkvIdeal.τ).loc Cert.RefRwkvIdeal.main_arg0) = m ((c.tc : Thread Cert.RwkvIdeal.nD Cert.RwkvIdeal.τ).loc Cert.RwkvIdeal.main_arg0))
    (h1 : m' ((c.tc : Thread Cert.RefRwkvIdeal.nD Cert.RefRwkvIdeal.τ).loc Cert.RefRwkvIdeal.main_arg1) = m ((c.tc : Thread Cert.RwkvIdeal.nD Cert.RwkvIdeal.τ).loc Cert.RwkvIdeal.main_arg1))
    (h2 : m' ((c.tc : Thread Cert.RefRwkvIdeal.nD Cert.RefRwkvIdeal.τ).loc Cert.RefRwkvIdeal.main_arg2) = m ((c.tc : Thread Cert.RwkvIdeal.nD Cert.RwkvIdeal.τ).loc Cert.RwkvIdeal.main_arg2))
    (h3 : m' ((c.tc : Thread Cert.RefRwkvIdeal.nD Cert.RefRwkvIdeal.τ).loc Cert.RefRwkvIdeal.main_arg3) = m ((c.tc : Thread Cert.RwkvIdeal.nD Cert.RwkvIdeal.τ).loc Cert.RwkvIdeal.main_arg3)) :
    Cert.RefRwkvIdeal.RefValue.res m' c = (Cert.RwkvIdeal.Gen.dats m 0 c).arrAt 18 Cert.RwkvIdeal.cfg0.N := by
  funext y
  obtain ⟨i, d, rfl⟩ : ∃ (i : Fin 32768) (d : Fin 1024), y = ix2 i d := ⟨y 0, y 1, eq_ix2 y⟩
  refine (Cert.RefRwkvIdeal.RefValue.out_apply m' c i d).trans ((Cert.RwkvIdeal.RefValue.arr_apply m c i d).trans ?_).symm
  unfold Cert.RefRwkvIdeal.RefValue.zs Cert.RwkvIdeal.RefValue.zs
  rw [h0, h1, h2, h3]

theorem frame_ref : Cert.quiescent_RefRwkvIdeal := fun m ρ _ =>
  (θ_run Cert.RefRwkvIdeal.defs _ _).mono (fun r h => ⟨fun c => (h c).2, Idealize.ShloMosaic.sem_eq_zero_of_no_sems (by decide) r.2⟩)
    (Cert.RefRwkvIdeal.Value.run (F := Ideal) m ρ)

/-- The RWKV-7 call's values and the reference's are equal over the extended reals. -/
theorem algebraic : Cert.algebraic_RwkvIdeal_RefRwkvIdeal := by
  intro m ρ m' ρ' _ hagree
  refine ⟨fun c => (Cert.RwkvIdeal.Gen.dats m 0 c).arrAt 18 Cert.RwkvIdeal.cfg0.N,
    (θ_run Cert.RwkvIdeal.defs _ _).mono (fun _ h c => (h c).2) (Cert.RwkvIdeal.Value.run_blocks (F := Ideal) m ρ), ?_⟩
  refine (θ_run Cert.RefRwkvIdeal.defs _ _).mono (fun _ h c => ?_) (Cert.RefRwkvIdeal.Value.run (F := Ideal) m' ρ')
  obtain ⟨h0, h1, h2, h3, _⟩ := hagree c
  exact ⟨((h c).1.trans (by rfl : _ = Cert.RefRwkvIdeal.RefValue.res m' c)).trans (result_eq m m' c h0 h1 h2 h3), (h c).2⟩

end Cert.Proof.RwkvClaims
-- ==== Proof.lean ====
/- The proof of the certificate's claims: each program's frame, the idealised kernels' relation to the kernels, and
   the value claims proved in the modules imported here. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.RefFfnIdeal
public import proofs.«01_k».proof.Proof.Gen.FfnIdeal.Value
public import proofs.«01_k».proof.Proof.Gen.RefFfnIdeal.Run
public import proofs.«01_k».proof.Proof.Gen.FfnNext
public import proofs.«01_k».proof.Proof.Gen.FfnNext.Skeleton
public import proofs.«01_k».proof.Proof.Gen.FfnNext.Launch
public import proofs.«01_k».proof.Proof.Gen.FfnNext.Points
public import proofs.«01_k».proof.Proof.Gen.FfnNext.Frame
public import proofs.«01_k».proof.Proof.Gen.FfnNextIdeal
public import proofs.«01_k».proof.Proof.Gen.FfnNextIdeal.Skeleton
public import proofs.«01_k».proof.Proof.Gen.FfnNextIdeal.Launch
public import proofs.«01_k».proof.Proof.Gen.FfnNextIdeal.Points
public import proofs.«01_k».proof.Proof.Gen.FfnNextIdeal.Frame
public import proofs.«01_k».proof.Proof.Gen.RefFfnNextIdeal
public import proofs.«01_k».proof.Proof.Gen.FfnNextIdeal.Value
public import proofs.«01_k».proof.Proof.Gen.RefFfnNextIdeal.Run
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.RefGmlpIdeal
public import proofs.«01_k».proof.Proof.Gen.GmlpIdeal.Value
public import proofs.«01_k».proof.Proof.Gen.RefGmlpIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.RefAttnIdeal
public import proofs.«01_k».proof.Proof.Gen.Pre_finite_inputs
public import proofs.«01_k».proof.Proof.Gen.AttnIdeal.Value
public import proofs.«01_k».proof.Proof.Gen.RefAttnIdeal.Run
public import proofs.«01_k».proof.Proof.Gen.Rwkv
public import proofs.«01_k».proof.Proof.Gen.Rwkv.Skeleton
public import proofs.«01_k».proof.Proof.Gen.Rwkv.Launch
public import proofs.«01_k».proof.Proof.Gen.Rwkv.Points
public import proofs.«01_k».proof.Proof.Gen.Rwkv.Frame
public import proofs.«01_k».proof.Proof.Gen.RwkvIdeal
public import proofs.«01_k».proof.Proof.Gen.RwkvIdeal.Skeleton
public import proofs.«01_k».proof.Proof.Gen.RwkvIdeal.Launch
public import proofs.«01_k».proof.Proof.Gen.RwkvIdeal.Points
public import proofs.«01_k».proof.Proof.Gen.RwkvIdeal.Frame
public import proofs.«01_k».proof.Proof.Gen.RefRwkvIdeal
public import proofs.«01_k».proof.Proof.Gen.RwkvIdeal.Value
public import proofs.«01_k».proof.Proof.Gen.RefRwkvIdeal.Run
public import proofs.«01_k».proof.Proof.FfnClaim
public import proofs.«01_k».proof.Proof.FfnNextClaim
public import proofs.«01_k».proof.Proof.GmlpClaim
public import proofs.«01_k».proof.Proof.AttnClaim
public import proofs.«01_k».proof.Proof.RwkvClaim
public import Idealize.ShloMosaic.Adequacy
public import Idealize.ShloMosaic.Init

@[expose] public section

noncomputable section

namespace Cert.Proof

open Idealize.ShloMosaic Idealize.SL.Sem

theorem claim : Cert.Claim := ⟨Cert.Gmlp.Gen.facts, Cert.GmlpIdeal.Gen.facts, Cert.RefGmlpIdeal.Gen.facts,
  Cert.Ffn.Gen.facts, Cert.FfnIdeal.Gen.facts, Cert.RefFfnIdeal.Gen.facts,
  Cert.FfnNext.Gen.facts, Cert.FfnNextIdeal.Gen.facts, Cert.RefFfnNextIdeal.Gen.facts,
  Cert.Attn.Gen.facts, Cert.AttnIdeal.Gen.facts, Cert.RefAttnIdeal.Gen.facts,
  Cert.Rwkv.Gen.facts, Cert.RwkvIdeal.Gen.facts, Cert.RefRwkvIdeal.Gen.facts, Cert.Pre_finite_inputs.Gen.facts,
  fun m ρ _ => Cert.Gmlp.Gen.frame m ρ, fun m ρ _ => Cert.GmlpIdeal.Gen.frame m ρ, GmlpClaims.frame_ref,
  fun m ρ _ => Cert.Ffn.Gen.frame m ρ, fun m ρ _ => Cert.FfnIdeal.Gen.frame m ρ, FfnClaims.frame_ref,
  fun m ρ _ => Cert.FfnNext.Gen.frame m ρ, fun m ρ _ => Cert.FfnNextIdeal.Gen.frame m ρ, FfnNextClaims.frame_ref,
  fun m ρ _ => Cert.Attn.Gen.frame m ρ, fun m ρ _ => Cert.AttnIdeal.Gen.frame m ρ, fun m ρ _ => Cert.AttnIdeal.Gen.frame m ρ,
  AttnClaims.frame_ref, fun m ρ _ => AttnClaims.frame_ref m ρ trivial,
  fun m ρ _ => Cert.Rwkv.Gen.frame m ρ, fun m ρ _ => Cert.RwkvIdeal.Gen.frame m ρ, RwkvClaims.frame_ref,
  trivial, GmlpClaims.algebraic,
  trivial, FfnClaims.algebraic,
  trivial, FfnNextClaims.algebraic,
  AttnClaims.preserves, AttnClaims.algebraic,
  trivial, RwkvClaims.algebraic⟩

end Cert.Proof

end
